-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_em1" .f32 0x3C820821#32 ((63⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x4096 : Shape := ⟨3, ![4, 2048, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4x2048x4096 .f32) (main_arg1 : FVec F S4096x64 .f32) (main_arg2 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4x2048x4096 : Shape := ⟨3, ![4, 2048, 4096]⟩
abbrev S4096x64 : Shape := ⟨2, ![4096, 64]⟩
abbrev S8192x4096 : Shape := ⟨2, ![8192, 4096]⟩
abbrev S4096x128 : Shape := ⟨2, ![4096, 128]⟩
abbrev S8192x64 : Shape := ⟨2, ![8192, 64]⟩
abbrev S512x4096 : Shape := ⟨2, ![512, 4096]⟩
abbrev S512x64 : Shape := ⟨2, ![512, 64]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S8192x1 : Shape := ⟨2, ![8192, 1]⟩
abbrev S256x64 : Shape := ⟨2, ![256, 64]⟩
abbrev S256x1 : Shape := ⟨2, ![256, 1]⟩
abbrev S_ : Shape := ⟨0, ![]⟩
abbrev S16 : Shape := ⟨1, ![16]⟩
abbrev S1x16 : Shape := ⟨2, ![1, 16]⟩
abbrev S15 : Shape := ⟨1, ![15]⟩
abbrev S1 : Shape := ⟨1, ![1]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S4x2048x64 : Shape := ⟨3, ![4, 2048, 64]⟩
abbrev S4x2048x1 : Shape := ⟨3, ![4, 2048, 1]⟩

abbrev nBuf : Table → Nat
  | .hbm => 12
  | .local .tc .vmem => 5
  | .local .scVector .vmem => 4
  | _ => 0

abbrev bufTy : (tb : Table) → Fin (nBuf tb) → BufTy
  | .hbm, ⟨0, _⟩ => ⟨S4x2048x4096, .f32⟩
  | .hbm, ⟨1, _⟩ => ⟨S4096x64, .f32⟩
  | .hbm, ⟨2, _⟩ => ⟨S4096x64, .f32⟩
  | .hbm, ⟨3, _⟩ => ⟨S8192x4096, .f32⟩
  | .hbm, ⟨4, _⟩ => ⟨S4096x128, .f32⟩
  | .hbm, ⟨5, _⟩ => ⟨S8192x64, .f32⟩
  | .hbm, ⟨6, _⟩ => ⟨S8192x64, .f32⟩
  | .hbm, ⟨7, _⟩ => ⟨S8192x1, .f32⟩
  | .hbm, ⟨8, _⟩ => ⟨S8192x64, .f32⟩
  | .hbm, ⟨9, _⟩ => ⟨S4x2048x64, .f32⟩
  | .hbm, ⟨10, _⟩ => ⟨S4x2048x1, .f32⟩
  | .hbm, ⟨11, _⟩ => ⟨S4x2048x64, .f32⟩
  | .local .tc .vmem, ⟨0, _⟩ => ⟨S512x4096, .f32⟩
  | .local .tc .vmem, ⟨1, _⟩ => ⟨S512x4096, .f32⟩
  | .local .tc .vmem, ⟨2, _⟩ => ⟨S4096x128, .f32⟩
  | .local .tc .vmem, ⟨3, _⟩ => ⟨S512x64, .f32⟩
  | .local .tc .vmem, ⟨4, _⟩ => ⟨S512x64, .f32⟩
  | .local .scVector .vmem, ⟨0, _⟩ => ⟨S256x64, .f32⟩
  | .local .scVector .vmem, ⟨1, _⟩ => ⟨S256x64, .f32⟩
  | .local .scVector .vmem, ⟨2, _⟩ => ⟨S256x64, .f32⟩
  | .local .scVector .vmem, ⟨3, _⟩ => ⟨S256x1, .f32⟩
  | _, _ => ⟨S4x2048x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev main_v3_2_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5_r0 : BitVec 32 := 0#32
  ![v2.toNat, 0]
@[reducible] def k1_t1_loop : Scf.Loop 32 :=
  let c0_i32_2 : BitVec 32 := 0#32
  let c64_i32 : BitVec 32 := 64#32
  let v11 : BitVec 32 := Scalar.addi c0_i32_2 c64_i32
  let c1_i32_3 : BitVec 32 := 1#32
  ⟨c0_i32_2, v11, c1_i32_3⟩
def k1_off2 (k1_t1 : Fin k1_t1_loop.trips) (c0_i32_5 : BitVec 32) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let v13 : BitVec 32 := Scalar.addi v12 c0_i32_5
  let v14 : Index := Scalar.indexCast v13
  let c0 : Index := 0#32
  ![v14.toNat, 0]
def k1_off3 (k1_t1 : Fin k1_t1_loop.trips) (c0_i32_5 : BitVec 32) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let v13 : BitVec 32 := Scalar.addi v12 c0_i32_5
  let v16 : Index := Scalar.indexCast v13
  let c16 : Index := 16#32
  ![v16.toNat, 16]
def k1_off4 (k1_t1 : Fin k1_t1_loop.trips) (c0_i32_5 : BitVec 32) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let v13 : BitVec 32 := Scalar.addi v12 c0_i32_5
  let v18 : Index := Scalar.indexCast v13
  let c32 : Index := 32#32
  ![v18.toNat, 32]
def k1_off5 (k1_t1 : Fin k1_t1_loop.trips) (c0_i32_5 : BitVec 32) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let v13 : BitVec 32 := Scalar.addi v12 c0_i32_5
  let v20 : Index := Scalar.indexCast v13
  let c48 : Index := 48#32
  ![v20.toNat, 48]
@[reducible] def k1_t2_loop : Scf.Loop 32 :=
  let c0_i32_7 : BitVec 32 := 0#32
  let c16_i32 : BitVec 32 := 16#32
  let v24 : BitVec 32 := Scalar.addi c0_i32_7 c16_i32
  let c1_i32_8 : BitVec 32 := 1#32
  ⟨c0_i32_7, v24, c1_i32_8⟩
@[reducible] def k1_t3_loop : Scf.Loop 32 :=
  let c0_i32_10 : BitVec 32 := 0#32
  let c16_i32_11 : BitVec 32 := 16#32
  let v26 : BitVec 32 := Scalar.addi c0_i32_10 c16_i32_11
  let c1_i32_12 : BitVec 32 := 1#32
  ⟨c0_i32_10, v26, c1_i32_12⟩
@[reducible] def k1_t4_loop : Scf.Loop 32 :=
  let c0_i32_16 : BitVec 32 := 0#32
  let c16_i32_17 : BitVec 32 := 16#32
  let v32 : BitVec 32 := Scalar.addi c0_i32_16 c16_i32_17
  let c1_i32_18 : BitVec 32 := 1#32
  ⟨c0_i32_16, v32, c1_i32_18⟩
@[reducible] def k1_t5_loop : Scf.Loop 32 :=
  let c0_i32_20 : BitVec 32 := 0#32
  let c16_i32_21 : BitVec 32 := 16#32
  let v36 : BitVec 32 := Scalar.addi c0_i32_20 c16_i32_21
  let c1_i32_22 : BitVec 32 := 1#32
  ⟨c0_i32_20, v36, c1_i32_22⟩
@[reducible] def k1_t6_loop : Scf.Loop 32 :=
  let c0_i32_25 : BitVec 32 := 0#32
  let c16_i32_26 : BitVec 32 := 16#32
  let v42 : BitVec 32 := Scalar.addi c0_i32_25 c16_i32_26
  let c1_i32_27 : BitVec 32 := 1#32
  ⟨c0_i32_25, v42, c1_i32_27⟩
@[reducible] def k1_t7_loop : Scf.Loop 32 :=
  let c0_i32_29 : BitVec 32 := 0#32
  let c16_i32_30 : BitVec 32 := 16#32
  let v44 : BitVec 32 := Scalar.addi c0_i32_29 c16_i32_30
  let c1_i32_31 : BitVec 32 := 1#32
  ⟨c0_i32_29, v44, c1_i32_31⟩
@[reducible] def k1_t8_loop : Scf.Loop 32 :=
  let c0_i32_34 : BitVec 32 := 0#32
  let c16_i32_35 : BitVec 32 := 16#32
  let v50 : BitVec 32 := Scalar.addi c0_i32_34 c16_i32_35
  let c1_i32_36 : BitVec 32 := 1#32
  ⟨c0_i32_34, v50, c1_i32_36⟩
@[reducible] def k1_t9_loop : Scf.Loop 32 :=
  let c0_i32_39 : BitVec 32 := 0#32
  let c16_i32_40 : BitVec 32 := 16#32
  let v54 : BitVec 32 := Scalar.addi c0_i32_39 c16_i32_40
  let c1_i32_41 : BitVec 32 := 1#32
  ⟨c0_i32_39, v54, c1_i32_41⟩
@[reducible] def k1_t10_loop : Scf.Loop 32 :=
  let c0_i32_44 : BitVec 32 := 0#32
  let c16_i32_45 : BitVec 32 := 16#32
  let v62 : BitVec 32 := Scalar.addi c0_i32_44 c16_i32_45
  let c1_i32_46 : BitVec 32 := 1#32
  ⟨c0_i32_44, v62, c1_i32_46⟩
@[reducible] def k1_t11_loop : Scf.Loop 32 :=
  let c0_i32_48 : BitVec 32 := 0#32
  let c16_i32_49 : BitVec 32 := 16#32
  let v64 : BitVec 32 := Scalar.addi c0_i32_48 c16_i32_49
  let c1_i32_50 : BitVec 32 := 1#32
  ⟨c0_i32_48, v64, c1_i32_50⟩
@[reducible] def k1_t12_loop : Scf.Loop 32 :=
  let c0_i32_53 : BitVec 32 := 0#32
  let c16_i32_54 : BitVec 32 := 16#32
  let v68 : BitVec 32 := Scalar.addi c0_i32_53 c16_i32_54
  let c1_i32_55 : BitVec 32 := 1#32
  ⟨c0_i32_53, v68, c1_i32_55⟩
@[reducible] def k1_t13_loop : Scf.Loop 32 :=
  let c0_i32_58 : BitVec 32 := 0#32
  let c16_i32_59 : BitVec 32 := 16#32
  let v72 : BitVec 32 := Scalar.addi c0_i32_58 c16_i32_59
  let c1_i32_60 : BitVec 32 := 1#32
  ⟨c0_i32_58, v72, c1_i32_60⟩
@[reducible] def k1_t14_loop : Scf.Loop 32 :=
  let c0_i32_63 : BitVec 32 := 0#32
  let c16_i32_64 : BitVec 32 := 16#32
  let v78 : BitVec 32 := Scalar.addi c0_i32_63 c16_i32_64
  let c1_i32_65 : BitVec 32 := 1#32
  ⟨c0_i32_63, v78, c1_i32_65⟩
@[reducible] def k1_t15_loop : Scf.Loop 32 :=
  let c0_i32_67 : BitVec 32 := 0#32
  let c16_i32_68 : BitVec 32 := 16#32
  let v80 : BitVec 32 := Scalar.addi c0_i32_67 c16_i32_68
  let c1_i32_69 : BitVec 32 := 1#32
  ⟨c0_i32_67, v80, c1_i32_69⟩
@[reducible] def k1_t16_loop : Scf.Loop 32 :=
  let c0_i32_79 : BitVec 32 := 0#32
  let c16_i32_80 : BitVec 32 := 16#32
  let v157 : BitVec 32 := Scalar.addi c0_i32_79 c16_i32_80
  let c1_i32_81 : BitVec 32 := 1#32
  ⟨c0_i32_79, v157, c1_i32_81⟩
@[reducible] def k1_t17_loop : Scf.Loop 32 :=
  let c0_i32_83 : BitVec 32 := 0#32
  let c16_i32_84 : BitVec 32 := 16#32
  let v159 : BitVec 32 := Scalar.addi c0_i32_83 c16_i32_84
  let c1_i32_85 : BitVec 32 := 1#32
  ⟨c0_i32_83, v159, c1_i32_85⟩
@[reducible] def k1_t18_loop : Scf.Loop 32 :=
  let c0_i32_89 : BitVec 32 := 0#32
  let c16_i32_90 : BitVec 32 := 16#32
  let v165 : BitVec 32 := Scalar.addi c0_i32_89 c16_i32_90
  let c1_i32_91 : BitVec 32 := 1#32
  ⟨c0_i32_89, v165, c1_i32_91⟩
@[reducible] def k1_t19_loop : Scf.Loop 32 :=
  let c0_i32_94 : BitVec 32 := 0#32
  let c16_i32_95 : BitVec 32 := 16#32
  let v169 : BitVec 32 := Scalar.addi c0_i32_94 c16_i32_95
  let c1_i32_96 : BitVec 32 := 1#32
  ⟨c0_i32_94, v169, c1_i32_96⟩
@[reducible] def k1_t20_loop : Scf.Loop 32 :=
  let c0_i32_100 : BitVec 32 := 0#32
  let c16_i32_101 : BitVec 32 := 16#32
  let v175 : BitVec 32 := Scalar.addi c0_i32_100 c16_i32_101
  let c1_i32_102 : BitVec 32 := 1#32
  ⟨c0_i32_100, v175, c1_i32_102⟩
@[reducible] def k1_t21_loop : Scf.Loop 32 :=
  let c0_i32_104 : BitVec 32 := 0#32
  let c16_i32_105 : BitVec 32 := 16#32
  let v177 : BitVec 32 := Scalar.addi c0_i32_104 c16_i32_105
  let c1_i32_106 : BitVec 32 := 1#32
  ⟨c0_i32_104, v177, c1_i32_106⟩
@[reducible] def k1_t22_loop : Scf.Loop 32 :=
  let c0_i32_110 : BitVec 32 := 0#32
  let c16_i32_111 : BitVec 32 := 16#32
  let v183 : BitVec 32 := Scalar.addi c0_i32_110 c16_i32_111
  let c1_i32_112 : BitVec 32 := 1#32
  ⟨c0_i32_110, v183, c1_i32_112⟩
@[reducible] def k1_t23_loop : Scf.Loop 32 :=
  let c0_i32_115 : BitVec 32 := 0#32
  let c16_i32_116 : BitVec 32 := 16#32
  let v187 : BitVec 32 := Scalar.addi c0_i32_115 c16_i32_116
  let c1_i32_117 : BitVec 32 := 1#32
  ⟨c0_i32_115, v187, c1_i32_117⟩
@[reducible] def k1_t24_loop : Scf.Loop 32 :=
  let c0_i32_120 : BitVec 32 := 0#32
  let c16_i32_121 : BitVec 32 := 16#32
  let v195 : BitVec 32 := Scalar.addi c0_i32_120 c16_i32_121
  let c1_i32_122 : BitVec 32 := 1#32
  ⟨c0_i32_120, v195, c1_i32_122⟩
@[reducible] def k1_t25_loop : Scf.Loop 32 :=
  let c0_i32_124 : BitVec 32 := 0#32
  let c16_i32_125 : BitVec 32 := 16#32
  let v197 : BitVec 32 := Scalar.addi c0_i32_124 c16_i32_125
  let c1_i32_126 : BitVec 32 := 1#32
  ⟨c0_i32_124, v197, c1_i32_126⟩
@[reducible] def k1_t26_loop : Scf.Loop 32 :=
  let c0_i32_129 : BitVec 32 := 0#32
  let c16_i32_130 : BitVec 32 := 16#32
  let v201 : BitVec 32 := Scalar.addi c0_i32_129 c16_i32_130
  let c1_i32_131 : BitVec 32 := 1#32
  ⟨c0_i32_129, v201, c1_i32_131⟩
@[reducible] def k1_t27_loop : Scf.Loop 32 :=
  let c0_i32_134 : BitVec 32 := 0#32
  let c16_i32_135 : BitVec 32 := 16#32
  let v205 : BitVec 32 := Scalar.addi c0_i32_134 c16_i32_135
  let c1_i32_136 : BitVec 32 := 1#32
  ⟨c0_i32_134, v205, c1_i32_136⟩
@[reducible] def k1_t28_loop : Scf.Loop 32 :=
  let c0_i32_139 : BitVec 32 := 0#32
  let c16_i32_140 : BitVec 32 := 16#32
  let v211 : BitVec 32 := Scalar.addi c0_i32_139 c16_i32_140
  let c1_i32_141 : BitVec 32 := 1#32
  ⟨c0_i32_139, v211, c1_i32_141⟩
@[reducible] def k1_t29_loop : Scf.Loop 32 :=
  let c0_i32_143 : BitVec 32 := 0#32
  let c16_i32_144 : BitVec 32 := 16#32
  let v213 : BitVec 32 := Scalar.addi c0_i32_143 c16_i32_144
  let c1_i32_145 : BitVec 32 := 1#32
  ⟨c0_i32_143, v213, c1_i32_145⟩
@[reducible] def k1_t30_loop : Scf.Loop 32 :=
  let c0_i32_155 : BitVec 32 := 0#32
  let c16_i32_156 : BitVec 32 := 16#32
  let v290 : BitVec 32 := Scalar.addi c0_i32_155 c16_i32_156
  let c1_i32_157 : BitVec 32 := 1#32
  ⟨c0_i32_155, v290, c1_i32_157⟩
@[reducible] def k1_t31_loop : Scf.Loop 32 :=
  let c0_i32_159 : BitVec 32 := 0#32
  let c16_i32_160 : BitVec 32 := 16#32
  let v292 : BitVec 32 := Scalar.addi c0_i32_159 c16_i32_160
  let c1_i32_161 : BitVec 32 := 1#32
  ⟨c0_i32_159, v292, c1_i32_161⟩
@[reducible] def k1_t32_loop : Scf.Loop 32 :=
  let c0_i32_165 : BitVec 32 := 0#32
  let c16_i32_166 : BitVec 32 := 16#32
  let v298 : BitVec 32 := Scalar.addi c0_i32_165 c16_i32_166
  let c1_i32_167 : BitVec 32 := 1#32
  ⟨c0_i32_165, v298, c1_i32_167⟩
@[reducible] def k1_t33_loop : Scf.Loop 32 :=
  let c0_i32_170 : BitVec 32 := 0#32
  let c16_i32_171 : BitVec 32 := 16#32
  let v302 : BitVec 32 := Scalar.addi c0_i32_170 c16_i32_171
  let c1_i32_172 : BitVec 32 := 1#32
  ⟨c0_i32_170, v302, c1_i32_172⟩
@[reducible] def k1_t34_loop : Scf.Loop 32 :=
  let c0_i32_176 : BitVec 32 := 0#32
  let c16_i32_177 : BitVec 32 := 16#32
  let v308 : BitVec 32 := Scalar.addi c0_i32_176 c16_i32_177
  let c1_i32_178 : BitVec 32 := 1#32
  ⟨c0_i32_176, v308, c1_i32_178⟩
@[reducible] def k1_t35_loop : Scf.Loop 32 :=
  let c0_i32_180 : BitVec 32 := 0#32
  let c16_i32_181 : BitVec 32 := 16#32
  let v310 : BitVec 32 := Scalar.addi c0_i32_180 c16_i32_181
  let c1_i32_182 : BitVec 32 := 1#32
  ⟨c0_i32_180, v310, c1_i32_182⟩
@[reducible] def k1_t36_loop : Scf.Loop 32 :=
  let c0_i32_186 : BitVec 32 := 0#32
  let c16_i32_187 : BitVec 32 := 16#32
  let v316 : BitVec 32 := Scalar.addi c0_i32_186 c16_i32_187
  let c1_i32_188 : BitVec 32 := 1#32
  ⟨c0_i32_186, v316, c1_i32_188⟩
@[reducible] def k1_t37_loop : Scf.Loop 32 :=
  let c0_i32_191 : BitVec 32 := 0#32
  let c16_i32_192 : BitVec 32 := 16#32
  let v320 : BitVec 32 := Scalar.addi c0_i32_191 c16_i32_192
  let c1_i32_193 : BitVec 32 := 1#32
  ⟨c0_i32_191, v320, c1_i32_193⟩
@[reducible] def k1_t38_loop : Scf.Loop 32 :=
  let c0_i32_196 : BitVec 32 := 0#32
  let c16_i32_197 : BitVec 32 := 16#32
  let v328 : BitVec 32 := Scalar.addi c0_i32_196 c16_i32_197
  let c1_i32_198 : BitVec 32 := 1#32
  ⟨c0_i32_196, v328, c1_i32_198⟩
@[reducible] def k1_t39_loop : Scf.Loop 32 :=
  let c0_i32_200 : BitVec 32 := 0#32
  let c16_i32_201 : BitVec 32 := 16#32
  let v330 : BitVec 32 := Scalar.addi c0_i32_200 c16_i32_201
  let c1_i32_202 : BitVec 32 := 1#32
  ⟨c0_i32_200, v330, c1_i32_202⟩
@[reducible] def k1_t40_loop : Scf.Loop 32 :=
  let c0_i32_205 : BitVec 32 := 0#32
  let c16_i32_206 : BitVec 32 := 16#32
  let v334 : BitVec 32 := Scalar.addi c0_i32_205 c16_i32_206
  let c1_i32_207 : BitVec 32 := 1#32
  ⟨c0_i32_205, v334, c1_i32_207⟩
@[reducible] def k1_t41_loop : Scf.Loop 32 :=
  let c0_i32_210 : BitVec 32 := 0#32
  let c16_i32_211 : BitVec 32 := 16#32
  let v338 : BitVec 32 := Scalar.addi c0_i32_210 c16_i32_211
  let c1_i32_212 : BitVec 32 := 1#32
  ⟨c0_i32_210, v338, c1_i32_212⟩
@[reducible] def k1_t42_loop : Scf.Loop 32 :=
  let c0_i32_215 : BitVec 32 := 0#32
  let c16_i32_216 : BitVec 32 := 16#32
  let v344 : BitVec 32 := Scalar.addi c0_i32_215 c16_i32_216
  let c1_i32_217 : BitVec 32 := 1#32
  ⟨c0_i32_215, v344, c1_i32_217⟩
@[reducible] def k1_t43_loop : Scf.Loop 32 :=
  let c0_i32_219 : BitVec 32 := 0#32
  let c16_i32_220 : BitVec 32 := 16#32
  let v346 : BitVec 32 := Scalar.addi c0_i32_219 c16_i32_220
  let c1_i32_221 : BitVec 32 := 1#32
  ⟨c0_i32_219, v346, c1_i32_221⟩
@[reducible] def k1_t44_loop : Scf.Loop 32 :=
  let c0_i32_230 : BitVec 32 := 0#32
  let c16_i32_231 : BitVec 32 := 16#32
  let v423 : BitVec 32 := Scalar.addi c0_i32_230 c16_i32_231
  let c1_i32_232 : BitVec 32 := 1#32
  ⟨c0_i32_230, v423, c1_i32_232⟩
@[reducible] def k1_t45_loop : Scf.Loop 32 :=
  let c0_i32_234 : BitVec 32 := 0#32
  let c16_i32_235 : BitVec 32 := 16#32
  let v425 : BitVec 32 := Scalar.addi c0_i32_234 c16_i32_235
  let c1_i32_236 : BitVec 32 := 1#32
  ⟨c0_i32_234, v425, c1_i32_236⟩
@[reducible] def k1_t46_loop : Scf.Loop 32 :=
  let c0_i32_240 : BitVec 32 := 0#32
  let c16_i32_241 : BitVec 32 := 16#32
  let v431 : BitVec 32 := Scalar.addi c0_i32_240 c16_i32_241
  let c1_i32_242 : BitVec 32 := 1#32
  ⟨c0_i32_240, v431, c1_i32_242⟩
@[reducible] def k1_t47_loop : Scf.Loop 32 :=
  let c0_i32_245 : BitVec 32 := 0#32
  let c16_i32_246 : BitVec 32 := 16#32
  let v435 : BitVec 32 := Scalar.addi c0_i32_245 c16_i32_246
  let c1_i32_247 : BitVec 32 := 1#32
  ⟨c0_i32_245, v435, c1_i32_247⟩
@[reducible] def k1_t48_loop : Scf.Loop 32 :=
  let c0_i32_251 : BitVec 32 := 0#32
  let c16_i32_252 : BitVec 32 := 16#32
  let v441 : BitVec 32 := Scalar.addi c0_i32_251 c16_i32_252
  let c1_i32_253 : BitVec 32 := 1#32
  ⟨c0_i32_251, v441, c1_i32_253⟩
@[reducible] def k1_t49_loop : Scf.Loop 32 :=
  let c0_i32_255 : BitVec 32 := 0#32
  let c16_i32_256 : BitVec 32 := 16#32
  let v443 : BitVec 32 := Scalar.addi c0_i32_255 c16_i32_256
  let c1_i32_257 : BitVec 32 := 1#32
  ⟨c0_i32_255, v443, c1_i32_257⟩
@[reducible] def k1_t50_loop : Scf.Loop 32 :=
  let c0_i32_261 : BitVec 32 := 0#32
  let c16_i32_262 : BitVec 32 := 16#32
  let v449 : BitVec 32 := Scalar.addi c0_i32_261 c16_i32_262
  let c1_i32_263 : BitVec 32 := 1#32
  ⟨c0_i32_261, v449, c1_i32_263⟩
@[reducible] def k1_t51_loop : Scf.Loop 32 :=
  let c0_i32_266 : BitVec 32 := 0#32
  let c16_i32_267 : BitVec 32 := 16#32
  let v453 : BitVec 32 := Scalar.addi c0_i32_266 c16_i32_267
  let c1_i32_268 : BitVec 32 := 1#32
  ⟨c0_i32_266, v453, c1_i32_268⟩
@[reducible] def k1_t52_loop : Scf.Loop 32 :=
  let c0_i32_271 : BitVec 32 := 0#32
  let c16_i32_272 : BitVec 32 := 16#32
  let v461 : BitVec 32 := Scalar.addi c0_i32_271 c16_i32_272
  let c1_i32_273 : BitVec 32 := 1#32
  ⟨c0_i32_271, v461, c1_i32_273⟩
@[reducible] def k1_t53_loop : Scf.Loop 32 :=
  let c0_i32_275 : BitVec 32 := 0#32
  let c16_i32_276 : BitVec 32 := 16#32
  let v463 : BitVec 32 := Scalar.addi c0_i32_275 c16_i32_276
  let c1_i32_277 : BitVec 32 := 1#32
  ⟨c0_i32_275, v463, c1_i32_277⟩
@[reducible] def k1_t54_loop : Scf.Loop 32 :=
  let c0_i32_280 : BitVec 32 := 0#32
  let c16_i32_281 : BitVec 32 := 16#32
  let v467 : BitVec 32 := Scalar.addi c0_i32_280 c16_i32_281
  let c1_i32_282 : BitVec 32 := 1#32
  ⟨c0_i32_280, v467, c1_i32_282⟩
@[reducible] def k1_t55_loop : Scf.Loop 32 :=
  let c0_i32_285 : BitVec 32 := 0#32
  let c16_i32_286 : BitVec 32 := 16#32
  let v471 : BitVec 32 := Scalar.addi c0_i32_285 c16_i32_286
  let c1_i32_287 : BitVec 32 := 1#32
  ⟨c0_i32_285, v471, c1_i32_287⟩
@[reducible] def k1_t56_loop : Scf.Loop 32 :=
  let c0_i32_290 : BitVec 32 := 0#32
  let c16_i32_291 : BitVec 32 := 16#32
  let v477 : BitVec 32 := Scalar.addi c0_i32_290 c16_i32_291
  let c1_i32_292 : BitVec 32 := 1#32
  ⟨c0_i32_290, v477, c1_i32_292⟩
@[reducible] def k1_t57_loop : Scf.Loop 32 :=
  let c0_i32_294 : BitVec 32 := 0#32
  let c16_i32_295 : BitVec 32 := 16#32
  let v479 : BitVec 32 := Scalar.addi c0_i32_294 c16_i32_295
  let c1_i32_296 : BitVec 32 := 1#32
  ⟨c0_i32_294, v479, c1_i32_296⟩

def k1_chk1 (v10 : IVec S16 32) (v81_4 : IVec S16 32) (v546 : IVec S16 32) : Prop :=
  (∀ a x, ((![v546, v81_4] : Fin 2 → IVec S16 32) a x).toNat < S256x64.size a) ∧
  (∀ a x, ((![v546, v81_4] : Fin 2 → IVec S16 32) a x).toNat < S256x64.size a) ∧
  (∀ a x, ((![v546, v10] : Fin 2 → IVec S16 32) a x).toNat < S256x1.size a)
theorem k1_idx1_inb : ∀ (v10 : IVec S16 32) (v81_4 : IVec S16 32) (v546 : IVec S16 32) (k1_hw1 : k1_chk1 v10 v81_4 v546), ∀ a x, ((![v546, v81_4] : Fin 2 → IVec S16 32) a x).toNat < S256x64.size a := fun v10 v81_4 v546 k1_hw1 => k1_hw1.1
theorem k1_idx2_inb : ∀ (v10 : IVec S16 32) (v81_4 : IVec S16 32) (v546 : IVec S16 32) (k1_hw1 : k1_chk1 v10 v81_4 v546), ∀ a x, ((![v546, v81_4] : Fin 2 → IVec S16 32) a x).toNat < S256x64.size a := fun v10 v81_4 v546 k1_hw1 => k1_hw1.2.1
theorem k1_idx3_inb : ∀ (v10 : IVec S16 32) (v81_4 : IVec S16 32) (v546 : IVec S16 32) (k1_hw1 : k1_chk1 v10 v81_4 v546), ∀ a x, ((![v546, v10] : Fin 2 → IVec S16 32) a x).toNat < S256x1.size a := fun v10 v81_4 v546 k1_hw1 => k1_hw1.2.2
def k1_off6 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c1_i32_309 : BitVec 32 := 1#32
  let v564 : BitVec 32 := Scalar.addi v12 c1_i32_309
  let v566 : Index := Scalar.indexCast v564
  let c0_310 : Index := 0#32
  ![v566.toNat, 0]
def k1_off7 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c1_i32_309 : BitVec 32 := 1#32
  let v564 : BitVec 32 := Scalar.addi v12 c1_i32_309
  let v568 : Index := Scalar.indexCast v564
  let c16_311 : Index := 16#32
  ![v568.toNat, 16]
def k1_off8 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c1_i32_309 : BitVec 32 := 1#32
  let v564 : BitVec 32 := Scalar.addi v12 c1_i32_309
  let v570 : Index := Scalar.indexCast v564
  let c32_312 : Index := 32#32
  ![v570.toNat, 32]
def k1_off9 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c1_i32_309 : BitVec 32 := 1#32
  let v564 : BitVec 32 := Scalar.addi v12 c1_i32_309
  let v572 : Index := Scalar.indexCast v564
  let c48_313 : Index := 48#32
  ![v572.toNat, 48]

def k1_chk2 (v10 : IVec S16 32) (v214_4 : IVec S16 32) (v565 : IVec S16 32) : Prop :=
  (∀ a x, ((![v565, v214_4] : Fin 2 → IVec S16 32) a x).toNat < S256x64.size a) ∧
  (∀ a x, ((![v565, v214_4] : Fin 2 → IVec S16 32) a x).toNat < S256x64.size a) ∧
  (∀ a x, ((![v565, v10] : Fin 2 → IVec S16 32) a x).toNat < S256x1.size a)
theorem k1_idx4_inb : ∀ (v10 : IVec S16 32) (v214_4 : IVec S16 32) (v565 : IVec S16 32) (k1_hw2 : k1_chk2 v10 v214_4 v565), ∀ a x, ((![v565, v214_4] : Fin 2 → IVec S16 32) a x).toNat < S256x64.size a := fun v10 v214_4 v565 k1_hw2 => k1_hw2.1
theorem k1_idx5_inb : ∀ (v10 : IVec S16 32) (v214_4 : IVec S16 32) (v565 : IVec S16 32) (k1_hw2 : k1_chk2 v10 v214_4 v565), ∀ a x, ((![v565, v214_4] : Fin 2 → IVec S16 32) a x).toNat < S256x64.size a := fun v10 v214_4 v565 k1_hw2 => k1_hw2.2.1
theorem k1_idx6_inb : ∀ (v10 : IVec S16 32) (v214_4 : IVec S16 32) (v565 : IVec S16 32) (k1_hw2 : k1_chk2 v10 v214_4 v565), ∀ a x, ((![v565, v10] : Fin 2 → IVec S16 32) a x).toNat < S256x1.size a := fun v10 v214_4 v565 k1_hw2 => k1_hw2.2.2
def k1_off10 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c2_i32_318 : BitVec 32 := 2#32
  let v583 : BitVec 32 := Scalar.addi v12 c2_i32_318
  let v585 : Index := Scalar.indexCast v583
  let c0_319 : Index := 0#32
  ![v585.toNat, 0]
def k1_off11 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c2_i32_318 : BitVec 32 := 2#32
  let v583 : BitVec 32 := Scalar.addi v12 c2_i32_318
  let v587 : Index := Scalar.indexCast v583
  let c16_320 : Index := 16#32
  ![v587.toNat, 16]
def k1_off12 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c2_i32_318 : BitVec 32 := 2#32
  let v583 : BitVec 32 := Scalar.addi v12 c2_i32_318
  let v589 : Index := Scalar.indexCast v583
  let c32_321 : Index := 32#32
  ![v589.toNat, 32]
def k1_off13 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c2_i32_318 : BitVec 32 := 2#32
  let v583 : BitVec 32 := Scalar.addi v12 c2_i32_318
  let v591 : Index := Scalar.indexCast v583
  let c48_322 : Index := 48#32
  ![v591.toNat, 48]

def k1_chk3 (v10 : IVec S16 32) (v347_4 : IVec S16 32) (v584 : IVec S16 32) : Prop :=
  (∀ a x, ((![v584, v347_4] : Fin 2 → IVec S16 32) a x).toNat < S256x64.size a) ∧
  (∀ a x, ((![v584, v347_4] : Fin 2 → IVec S16 32) a x).toNat < S256x64.size a) ∧
  (∀ a x, ((![v584, v10] : Fin 2 → IVec S16 32) a x).toNat < S256x1.size a)
theorem k1_idx7_inb : ∀ (v10 : IVec S16 32) (v347_4 : IVec S16 32) (v584 : IVec S16 32) (k1_hw3 : k1_chk3 v10 v347_4 v584), ∀ a x, ((![v584, v347_4] : Fin 2 → IVec S16 32) a x).toNat < S256x64.size a := fun v10 v347_4 v584 k1_hw3 => k1_hw3.1
theorem k1_idx8_inb : ∀ (v10 : IVec S16 32) (v347_4 : IVec S16 32) (v584 : IVec S16 32) (k1_hw3 : k1_chk3 v10 v347_4 v584), ∀ a x, ((![v584, v347_4] : Fin 2 → IVec S16 32) a x).toNat < S256x64.size a := fun v10 v347_4 v584 k1_hw3 => k1_hw3.2.1
theorem k1_idx9_inb : ∀ (v10 : IVec S16 32) (v347_4 : IVec S16 32) (v584 : IVec S16 32) (k1_hw3 : k1_chk3 v10 v347_4 v584), ∀ a x, ((![v584, v10] : Fin 2 → IVec S16 32) a x).toNat < S256x1.size a := fun v10 v347_4 v584 k1_hw3 => k1_hw3.2.2
def k1_off14 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c3_i32_327 : BitVec 32 := 3#32
  let v602 : BitVec 32 := Scalar.addi v12 c3_i32_327
  let v604 : Index := Scalar.indexCast v602
  let c0_328 : Index := 0#32
  ![v604.toNat, 0]
def k1_off15 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c3_i32_327 : BitVec 32 := 3#32
  let v602 : BitVec 32 := Scalar.addi v12 c3_i32_327
  let v606 : Index := Scalar.indexCast v602
  let c16_329 : Index := 16#32
  ![v606.toNat, 16]
def k1_off16 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c3_i32_327 : BitVec 32 := 3#32
  let v602 : BitVec 32 := Scalar.addi v12 c3_i32_327
  let v608 : Index := Scalar.indexCast v602
  let c32_330 : Index := 32#32
  ![v608.toNat, 32]
def k1_off17 (k1_t1 : Fin k1_t1_loop.trips) : Fin 2 → Nat :=
  let c0_i32_2 : BitVec 32 := 0#32
  let c1_i32_3 : BitVec 32 := 1#32
  let arg10 : BitVec 32 := Scf.iv c0_i32_2 c1_i32_3 k1_t1
  let c4_i32 : BitVec 32 := 4#32
  let v12 : BitVec 32 := Scalar.muli arg10 c4_i32
  let c3_i32_327 : BitVec 32 := 3#32
  let v602 : BitVec 32 := Scalar.addi v12 c3_i32_327
  let v610 : Index := Scalar.indexCast v602
  let c48_331 : Index := 48#32
  ![v610.toNat, 48]

def k1_chk4 (v10 : IVec S16 32) (v480_4 : IVec S16 32) (v603 : IVec S16 32) : Prop :=
  (∀ a x, ((![v603, v480_4] : Fin 2 → IVec S16 32) a x).toNat < S256x64.size a) ∧
  (∀ a x, ((![v603, v480_4] : Fin 2 → IVec S16 32) a x).toNat < S256x64.size a) ∧
  (∀ a x, ((![v603, v10] : Fin 2 → IVec S16 32) a x).toNat < S256x1.size a)
theorem k1_idx10_inb : ∀ (v10 : IVec S16 32) (v480_4 : IVec S16 32) (v603 : IVec S16 32) (k1_hw4 : k1_chk4 v10 v480_4 v603), ∀ a x, ((![v603, v480_4] : Fin 2 → IVec S16 32) a x).toNat < S256x64.size a := fun v10 v480_4 v603 k1_hw4 => k1_hw4.1
theorem k1_idx11_inb : ∀ (v10 : IVec S16 32) (v480_4 : IVec S16 32) (v603 : IVec S16 32) (k1_hw4 : k1_chk4 v10 v480_4 v603), ∀ a x, ((![v603, v480_4] : Fin 2 → IVec S16 32) a x).toNat < S256x64.size a := fun v10 v480_4 v603 k1_hw4 => k1_hw4.2.1
theorem k1_idx12_inb : ∀ (v10 : IVec S16 32) (v480_4 : IVec S16 32) (v603 : IVec S16 32) (k1_hw4 : k1_chk4 v10 v480_4 v603), ∀ a x, ((![v603, v10] : Fin 2 → IVec S16 32) a x).toNat < S256x1.size a := fun v10 v480_4 v603 k1_hw4 => k1_hw4.2.2
def k1_off18 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5_r1 : BitVec 32 := 0#32
  ![v2.toNat, 0]
def k1_off19 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_em1" => some ((63⁻¹ : ℝ) : EReal)
  | _ => none
-- ==== ReferenceIdeal.lean ====
abbrev S4x2048x4096 : Shape := ⟨3, ![4, 2048, 4096]⟩
abbrev S4096x64 : Shape := ⟨2, ![4096, 64]⟩
abbrev S4x2048x64 : Shape := ⟨3, ![4, 2048, 64]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩
abbrev S4x2048x8 : Shape := ⟨3, ![4, 2048, 8]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x8x1 : Shape := ⟨4, ![4, 2048, 8, 1]⟩
abbrev S4x2048x8x3 : Shape := ⟨4, ![4, 2048, 8, 3]⟩

abbrev nBuf : Space → Nat
  | .hbm => 209
  | .vmem => 0
  | .smem => 0
  | _ => 0

abbrev hbmTy0_0 (i : Nat) : BufTy := match i % 128 with
  | 0 => ⟨S4x2048x4096, .f32⟩
  | 1 => ⟨S4096x64, .f32⟩
  | 2 => ⟨S4096x64, .f32⟩
  | 3 => ⟨S4x2048x64, .f32⟩
  | 4 => ⟨S_, .i32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S4x2048x64, .f32⟩
  | 12 => ⟨S4x2048x64, .f32⟩
  | 13 => ⟨S4x2048x64, .f32⟩
  | 14 => ⟨S_, .f32⟩
  | 15 => ⟨S_, .f32⟩
  | 16 => ⟨S_, .f32⟩
  | 17 => ⟨S_, .f32⟩
  | 18 => ⟨S4x2048, .f32⟩
  | 19 => ⟨S4x2048x1, .f32⟩
  | 20 => ⟨S4x2048x1, .f32⟩
  | 21 => ⟨S4x2048x1, .f32⟩
  | 22 => ⟨S_, .f32⟩
  | 23 => ⟨S_, .i1⟩
  | 24 => ⟨S_, .f32⟩
  | 25 => ⟨S_, .f32⟩
  | 26 => ⟨S4x2048x1, .f32⟩
  | 27 => ⟨S4x2048x1, .f32⟩
  | 28 => ⟨S4x2048x1, .f32⟩
  | 29 => ⟨S_, .f32⟩
  | 30 => ⟨S4x2048x1, .f32⟩
  | 31 => ⟨S4x2048x1, .f32⟩
  | 32 => ⟨S4x2048x64, .f32⟩
  | 33 => ⟨S_, .f32⟩
  | 34 => ⟨S4x2048, .f32⟩
  | 35 => ⟨S4x2048x1, .f32⟩
  | 36 => ⟨S_, .f32⟩
  | 37 => ⟨S4x2048x1, .f32⟩
  | 38 => ⟨S4x2048x1, .f32⟩
  | 39 => ⟨S_, .i32⟩
  | 40 => ⟨S_, .f32⟩
  | 41 => ⟨S4x2048, .f32⟩
  | 42 => ⟨S4x2048x1, .f32⟩
  | 43 => ⟨S_, .f32⟩
  | 44 => ⟨S4x2048x1, .f32⟩
  | 45 => ⟨S4x2048x1, .f32⟩
  | 46 => ⟨S4x2048x64, .f32⟩
  | 47 => ⟨S4x2048x64, .f32⟩
  | 48 => ⟨S4x2048x64, .f32⟩
  | 49 => ⟨S_, .f32⟩
  | 50 => ⟨S_, .f32⟩
  | 51 => ⟨S_, .f32⟩
  | 52 => ⟨S_, .f32⟩
  | 53 => ⟨S4x2048, .f32⟩
  | 54 => ⟨S4x2048x1, .f32⟩
  | 55 => ⟨S4x2048x1, .f32⟩
  | 56 => ⟨S4x2048x1, .f32⟩
  | 57 => ⟨S_, .f32⟩
  | 58 => ⟨S_, .i1⟩
  | 59 => ⟨S_, .f32⟩
  | 60 => ⟨S_, .f32⟩
  | 61 => ⟨S4x2048x1, .f32⟩
  | 62 => ⟨S4x2048x1, .f32⟩
  | 63 => ⟨S4x2048x1, .f32⟩
  | 64 => ⟨S_, .f32⟩
  | 65 => ⟨S4x2048x1, .f32⟩
  | 66 => ⟨S4x2048x1, .f32⟩
  | 67 => ⟨S4x2048x64, .f32⟩
  | 68 => ⟨S4x2048x64, .f32⟩
  | 69 => ⟨S4x2048x64, .f32⟩
  | 70 => ⟨S4x2048x64, .f32⟩
  | 71 => ⟨S_, .f32⟩
  | 72 => ⟨S4x2048, .f32⟩
  | 73 => ⟨S_, .f32⟩
  | 74 => ⟨S4x2048, .f32⟩
  | 75 => ⟨S4x2048, .f32⟩
  | 76 => ⟨S4x2048x1, .f32⟩
  | 77 => ⟨S4x2048x64, .f32⟩
  | 78 => ⟨S4x2048x64, .f32⟩
  | 79 => ⟨S4x2048x64, .f32⟩
  | 80 => ⟨S_, .f32⟩
  | 81 => ⟨S4x2048, .f32⟩
  | 82 => ⟨S4x2048x1, .f32⟩
  | 83 => ⟨S4x2048x64, .f32⟩
  | 84 => ⟨S4x2048x64, .f32⟩
  | 85 => ⟨S4x2048x2, .f32⟩
  | 86 => ⟨S4x2048x2, .i32⟩
  | 87 => ⟨S4x2048x1, .f32⟩
  | 88 => ⟨S4x2048, .f32⟩
  | 89 => ⟨S4x2048x1, .f32⟩
  | 90 => ⟨S4x2048, .f32⟩
  | 91 => ⟨S4x2048, .f32⟩
  | 92 => ⟨S_, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S4x2048, .f32⟩
  | 100 => ⟨S_, .f32⟩
  | 101 => ⟨S4x2048, .f32⟩
  | 102 => ⟨S4x2048, .f32⟩
  | 103 => ⟨S_, .f32⟩
  | 104 => ⟨S4x2048, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S4x2048x1, .f32⟩
  | 111 => ⟨S4x2048x64, .f32⟩
  | 112 => ⟨S4x2048x64, .f32⟩
  | 113 => ⟨S_, .f32⟩
  | 114 => ⟨S4x2048x1, .f32⟩
  | 115 => ⟨S4x2048x1, .f32⟩
  | 116 => ⟨S4x2048x1, .f32⟩
  | 117 => ⟨S4x2048x64, .f32⟩
  | 118 => ⟨S4x2048x64, .f32⟩
  | 119 => ⟨S4x2048x64, .f32⟩
  | 120 => ⟨S4x2048x64, .f32⟩
  | 121 => ⟨S4x2048x64, .f32⟩
  | 122 => ⟨S4x2048x8, .f32⟩
  | 123 => ⟨S4x2048x8, .i32⟩
  | 124 => ⟨S_, .f32⟩
  | 125 => ⟨S4x2048, .f32⟩
  | 126 => ⟨S_, .f32⟩
  | 127 => ⟨S4x2048, .f32⟩
  | _ => ⟨S4x2048x4096, .f32⟩

abbrev hbmTy0_1 (i : Nat) : BufTy := match i % 128 with
  | 0 => ⟨S4x2048, .f32⟩
  | 1 => ⟨S4x2048x1, .f32⟩
  | 2 => ⟨S4x2048x8, .f32⟩
  | 3 => ⟨S4x2048x8, .f32⟩
  | 4 => ⟨S4x2048x8, .f32⟩
  | 5 => ⟨S_, .f32⟩
  | 6 => ⟨S4x2048, .f32⟩
  | 7 => ⟨S4x2048x1, .f32⟩
  | 8 => ⟨S4x2048x8, .f32⟩
  | 9 => ⟨S4x2048x8, .f32⟩
  | 10 => ⟨S4, .i32⟩
  | 11 => ⟨S4x1x1, .i32⟩
  | 12 => ⟨S2048, .i32⟩
  | 13 => ⟨S1x2048x1, .i32⟩
  | 14 => ⟨S_, .f32⟩
  | 15 => ⟨S4x2048x64, .f32⟩
  | 16 => ⟨S_, .i32⟩
  | 17 => ⟨S4x1x1, .i32⟩
  | 18 => ⟨S4x1x1, .i1⟩
  | 19 => ⟨S_, .i32⟩
  | 20 => ⟨S4x1x1, .i32⟩
  | 21 => ⟨S4x1x1, .i32⟩
  | 22 => ⟨S4x1x1, .i32⟩
  | 23 => ⟨S_, .i32⟩
  | 24 => ⟨S1x2048x1, .i32⟩
  | 25 => ⟨S1x2048x1, .i1⟩
  | 26 => ⟨S_, .i32⟩
  | 27 => ⟨S1x2048x1, .i32⟩
  | 28 => ⟨S1x2048x1, .i32⟩
  | 29 => ⟨S1x2048x1, .i32⟩
  | 30 => ⟨S_, .i32⟩
  | 31 => ⟨S4x2048x8, .i32⟩
  | 32 => ⟨S4x2048x8, .i1⟩
  | 33 => ⟨S_, .i32⟩
  | 34 => ⟨S4x2048x8, .i32⟩
  | 35 => ⟨S4x2048x8, .i32⟩
  | 36 => ⟨S4x2048x8, .i32⟩
  | 37 => ⟨S4x2048x8, .i32⟩
  | 38 => ⟨S4x2048x8, .i32⟩
  | 39 => ⟨S4x2048x8x1, .i32⟩
  | 40 => ⟨S4x2048x8x1, .i32⟩
  | 41 => ⟨S4x2048x8x1, .i32⟩
  | 42 => ⟨S4x2048x8x3, .i32⟩
  | 43 => ⟨S4x2048x64, .f32⟩
  | 44 => ⟨S_, .f32⟩
  | 45 => ⟨S4x2048, .f32⟩
  | 46 => ⟨S4x2048x1, .f32⟩
  | 47 => ⟨S_, .f32⟩
  | 48 => ⟨S4x2048x8, .f32⟩
  | 49 => ⟨S4x2048x8, .f32⟩
  | 50 => ⟨S4x2048x8, .f32⟩
  | 51 => ⟨S_, .f32⟩
  | 52 => ⟨S4x2048x64, .f32⟩
  | 53 => ⟨S_, .i32⟩
  | 54 => ⟨S4x1x1, .i32⟩
  | 55 => ⟨S4x1x1, .i1⟩
  | 56 => ⟨S_, .i32⟩
  | 57 => ⟨S4x1x1, .i32⟩
  | 58 => ⟨S4x1x1, .i32⟩
  | 59 => ⟨S4x1x1, .i32⟩
  | 60 => ⟨S_, .i32⟩
  | 61 => ⟨S1x2048x1, .i32⟩
  | 62 => ⟨S1x2048x1, .i1⟩
  | 63 => ⟨S_, .i32⟩
  | 64 => ⟨S1x2048x1, .i32⟩
  | 65 => ⟨S1x2048x1, .i32⟩
  | 66 => ⟨S1x2048x1, .i32⟩
  | 67 => ⟨S_, .i32⟩
  | 68 => ⟨S4x2048x8, .i32⟩
  | 69 => ⟨S4x2048x8, .i1⟩
  | 70 => ⟨S_, .i32⟩
  | 71 => ⟨S4x2048x8, .i32⟩
  | 72 => ⟨S4x2048x8, .i32⟩
  | 73 => ⟨S4x2048x8, .i32⟩
  | 74 => ⟨S4x2048x8, .i32⟩
  | 75 => ⟨S4x2048x8, .i32⟩
  | 76 => ⟨S4x2048x8x1, .i32⟩
  | 77 => ⟨S4x2048x8x1, .i32⟩
  | 78 => ⟨S4x2048x8x1, .i32⟩
  | 79 => ⟨S4x2048x8x3, .i32⟩
  | 80 => ⟨S4x2048x64, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_cst_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_cst_1 : Ref sig .tc := ⟨.hbm, 15, rfl⟩
abbrev main_call0_call0_v8 : Ref sig .tc := ⟨.hbm, 16, rfl⟩
abbrev main_call0_call0_cst_2 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_v12 : Ref sig .tc := ⟨.hbm, 21, rfl⟩
abbrev main_call0_call0_cst_3 : Ref sig .tc := ⟨.hbm, 22, rfl⟩
abbrev main_call0_call0_v13 : Ref sig .tc := ⟨.hbm, 23, rfl⟩
abbrev main_call0_call0_cst_4 : Ref sig .tc := ⟨.hbm, 24, rfl⟩
abbrev main_call0_call0_call0_v0 : Ref sig .tc := ⟨.hbm, 25, rfl⟩
abbrev main_call0_call0_call0_v1 : Ref sig .tc := ⟨.hbm, 26, rfl⟩
abbrev main_call0_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_cst_0 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_cst_1 : Ref sig .tc := ⟨.hbm, 50, rfl⟩
abbrev main_call1_call0_v8 : Ref sig .tc := ⟨.hbm, 51, rfl⟩
abbrev main_call1_call0_cst_2 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_call0_v12 : Ref sig .tc := ⟨.hbm, 56, rfl⟩
abbrev main_call1_call0_cst_3 : Ref sig .tc := ⟨.hbm, 57, rfl⟩
abbrev main_call1_call0_v13 : Ref sig .tc := ⟨.hbm, 58, rfl⟩
abbrev main_call1_call0_cst_4 : Ref sig .tc := ⟨.hbm, 59, rfl⟩
abbrev main_call1_call0_call0_v0 : Ref sig .tc := ⟨.hbm, 60, rfl⟩
abbrev main_call1_call0_call0_v1 : Ref sig .tc := ⟨.hbm, 61, rfl⟩
abbrev main_call1_v0 : Ref sig .tc := ⟨.hbm, 62, rfl⟩
abbrev main_v9 : Ref sig .tc := ⟨.hbm, 63, rfl⟩
abbrev main_cst_3 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst_4 : Ref sig .tc := ⟨.hbm, 71, rfl⟩
abbrev main_v16 : Ref sig .tc := ⟨.hbm, 72, rfl⟩
abbrev main_cst_5 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_6 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_values : Ref sig .tc := ⟨.hbm, 85, rfl⟩
abbrev main_indices : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_7 : Ref sig .tc := ⟨.hbm, 92, rfl⟩
abbrev main_v32 : Ref sig .tc := ⟨.hbm, 93, rfl⟩
abbrev main_v33 : Ref sig .tc := ⟨.hbm, 94, rfl⟩
abbrev main_cst_8 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_9 : Ref sig .tc := ⟨.hbm, 100, rfl⟩
abbrev main_v38 : Ref sig .tc := ⟨.hbm, 101, rfl⟩
abbrev main_v39 : Ref sig .tc := ⟨.hbm, 102, rfl⟩
abbrev main_cst_10 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_11 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_12 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v51 : Ref sig .tc := ⟨.hbm, 120, rfl⟩
abbrev main_v52 : Ref sig .tc := ⟨.hbm, 121, rfl⟩
abbrev main_values_13 : Ref sig .tc := ⟨.hbm, 122, rfl⟩
abbrev main_indices_14 : Ref sig .tc := ⟨.hbm, 123, rfl⟩
abbrev main_cst_15 : Ref sig .tc := ⟨.hbm, 124, rfl⟩
abbrev main_v53 : Ref sig .tc := ⟨.hbm, 125, rfl⟩
abbrev main_cst_16 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_cst_17 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_cst_18 : Ref sig .tc := ⟨.hbm, 142, rfl⟩
abbrev main_v68 : Ref sig .tc := ⟨.hbm, 143, rfl⟩
abbrev main_c_19 : Ref sig .tc := ⟨.hbm, 144, rfl⟩
abbrev main_v69 : Ref sig .tc := ⟨.hbm, 145, rfl⟩
abbrev main_v70 : Ref sig .tc := ⟨.hbm, 146, rfl⟩
abbrev main_c_20 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_c_21 : Ref sig .tc := ⟨.hbm, 151, rfl⟩
abbrev main_v74 : Ref sig .tc := ⟨.hbm, 152, rfl⟩
abbrev main_v75 : Ref sig .tc := ⟨.hbm, 153, rfl⟩
abbrev main_c_22 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_c_23 : Ref sig .tc := ⟨.hbm, 158, rfl⟩
abbrev main_v79 : Ref sig .tc := ⟨.hbm, 159, rfl⟩
abbrev main_v80 : Ref sig .tc := ⟨.hbm, 160, rfl⟩
abbrev main_c_24 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_25 : Ref sig .tc := ⟨.hbm, 172, rfl⟩
abbrev main_v91 : Ref sig .tc := ⟨.hbm, 173, rfl⟩
abbrev main_v92 : Ref sig .tc := ⟨.hbm, 174, rfl⟩
abbrev main_cst_26 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_cst_27 : Ref sig .tc := ⟨.hbm, 179, rfl⟩
abbrev main_v96 : Ref sig .tc := ⟨.hbm, 180, rfl⟩
abbrev main_c_28 : Ref sig .tc := ⟨.hbm, 181, rfl⟩
abbrev main_v97 : Ref sig .tc := ⟨.hbm, 182, rfl⟩
abbrev main_v98 : Ref sig .tc := ⟨.hbm, 183, rfl⟩
abbrev main_c_29 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_c_30 : Ref sig .tc := ⟨.hbm, 188, rfl⟩
abbrev main_v102 : Ref sig .tc := ⟨.hbm, 189, rfl⟩
abbrev main_v103 : Ref sig .tc := ⟨.hbm, 190, rfl⟩
abbrev main_c_31 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_c_32 : Ref sig .tc := ⟨.hbm, 195, rfl⟩
abbrev main_v107 : Ref sig .tc := ⟨.hbm, 196, rfl⟩
abbrev main_v108 : Ref sig .tc := ⟨.hbm, 197, rfl⟩
abbrev main_c_33 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩

abbrev nD : Nat := 1
abbrev τ : Topo := Topo.v7x

variable {F : FTy → Type} [FloatOps F]
-- ==== Proof.Sorting.lean ====
/-
  The sixteen-lane sort of the SparseCore router as plain functions of vectors: the printed counted loops read and
  write no memory, so each is a fixed number of repetitions of one function of the carried vectors.
-/
module

public import proofs.«01_k».proof.Proof.Gen.KernelIdeal
public import Idealize.ShloMosaic.Init

@[expose] public section

noncomputable section

namespace Cert.Proof.Router

open Cert.KernelIdeal Cert.KernelIdeal.Gen
open Idealize.ShloMosaic Idealize.SL.Sem

universe v

/-- `n` repetitions of `g` from `x`; kept folded, so that a step of a computation never unrolls it. -/
@[irreducible] def rep {σ : Type} (g : σ → σ) (n : Nat) (x : σ) : σ := g^[n] x

theorem rep_eq {σ : Type} (g : σ → σ) (n : Nat) (x : σ) : rep g n x = g^[n] x := by unfold rep; rfl

theorem forFrom_pure {E : Type → Type v} {σ : Type} {n : Nat} (g : σ → σ) (body : Fin n → σ → Prog E σ)
    (h : ∀ k x, body k x = pure (g x)) : ∀ (ks : List (Fin n)) (x : σ), Scf.forFrom body ks x = .ret (g^[ks.length] x)
  | [], _ => rfl
  | k :: ks, x => by
    rw [Scf.forFrom, h]
    exact forFrom_pure g body h ks (g x)

/-- A counted loop whose region touches nothing is the repetition of its region. -/
theorem for_bind_pure {E : Type → Type v} {σ β : Type} {w : Nat} (L : Scf.Loop w) (hok : L.OK) (init : σ)
    (body : Fin L.trips → σ → Prog E σ) (g : σ → σ) (n : Nat) (hn : L.trips = n) (h : ∀ k x, body k x = pure (g x))
    (kk : σ → Prog E β) : (Scf.Loop.for L hok init body >>= kk) = kk (rep g n init) := by
  unfold Scf.Loop.for
  rw [Scf.for_eq, forFrom_pure g body h, List.length_finRange, rep_eq]
  subst hn
  rfl

variable {F : FTy → Type} [FloatOps F] [Named F]

abbrev KV (F : FTy → Type) : Type := Vec F S16 .f32 × IVec S16 32 × IVec S16 32
abbrev KVO (F : FTy → Type) : Type := Vec F S16 .f32 × IVec S16 32 × IVec S16 32 × Vec F S16 .f32 × IVec S16 32

/-- The lanes moved down by one, around the end. -/
def roll {α : Type} (x : S16.Idx → α) : S16.Idx → α :=
  concatenate S16 0 [⟨S15, extractStridedSlice S15 ![1] x slices_S16_o1_S15⟩, ⟨S1, extractStridedSlice S1 ![0] x slices_S16_o0_S1⟩]
    concatenates_S15_S1_S16_d0

/-- One comparison of every lane's pair with the pair that has come round to it. -/
def countStep (key : Vec F S16 .f32) (val : IVec S16 32) (c : KV F) : KV F :=
  (roll c.1, roll c.2.1,
    addi c.2.2 (select (ori (cmpf .ogt c.1 key) (andi (cmpf .oeq c.1 key) (cmpi .slt c.2.1 val))) (broadcast S16 1#32) (broadcast S16 0#32)))

/-- How many pairs go ahead of each lane's, counted from `z`. -/
def countAll (key : Vec F S16 .f32) (val : IVec S16 32) (z : IVec S16 32) : IVec S16 32 :=
  (rep (countStep key val) 16 (key, val, z)).2.2

/-- One round of putting pairs where their rank says. -/
def placeStep (lane : IVec S16 32) (c : KVO F) : KVO F :=
  (roll c.1, roll c.2.1, roll c.2.2.1, select (cmpi .eq c.2.2.1 lane) c.1 c.2.2.2.1, select (cmpi .eq c.2.2.1 lane) c.2.1 c.2.2.2.2)

def lanes : IVec S16 32 := iota .scVector S16 32 [0] iota_S16_d0_w32_scVector

/-- The keys, and the values, at their ranks `r`. -/
def placeK (lane : IVec S16 32) (key : Vec F S16 .f32) (val : IVec S16 32) (r : IVec S16 32) : Vec F S16 .f32 :=
  (rep (placeStep lane) 16 (key, val, r, key, val)).2.2.2.1
def placeV (lane : IVec S16 32) (key : Vec F S16 .f32) (val : IVec S16 32) (r : IVec S16 32) : IVec S16 32 :=
  (rep (placeStep lane) 16 (key, val, r, key, val)).2.2.2.2

def sortD (key : Vec F S16 .f32) (val : IVec S16 32) : Vec F S16 .f32 × IVec S16 32 :=
  (placeK lanes key val (countAll key val (broadcast S16 0#32)), placeV lanes key val (countAll key val (broadcast S16 0#32)))
def sortA (key : Vec F S16 .f32) (val : IVec S16 32) : Vec F S16 .f32 × IVec S16 32 :=
  (placeK lanes key val (subi (broadcast S16 15#32) (countAll key val (broadcast S16 0#32))),
    placeV lanes key val (subi (broadcast S16 15#32) (countAll key val (broadcast S16 0#32))))
end Cert.Proof.Router

end
-- ==== Proof.Parts.lean ====
/-
  The printed parts of the router's loop body that only compute, or load four vectors and compute: each is one
  value. The loops of a part are repetitions, so a part is the composition of the sorts of `Sorting`.
-/
module

public import proofs.«01_k».proof.Proof.Sorting

@[expose] public section

noncomputable section

namespace Cert.Proof.Router

open Cert.KernelIdeal Cert.KernelIdeal.Gen
open Idealize.ShloMosaic Idealize.SL.Sem

variable {F : FTy → Type} [FloatOps F] [Named F]

section
variable {F : FTy → Type}

/-- The lanes moved down by eight, by four, by two, around the end. -/
def roll8 (x : FVec F S16 .f32) : FVec F S16 .f32 :=
  concatenate S16 0 [⟨S8, extractStridedSlice S8 ![8] x slices_S16_o8_S8⟩, ⟨S8, extractStridedSlice S8 ![0] x slices_S16_o0_S8⟩]
    concatenates_S8_S8_S16_d0
def roll4 (x : FVec F S16 .f32) : FVec F S16 .f32 :=
  concatenate S16 0 [⟨S12, extractStridedSlice S12 ![4] x slices_S16_o4_S12⟩, ⟨S4, extractStridedSlice S4 ![0] x slices_S16_o0_S4⟩]
    concatenates_S12_S4_S16_d0
def roll2 (x : FVec F S16 .f32) : FVec F S16 .f32 :=
  concatenate S16 0 [⟨S14, extractStridedSlice S14 ![2] x slices_S16_o2_S14⟩, ⟨S2, extractStridedSlice S2 ![0] x slices_S16_o0_S2⟩]
    concatenates_S14_S2_S16_d0
/-- Lane 0. -/
def first (x : FVec F S16 .f32) : F .f32 := extractAt ![0] (extractStridedSlice S1 ![0] x slices_S16_o0_S1) inpos_S1_p0
end

def sum8 (x : FVec F S16 .f32) : FVec F S16 .f32 := addf x (roll8 x)
def sum4 (x : FVec F S16 .f32) : FVec F S16 .f32 := addf x (roll4 x)
def sum2 (x : FVec F S16 .f32) : FVec F S16 .f32 := addf x (roll2 x)
def sum1 (x : FVec F S16 .f32) : FVec F S16 .f32 := addf x (roll x)
def max8 (x : FVec F S16 .f32) : FVec F S16 .f32 := maximumf x (roll8 x)
def max4 (x : FVec F S16 .f32) : FVec F S16 .f32 := maximumf x (roll4 x)
def max2 (x : FVec F S16 .f32) : FVec F S16 .f32 := maximumf x (roll2 x)
def max1 (x : FVec F S16 .f32) : FVec F S16 .f32 := maximumf x (roll x)

/-- The sum, and the greatest, of the sixteen lanes. -/
def laneSum (x : FVec F S16 .f32) : F .f32 := first (sum1 (sum2 (sum4 (sum8 x))))
def laneMax (x : FVec F S16 .f32) : F .f32 := first (max1 (max2 (max4 (max8 x))))

/-- The exponentials of the chosen lanes above their maximum, zero in the others. -/
def ewOf (v5 : IVec S16 1) (k : FVec F S16 .f32) : FVec F S16 .f32 :=
  select v5 (exp (subf k (broadcast S16 (laneMax k)))) (broadcast S16 (Scalar.ofBits .f32 0x00000000#32))
/-- A vector over its sum. -/
def wOf (e : FVec F S16 .f32) : FVec F S16 .f32 := divf e (broadcast S16 (laneSum e))
def logOf (w : FVec F S16 .f32) : FVec F S16 .f32 := log (addf w (broadcast S16 (Scalar.ofBits .f32 0x3089705F#32)))

variable (i : grid1.Coords) (arg2 : Memref sig .scVector .hbm S8192x64 .f32) (harg2 : arg2.IsWhole) (arg3 : Memref sig .scVector .hbm S8192x64 .f32) (harg3 : arg3.IsWhole) (arg4 : Memref sig .scVector .hbm S8192x1 .f32) (harg4 : arg4.IsWhole) (arg5 : Memref sig .scVector .hbm S8192x64 .f32) (harg5 : arg5.IsWhole) (arg6 : Memref sig .scVector .vmem S256x64 .f32) (harg6 : arg6.IsWhole) (arg7 : Memref sig .scVector .vmem S256x64 .f32) (harg7 : arg7.IsWhole) (arg8 : Memref sig .scVector .vmem S256x64 .f32) (harg8 : arg8.IsWhole) (arg9 : Memref sig .scVector .vmem S256x1 .f32) (harg9 : arg9.IsWhole) (v12_r0 : DmaSems sig S_) (v12_r1 : DmaSems sig S_) (v12_r2 : DmaSems sig S_) (v12_r3 : DmaSems sig S_)

set_option maxHeartbeats 4000000 in
theorem part1_eq (v3 : IVec S16 32) (c0_i32_2 : BitVec 32) (c1_i32_3 : BitVec 32) (k1_t1 : Fin k1_t1_loop.trips) :
    k1_part1 (F := F) i arg2 harg2 arg3 harg3 arg4 harg4 arg5 harg5 arg6 harg6 arg7 harg7 arg8 harg8 arg9 harg9 v12_r0 v12_r1 v12_r2 v12_r3 v3 c0_i32_2 c1_i32_3 k1_t1
      = (do
          let a0 : Vec F S1x16 .f32 ← Prog.lift (.load arg6 (Rect.unit (s := S256x64) (k1_off2 k1_t1 0#32) S1x16.size (k1_off2_inb k1_t1 0)).toLoadRect (View.loadsAt_vmem h_S1x16))
          let a1 : Vec F S1x16 .f32 ← Prog.lift (.load arg6 (Rect.unit (s := S256x64) (k1_off3 k1_t1 0#32) S1x16.size (k1_off3_inb k1_t1 0)).toLoadRect (View.loadsAt_vmem h_S1x16))
          let a2 : Vec F S1x16 .f32 ← Prog.lift (.load arg6 (Rect.unit (s := S256x64) (k1_off4 k1_t1 0#32) S1x16.size (k1_off4_inb k1_t1 0)).toLoadRect (View.loadsAt_vmem h_S1x16))
          let a3 : Vec F S1x16 .f32 ← Prog.lift (.load arg6 (Rect.unit (s := S256x64) (k1_off5 k1_t1 0#32) S1x16.size (k1_off5_inb k1_t1 0)).toLoadRect (View.loadsAt_vmem h_S1x16))
          pure ⟨Scalar.muli (Scf.iv c0_i32_2 c1_i32_3 k1_t1) 4#32, (shapeCast S16 a2 shapeCasts_S1x16_S16), (shapeCast S16 a3 shapeCasts_S1x16_S16), (sortD (shapeCast S16 a0 shapeCasts_S1x16_S16) v3).1, (sortD (shapeCast S16 a0 shapeCasts_S1x16_S16) v3).2, (sortA (shapeCast S16 a1 shapeCasts_S1x16_S16) (addi v3 (broadcast S16 16#32))).1, (sortA (shapeCast S16 a1 shapeCasts_S1x16_S16) (addi v3 (broadcast S16 16#32))).2, (addi v3 (broadcast S16 32#32))⟩) := by
  unfold k1_part1
  refine bind_congr fun _ => ?_
  refine bind_congr fun _ => ?_
  refine bind_congr fun _ => ?_
  refine bind_congr fun _ => ?_
  refine (for_bind_pure k1_t2_loop _ _ _ (countStep _ _) 16 rfl (fun _ _ => rfl) _).trans ?_
  refine (for_bind_pure k1_t3_loop _ _ _ (placeStep _) 16 rfl (fun _ _ => rfl) _).trans ?_
  refine (for_bind_pure k1_t4_loop _ _ _ (countStep _ _) 16 rfl (fun _ _ => rfl) _).trans ?_
  refine (for_bind_pure k1_t5_loop _ _ _ (placeStep _) 16 rfl (fun _ _ => rfl) _).trans ?_
  rfl

set_option maxHeartbeats 4000000 in
theorem part2_eq (v3 : IVec S16 32) (v5 : IVec S16 1) (v19 : Vec F S16 .f32) (v21 : Vec F S16 .f32) (v27_3 : Vec F S16 .f32) (v27_4 : IVec S16 32) (v37_3 : Vec F S16 .f32) (v37_4 : IVec S16 32) (v39 : IVec S16 32) :
    k1_part2 (F := F) i arg2 harg2 arg3 harg3 arg4 harg4 arg5 harg5 arg6 harg6 arg7 harg7 arg8 harg8 arg9 harg9 v12_r0 v12_r1 v12_r2 v12_r3 v3 v5 v19 v21 v27_3 v27_4 v37_3 v37_4 v39
      = pure ⟨(select v5 ((sortD v19 v39).1) ((sortA v21 (addi v3 (broadcast S16 48#32))).1)), (select v5 ((sortD v19 v39).2) ((sortA v21 (addi v3 (broadcast S16 48#32))).2)), (sortD (select v5 v27_3 v37_3) (select v5 v27_4 v37_4)).1, (sortD (select v5 v27_3 v37_3) (select v5 v27_4 v37_4)).2, lanes, (broadcast S16 0#32), 0#32, 16#32⟩ := by
  unfold k1_part2
  refine (for_bind_pure k1_t6_loop _ _ _ (countStep _ _) 16 rfl (fun _ _ => rfl) _).trans ?_
  refine (for_bind_pure k1_t7_loop _ _ _ (placeStep _) 16 rfl (fun _ _ => rfl) _).trans ?_
  refine (for_bind_pure k1_t8_loop _ _ _ (countStep _ _) 16 rfl (fun _ _ => rfl) _).trans ?_
  refine (for_bind_pure k1_t9_loop _ _ _ (placeStep _) 16 rfl (fun _ _ => rfl) _).trans ?_
  refine (for_bind_pure k1_t10_loop _ _ _ (countStep _ _) 16 rfl (fun _ _ => rfl) _).trans ?_
  refine (for_bind_pure k1_t11_loop _ _ _ (placeStep _) 16 rfl (fun _ _ => rfl) _).trans ?_
  rfl

set_option maxHeartbeats 4000000 in
theorem part3_eq (v5 : IVec S16 1) (v58 : Vec F S16 .f32) (v59 : IVec S16 32) (v65_3 : Vec F S16 .f32) (v65_4 : IVec S16 32) (v66 : IVec S16 32) (v67 : IVec S16 32) (c0_i32_53 : BitVec 32) (c16_i32_54 : BitVec 32) :
    k1_part3 (F := F) i arg2 harg2 arg3 harg3 arg4 harg4 arg5 harg5 arg6 harg6 arg7 harg7 arg8 harg8 arg9 harg9 v12_r0 v12_r1 v12_r2 v12_r3 v5 v58 v59 v65_3 v65_4 v66 v67 c0_i32_53 c16_i32_54
      = pure ⟨(sortD (select v5 v65_3 (placeK v66 v58 v59 (subi (broadcast S16 15#32) (countAll v58 v59 v67)))) (select v5 v65_4 (placeV v66 v58 v59 (subi (broadcast S16 15#32) (countAll v58 v59 v67))))).2, (ewOf v5 ((sortD (select v5 v65_3 (placeK v66 v58 v59 (subi (broadcast S16 15#32) (countAll v58 v59 v67)))) (select v5 v65_4 (placeV v66 v58 v59 (subi (broadcast S16 15#32) (countAll v58 v59 v67))))).1)), (addf (ewOf v5 ((sortD (select v5 v65_3 (placeK v66 v58 v59 (subi (broadcast S16 15#32) (countAll v58 v59 v67)))) (select v5 v65_4 (placeV v66 v58 v59 (subi (broadcast S16 15#32) (countAll v58 v59 v67))))).1)) (roll8 (ewOf v5 ((sortD (select v5 v65_3 (placeK v66 v58 v59 (subi (broadcast S16 15#32) (countAll v58 v59 v67)))) (select v5 v65_4 (placeV v66 v58 v59 (subi (broadcast S16 15#32) (countAll v58 v59 v67))))).1)))), extractStridedSlice S12 ![4] (addf (ewOf v5 ((sortD (select v5 v65_3 (placeK v66 v58 v59 (subi (broadcast S16 15#32) (countAll v58 v59 v67)))) (select v5 v65_4 (placeV v66 v58 v59 (subi (broadcast S16 15#32) (countAll v58 v59 v67))))).1)) (roll8 (ewOf v5 ((sortD (select v5 v65_3 (placeK v66 v58 v59 (subi (broadcast S16 15#32) (countAll v58 v59 v67)))) (select v5 v65_4 (placeV v66 v58 v59 (subi (broadcast S16 15#32) (countAll v58 v59 v67))))).1)))) slices_S16_o4_S12, extractStridedSlice S4 ![0] (addf (ewOf v5 ((sortD (select v5 v65_3 (placeK v66 v58 v59 (subi (broadcast S16 15#32) (countAll v58 v59 v67)))) (select v5 v65_4 (placeV v66 v58 v59 (subi (broadcast S16 15#32) (countAll v58 v59 v67))))).1)) (roll8 (ewOf v5 ((sortD (select v5 v65_3 (placeK v66 v58 v59 (subi (broadcast S16 15#32) (countAll v58 v59 v67)))) (select v5 v65_4 (placeV v66 v58 v59 (subi (broadcast S16 15#32) (countAll v58 v59 v67))))).1)))) slices_S16_o0_S4⟩ := by
  unfold k1_part3
  refine (for_bind_pure k1_t12_loop _ _ _ (countStep _ _) 16 rfl (fun _ _ => rfl) _).trans ?_
  refine (for_bind_pure k1_t13_loop _ _ _ (placeStep _) 16 rfl (fun _ _ => rfl) _).trans ?_
  refine (for_bind_pure k1_t14_loop _ _ _ (countStep _ _) 16 rfl (fun _ _ => rfl) _).trans ?_
  refine (for_bind_pure k1_t15_loop _ _ _ (placeStep _) 16 rfl (fun _ _ => rfl) _).trans ?_
  rfl

set_option maxHeartbeats 4000000 in
theorem part4_eq (k1_t1 : Fin k1_t1_loop.trips) (v12 : BitVec 32) (v104 : FVec F S16 .f32) (v108 : FVec F S16 .f32) (v109 : FVec F S12 .f32) (v110 : FVec F S4 .f32) :
    k1_part4 (F := F) i arg2 harg2 arg3 harg3 arg4 harg4 arg5 harg5 arg6 harg6 arg7 harg7 arg8 harg8 arg9 harg9 v12_r0 v12_r1 v12_r2 v12_r3 k1_t1 v12 v104 v108 v109 v110
      = (do
          let a0 : Vec F S1x16 .f32 ← Prog.lift (.load arg6 (Rect.unit (s := S256x64) (k1_off2 k1_t1 1#32) S1x16.size (k1_off2_inb k1_t1 1)).toLoadRect (View.loadsAt_vmem h_S1x16))
          let a1 : Vec F S1x16 .f32 ← Prog.lift (.load arg6 (Rect.unit (s := S256x64) (k1_off3 k1_t1 1#32) S1x16.size (k1_off3_inb k1_t1 1)).toLoadRect (View.loadsAt_vmem h_S1x16))
          let a2 : Vec F S1x16 .f32 ← Prog.lift (.load arg6 (Rect.unit (s := S256x64) (k1_off4 k1_t1 1#32) S1x16.size (k1_off4_inb k1_t1 1)).toLoadRect (View.loadsAt_vmem h_S1x16))
          let a3 : Vec F S1x16 .f32 ← Prog.lift (.load arg6 (Rect.unit (s := S256x64) (k1_off5 k1_t1 1#32) S1x16.size (k1_off5_inb k1_t1 1)).toLoadRect (View.loadsAt_vmem h_S1x16))
          pure ⟨(divf v104 (broadcast S16 (first (sum1 (sum2 (addf v108 (concatenate S16 0 [⟨S12, v109⟩, ⟨S4, v110⟩] concatenates_S12_S4_S16_d0))))))), laneSum (divf v104 (broadcast S16 (first (sum1 (sum2 (addf v108 (concatenate S16 0 [⟨S12, v109⟩, ⟨S4, v110⟩] concatenates_S12_S4_S16_d0))))))), logOf (divf v104 (broadcast S16 (first (sum1 (sum2 (addf v108 (concatenate S16 0 [⟨S12, v109⟩, ⟨S4, v110⟩] concatenates_S12_S4_S16_d0))))))), (shapeCast S16 a0 shapeCasts_S1x16_S16), (shapeCast S16 a1 shapeCasts_S1x16_S16), (shapeCast S16 a2 shapeCasts_S1x16_S16), (shapeCast S16 a3 shapeCasts_S1x16_S16), lanes, (broadcast S16 0#32), 0#32⟩) := by
  unfold k1_part4
  refine bind_congr fun _ => ?_
  refine bind_congr fun _ => ?_
  refine bind_congr fun _ => ?_
  refine bind_congr fun _ => ?_
  rfl

set_option maxHeartbeats 4000000 in
theorem part5_eq (v3 : IVec S16 32) (v148 : Vec F S16 .f32) (v150 : Vec F S16 .f32) (v152 : Vec F S16 .f32) (v154 : Vec F S16 .f32) (v155 : IVec S16 32) (v156 : IVec S16 32) (c0_i32_79 : BitVec 32) :
    k1_part5 (F := F) i arg2 harg2 arg3 harg3 arg4 harg4 arg5 harg5 arg6 harg6 arg7 harg7 arg8 harg8 arg9 harg9 v12_r0 v12_r1 v12_r2 v12_r3 v3 v148 v150 v152 v154 v155 v156 c0_i32_79
      = pure ⟨(placeK v155 v148 v3 (countAll v148 v3 v156)), (placeV v155 v148 v3 (countAll v148 v3 v156)), (sortA v150 (addi v3 (broadcast S16 16#32))).1, (sortA v150 (addi v3 (broadcast S16 16#32))).2, (sortD v152 (addi v3 (broadcast S16 32#32))).1, (sortD v152 (addi v3 (broadcast S16 32#32))).2, (addi v3 (broadcast S16 48#32)), lanes, countAll v154 (addi v3 (broadcast S16 48#32)) (broadcast S16 0#32)⟩ := by
  unfold k1_part5
  refine (for_bind_pure k1_t16_loop _ _ _ (countStep _ _) 16 rfl (fun _ _ => rfl) _).trans ?_
  refine (for_bind_pure k1_t17_loop _ _ _ (placeStep _) 16 rfl (fun _ _ => rfl) _).trans ?_
  refine (for_bind_pure k1_t18_loop _ _ _ (countStep _ _) 16 rfl (fun _ _ => rfl) _).trans ?_
  refine (for_bind_pure k1_t19_loop _ _ _ (placeStep _) 16 rfl (fun _ _ => rfl) _).trans ?_
  refine (for_bind_pure k1_t20_loop _ _ _ (countStep _ _) 16 rfl (fun _ _ => rfl) _).trans ?_
  refine (for_bind_pure k1_t21_loop _ _ _ (placeStep _) 16 rfl (fun _ _ => rfl) _).trans ?_
  refine (for_bind_pure k1_t22_loop _ _ _ (countStep _ _) 16 rfl (fun _ _ => rfl) _).trans ?_
  rfl

set_option maxHeartbeats 4000000 in
theorem part6_eq (v5 : IVec S16 1) (v154 : Vec F S16 .f32) (v160_3 : Vec F S16 .f32) (v160_4 : IVec S16 32) (v170_3 : Vec F S16 .f32) (v170_4 : IVec S16 32) (v178_3 : Vec F S16 .f32) (v178_4 : IVec S16 32) (v180 : IVec S16 32) (v181 : IVec S16 32) (v184_2 : IVec S16 32) :
    k1_part6 (F := F) i arg2 harg2 arg3 harg3 arg4 harg4 arg5 harg5 arg6 harg6 arg7 harg7 arg8 harg8 arg9 harg9 v12_r0 v12_r1 v12_r2 v12_r3 v5 v154 v160_3 v160_4 v170_3 v170_4 v178_3 v178_4 v180 v181 v184_2
      = pure ⟨(select v5 ((sortD (select v5 v160_3 v170_3) (select v5 v160_4 v170_4)).1) ((sortA (select v5 v178_3 (placeK v181 v154 v180 (subi (broadcast S16 15#32) v184_2))) (select v5 v178_4 (placeV v181 v154 v180 (subi (broadcast S16 15#32) v184_2)))).1)), (select v5 ((sortD (select v5 v160_3 v170_3) (select v5 v160_4 v170_4)).2) ((sortA (select v5 v178_3 (placeK v181 v154 v180 (subi (broadcast S16 15#32) v184_2))) (select v5 v178_4 (placeV v181 v154 v180 (subi (broadcast S16 15#32) v184_2)))).2)), lanes, countAll (select v5 ((sortD (select v5 v160_3 v170_3) (select v5 v160_4 v170_4)).1) ((sortA (select v5 v178_3 (placeK v181 v154 v180 (subi (broadcast S16 15#32) v184_2))) (select v5 v178_4 (placeV v181 v154 v180 (subi (broadcast S16 15#32) v184_2)))).1)) (select v5 ((sortD (select v5 v160_3 v170_3) (select v5 v160_4 v170_4)).2) ((sortA (select v5 v178_3 (placeK v181 v154 v180 (subi (broadcast S16 15#32) v184_2))) (select v5 v178_4 (placeV v181 v154 v180 (subi (broadcast S16 15#32) v184_2)))).2)) (broadcast S16 0#32), 0#32⟩ := by
  unfold k1_part6
  refine (for_bind_pure k1_t23_loop _ _ _ (placeStep _) 16 rfl (fun _ _ => rfl) _).trans ?_
  refine (for_bind_pure k1_t24_loop _ _ _ (countStep _ _) 16 rfl (fun _ _ => rfl) _).trans ?_
  refine (for_bind_pure k1_t25_loop _ _ _ (placeStep _) 16 rfl (fun _ _ => rfl) _).trans ?_
  refine (for_bind_pure k1_t26_loop _ _ _ (countStep _ _) 16 rfl (fun _ _ => rfl) _).trans ?_
  refine (for_bind_pure k1_t27_loop _ _ _ (placeStep _) 16 rfl (fun _ _ => rfl) _).trans ?_
  refine (for_bind_pure k1_t28_loop _ _ _ (countStep _ _) 16 rfl (fun _ _ => rfl) _).trans ?_
  rfl

set_option maxHeartbeats 4000000 in
theorem part7_eq (v5 : IVec S16 1) (v207 : Vec F S16 .f32) (v208 : IVec S16 32) (v209 : IVec S16 32) (v212_2 : IVec S16 32) (c0_i32_143 : BitVec 32) :
    k1_part7 (F := F) i arg2 harg2 arg3 harg3 arg4 harg4 arg5 harg5 arg6 harg6 arg7 harg7 arg8 harg8 arg9 harg9 v12_r0 v12_r1 v12_r2 v12_r3 v5 v207 v208 v209 v212_2 c0_i32_143
      = pure ⟨(placeV v209 v207 v208 v212_2), (wOf (ewOf v5 (placeK v209 v207 v208 v212_2))), (sum2 (sum4 (sum8 (wOf (ewOf v5 (placeK v209 v207 v208 v212_2)))))), extractStridedSlice S15 ![1] (sum2 (sum4 (sum8 (wOf (ewOf v5 (placeK v209 v207 v208 v212_2)))))) slices_S16_o1_S15⟩ := by
  unfold k1_part7
  refine (for_bind_pure k1_t29_loop _ _ _ (placeStep _) 16 rfl (fun _ _ => rfl) _).trans ?_
  rfl

set_option maxHeartbeats 4000000 in
theorem part8_eq (v3 : IVec S16 32) (k1_t1 : Fin k1_t1_loop.trips) (v12 : BitVec 32) (v257 : FVec F S16 .f32) (v269 : FVec F S16 .f32) (v270 : FVec F S15 .f32) :
    k1_part8 (F := F) i arg2 harg2 arg3 harg3 arg4 harg4 arg5 harg5 arg6 harg6 arg7 harg7 arg8 harg8 arg9 harg9 v12_r0 v12_r1 v12_r2 v12_r3 v3 k1_t1 v12 v257 v269 v270
      = (do
          let a0 : Vec F S1x16 .f32 ← Prog.lift (.load arg6 (Rect.unit (s := S256x64) (k1_off2 k1_t1 2#32) S1x16.size (k1_off2_inb k1_t1 2)).toLoadRect (View.loadsAt_vmem h_S1x16))
          let a1 : Vec F S1x16 .f32 ← Prog.lift (.load arg6 (Rect.unit (s := S256x64) (k1_off3 k1_t1 2#32) S1x16.size (k1_off3_inb k1_t1 2)).toLoadRect (View.loadsAt_vmem h_S1x16))
          let a2 : Vec F S1x16 .f32 ← Prog.lift (.load arg6 (Rect.unit (s := S256x64) (k1_off4 k1_t1 2#32) S1x16.size (k1_off4_inb k1_t1 2)).toLoadRect (View.loadsAt_vmem h_S1x16))
          let a3 : Vec F S1x16 .f32 ← Prog.lift (.load arg6 (Rect.unit (s := S256x64) (k1_off5 k1_t1 2#32) S1x16.size (k1_off5_inb k1_t1 2)).toLoadRect (View.loadsAt_vmem h_S1x16))
          pure ⟨first (addf v269 (concatenate S16 0 [⟨S15, v270⟩, ⟨S1, extractStridedSlice S1 ![0] v269 slices_S16_o0_S1⟩] concatenates_S15_S1_S16_d0)), logOf v257, (shapeCast S16 a1 shapeCasts_S1x16_S16), (shapeCast S16 a2 shapeCasts_S1x16_S16), (shapeCast S16 a3 shapeCasts_S1x16_S16), (sortD (shapeCast S16 a0 shapeCasts_S1x16_S16) v3).1, (sortD (shapeCast S16 a0 shapeCasts_S1x16_S16) v3).2, (addi v3 (broadcast S16 16#32)), lanes, (subi (broadcast S16 15#32) (countAll (shapeCast S16 a1 shapeCasts_S1x16_S16) (addi v3 (broadcast S16 16#32)) (broadcast S16 0#32))), 0#32⟩) := by
  unfold k1_part8
  refine bind_congr fun _ => ?_
  refine bind_congr fun _ => ?_
  refine bind_congr fun _ => ?_
  refine bind_congr fun _ => ?_
  refine (for_bind_pure k1_t30_loop _ _ _ (countStep _ _) 16 rfl (fun _ _ => rfl) _).trans ?_
  refine (for_bind_pure k1_t31_loop _ _ _ (placeStep _) 16 rfl (fun _ _ => rfl) _).trans ?_
  refine (for_bind_pure k1_t32_loop _ _ _ (countStep _ _) 16 rfl (fun _ _ => rfl) _).trans ?_
  rfl

set_option maxHeartbeats 4000000 in
theorem part9_eq (v3 : IVec S16 32) (v5 : IVec S16 1) (v283 : Vec F S16 .f32) (v285 : Vec F S16 .f32) (v287 : Vec F S16 .f32) (v293_3 : Vec F S16 .f32) (v293_4 : IVec S16 32) (v295 : IVec S16 32) (v296 : IVec S16 32) (v301 : IVec S16 32) (c0_i32_170 : BitVec 32) :
    k1_part9 (F := F) i arg2 harg2 arg3 harg3 arg4 harg4 arg5 harg5 arg6 harg6 arg7 harg7 arg8 harg8 arg9 harg9 v12_r0 v12_r1 v12_r2 v12_r3 v3 v5 v283 v285 v287 v293_3 v293_4 v295 v296 v301 c0_i32_170
      = pure ⟨(select v5 ((sortD v285 (addi v3 (broadcast S16 32#32))).1) ((sortA v287 (addi v3 (broadcast S16 48#32))).1)), (select v5 ((sortD v285 (addi v3 (broadcast S16 32#32))).2) ((sortA v287 (addi v3 (broadcast S16 48#32))).2)), (sortD (select v5 v293_3 (placeK v296 v283 v295 v301)) (select v5 v293_4 (placeV v296 v283 v295 v301))).1, (sortD (select v5 v293_3 (placeK v296 v283 v295 v301)) (select v5 v293_4 (placeV v296 v283 v295 v301))).2⟩ := by
  unfold k1_part9
  refine (for_bind_pure k1_t33_loop _ _ _ (placeStep _) 16 rfl (fun _ _ => rfl) _).trans ?_
  refine (for_bind_pure k1_t34_loop _ _ _ (countStep _ _) 16 rfl (fun _ _ => rfl) _).trans ?_
  refine (for_bind_pure k1_t35_loop _ _ _ (placeStep _) 16 rfl (fun _ _ => rfl) _).trans ?_
  refine (for_bind_pure k1_t36_loop _ _ _ (countStep _ _) 16 rfl (fun _ _ => rfl) _).trans ?_
  refine (for_bind_pure k1_t37_loop _ _ _ (placeStep _) 16 rfl (fun _ _ => rfl) _).trans ?_
  refine (for_bind_pure k1_t38_loop _ _ _ (countStep _ _) 16 rfl (fun _ _ => rfl) _).trans ?_
  refine (for_bind_pure k1_t39_loop _ _ _ (placeStep _) 16 rfl (fun _ _ => rfl) _).trans ?_
  rfl

set_option maxHeartbeats 4000000 in
theorem part10_eq (v5 : IVec S16 1) (v324 : Vec F S16 .f32) (v325 : IVec S16 32) (v331_3 : Vec F S16 .f32) (v331_4 : IVec S16 32) :
    k1_part10 (F := F) i arg2 harg2 arg3 harg3 arg4 harg4 arg5 harg5 arg6 harg6 arg7 harg7 arg8 harg8 arg9 harg9 v12_r0 v12_r1 v12_r2 v12_r3 v5 v324 v325 v331_3 v331_4
      = pure ⟨(sortD (select v5 (v331_3) ((sortA v324 v325).1)) (select v5 (v331_4) ((sortA v324 v325).2))).2, ewOf v5 ((sortD (select v5 (v331_3) ((sortA v324 v325).1)) (select v5 (v331_4) ((sortA v324 v325).2))).1)⟩ := by
  unfold k1_part10
  refine (for_bind_pure k1_t40_loop _ _ _ (countStep _ _) 16 rfl (fun _ _ => rfl) _).trans ?_
  refine (for_bind_pure k1_t41_loop _ _ _ (placeStep _) 16 rfl (fun _ _ => rfl) _).trans ?_
  refine (for_bind_pure k1_t42_loop _ _ _ (countStep _ _) 16 rfl (fun _ _ => rfl) _).trans ?_
  refine (for_bind_pure k1_t43_loop _ _ _ (placeStep _) 16 rfl (fun _ _ => rfl) _).trans ?_
  rfl

set_option maxHeartbeats 4000000 in
theorem part11_eq (k1_t1 : Fin k1_t1_loop.trips) (v12 : BitVec 32) (v370 : FVec F S16 .f32) :
    k1_part11 (F := F) i arg2 harg2 arg3 harg3 arg4 harg4 arg5 harg5 arg6 harg6 arg7 harg7 arg8 harg8 arg9 harg9 v12_r0 v12_r1 v12_r2 v12_r3 k1_t1 v12 v370
      = (do
          let a0 : Vec F S1x16 .f32 ← Prog.lift (.load arg6 (Rect.unit (s := S256x64) (k1_off2 k1_t1 3#32) S1x16.size (k1_off2_inb k1_t1 3)).toLoadRect (View.loadsAt_vmem h_S1x16))
          let a1 : Vec F S1x16 .f32 ← Prog.lift (.load arg6 (Rect.unit (s := S256x64) (k1_off3 k1_t1 3#32) S1x16.size (k1_off3_inb k1_t1 3)).toLoadRect (View.loadsAt_vmem h_S1x16))
          let a2 : Vec F S1x16 .f32 ← Prog.lift (.load arg6 (Rect.unit (s := S256x64) (k1_off4 k1_t1 3#32) S1x16.size (k1_off4_inb k1_t1 3)).toLoadRect (View.loadsAt_vmem h_S1x16))
          let a3 : Vec F S1x16 .f32 ← Prog.lift (.load arg6 (Rect.unit (s := S256x64) (k1_off5 k1_t1 3#32) S1x16.size (k1_off5_inb k1_t1 3)).toLoadRect (View.loadsAt_vmem h_S1x16))
          pure ⟨(wOf v370), laneSum (wOf v370), logOf (wOf v370), (shapeCast S16 a0 shapeCasts_S1x16_S16), (shapeCast S16 a1 shapeCasts_S1x16_S16), (shapeCast S16 a2 shapeCasts_S1x16_S16), (shapeCast S16 a3 shapeCasts_S1x16_S16)⟩) := by
  unfold k1_part11
  refine bind_congr fun _ => ?_
  refine bind_congr fun _ => ?_
  refine bind_congr fun _ => ?_
  refine bind_congr fun _ => ?_
  rfl

set_option maxHeartbeats 4000000 in
theorem part12_eq (v3 : IVec S16 32) (v414 : Vec F S16 .f32) (v416 : Vec F S16 .f32) (v418 : Vec F S16 .f32) :
    k1_part12 (F := F) i arg2 harg2 arg3 harg3 arg4 harg4 arg5 harg5 arg6 harg6 arg7 harg7 arg8 harg8 arg9 harg9 v12_r0 v12_r1 v12_r2 v12_r3 v3 v414 v416 v418
      = pure ⟨(sortD v414 v3).1, (sortD v414 v3).2, (sortA v416 (addi v3 (broadcast S16 16#32))).1, (sortA v416 (addi v3 (broadcast S16 16#32))).2, (sortD v418 (addi v3 (broadcast S16 32#32))).1, (sortD v418 (addi v3 (broadcast S16 32#32))).2, (addi v3 (broadcast S16 48#32)), lanes, (broadcast S16 0#32)⟩ := by
  unfold k1_part12
  refine (for_bind_pure k1_t44_loop _ _ _ (countStep _ _) 16 rfl (fun _ _ => rfl) _).trans ?_
  refine (for_bind_pure k1_t45_loop _ _ _ (placeStep _) 16 rfl (fun _ _ => rfl) _).trans ?_
  refine (for_bind_pure k1_t46_loop _ _ _ (countStep _ _) 16 rfl (fun _ _ => rfl) _).trans ?_
  refine (for_bind_pure k1_t47_loop _ _ _ (placeStep _) 16 rfl (fun _ _ => rfl) _).trans ?_
  refine (for_bind_pure k1_t48_loop _ _ _ (countStep _ _) 16 rfl (fun _ _ => rfl) _).trans ?_
  refine (for_bind_pure k1_t49_loop _ _ _ (placeStep _) 16 rfl (fun _ _ => rfl) _).trans ?_
  rfl

set_option maxHeartbeats 4000000 in
theorem part13_eq (v5 : IVec S16 1) (v420 : Vec F S16 .f32) (v426_3 : Vec F S16 .f32) (v426_4 : IVec S16 32) (v436_3 : Vec F S16 .f32) (v436_4 : IVec S16 32) (v444_3 : Vec F S16 .f32) (v444_4 : IVec S16 32) (v446 : IVec S16 32) (v447 : IVec S16 32) (v448 : IVec S16 32) :
    k1_part13 (F := F) i arg2 harg2 arg3 harg3 arg4 harg4 arg5 harg5 arg6 harg6 arg7 harg7 arg8 harg8 arg9 harg9 v12_r0 v12_r1 v12_r2 v12_r3 v5 v420 v426_3 v426_4 v436_3 v436_4 v444_3 v444_4 v446 v447 v448
      = pure ⟨(select v5 ((sortD (select v5 v426_3 v436_3) (select v5 v426_4 v436_4)).1) ((sortA (select v5 v444_3 (placeK v447 v420 v446 (subi (broadcast S16 15#32) (countAll v420 v446 v448)))) (select v5 v444_4 (placeV v447 v420 v446 (subi (broadcast S16 15#32) (countAll v420 v446 v448))))).1)), (select v5 ((sortD (select v5 v426_3 v436_3) (select v5 v426_4 v436_4)).2) ((sortA (select v5 v444_3 (placeK v447 v420 v446 (subi (broadcast S16 15#32) (countAll v420 v446 v448)))) (select v5 v444_4 (placeV v447 v420 v446 (subi (broadcast S16 15#32) (countAll v420 v446 v448))))).2)), lanes, (broadcast S16 0#32), 0#32⟩ := by
  unfold k1_part13
  refine (for_bind_pure k1_t50_loop _ _ _ (countStep _ _) 16 rfl (fun _ _ => rfl) _).trans ?_
  refine (for_bind_pure k1_t51_loop _ _ _ (placeStep _) 16 rfl (fun _ _ => rfl) _).trans ?_
  refine (for_bind_pure k1_t52_loop _ _ _ (countStep _ _) 16 rfl (fun _ _ => rfl) _).trans ?_
  refine (for_bind_pure k1_t53_loop _ _ _ (placeStep _) 16 rfl (fun _ _ => rfl) _).trans ?_
  refine (for_bind_pure k1_t54_loop _ _ _ (countStep _ _) 16 rfl (fun _ _ => rfl) _).trans ?_
  refine (for_bind_pure k1_t55_loop _ _ _ (placeStep _) 16 rfl (fun _ _ => rfl) _).trans ?_
  rfl

set_option maxHeartbeats 4000000 in
theorem part14_eq (v5 : IVec S16 1) (v473 : Vec F S16 .f32) (v474 : IVec S16 32) (v475 : IVec S16 32) (v476 : IVec S16 32) (c0_i32_290 : BitVec 32) :
    k1_part14 (F := F) i arg2 harg2 arg3 harg3 arg4 harg4 arg5 harg5 arg6 harg6 arg7 harg7 arg8 harg8 arg9 harg9 v12_r0 v12_r1 v12_r2 v12_r3 v5 v473 v474 v475 v476 c0_i32_290
      = pure ⟨(placeV v475 v473 v474 (countAll v473 v474 v476)), (wOf (ewOf v5 (placeK v475 v473 v474 (countAll v473 v474 v476)))), sum8 (wOf (ewOf v5 (placeK v475 v473 v474 (countAll v473 v474 v476)))), roll4 (sum8 (wOf (ewOf v5 (placeK v475 v473 v474 (countAll v473 v474 v476)))))⟩ := by
  unfold k1_part14
  refine (for_bind_pure k1_t56_loop _ _ _ (countStep _ _) 16 rfl (fun _ _ => rfl) _).trans ?_
  refine (for_bind_pure k1_t57_loop _ _ _ (placeStep _) 16 rfl (fun _ _ => rfl) _).trans ?_
  rfl

end Cert.Proof.Router

end
-- ==== Proof.Trip.lean ====
/-
  The router's loop body in normal form: sixteen loads, then for each of the four tokens the row's clearing and its
  three scatters, of values that are plain functions of the loaded vectors.
-/
module

public import proofs.«01_k».proof.Proof.Parts

@[expose] public section

noncomputable section

namespace Cert.Proof.Router

open Cert.KernelIdeal Cert.KernelIdeal.Gen
open Idealize.ShloMosaic Idealize.SL.Sem

variable {F : FTy → Type} [FloatOps F] [Named F]

/-- The lanes below eight, and lane 0. -/
def low8 : IVec S16 1 := cmpi .slt lanes (broadcast S16 8#32)
def low1 : IVec S16 1 := cmpi .slt lanes (broadcast S16 1#32)
def zeros : FVec F S16 .f32 := broadcast S16 (Scalar.ofBits .f32 0x00000000#32)
def floors : FVec F S16 .f32 := broadcast S16 (Scalar.ofBits .f32 0xFF800000#32)
def izeros : IVec S16 32 := broadcast S16 0#32

/-- The lower eight lanes of one sorted vector of pairs and the upper eight of another. -/
def pick (a b : Vec F S16 .f32 × IVec S16 32) : Vec F S16 .f32 × IVec S16 32 := (select low8 a.1 b.1, select low8 a.2 b.2)

/-- The sixty-four scores of a token, in four vectors, to the sorted vector whose lower eight lanes are the greatest eight. -/
def top (q0 q1 q2 q3 : Vec F S16 .f32) : Vec F S16 .f32 × IVec S16 32 :=
  let l := pick (sortD q0 lanes) (sortA q1 (addi lanes (broadcast S16 16#32)))
  let r := pick (sortD q2 (addi lanes (broadcast S16 32#32))) (sortA q3 (addi lanes (broadcast S16 48#32)))
  let m := pick (sortD l.1 l.2) (sortA r.1 r.2)
  sortD m.1 m.2

/-- The expert of each lane, its weight, the weight's logarithm, and the sum of the weights. -/
def expertOf (q0 q1 q2 q3 : Vec F S16 .f32) : IVec S16 32 := (top q0 q1 q2 q3).2
def weightOf (q0 q1 q2 q3 : Vec F S16 .f32) : FVec F S16 .f32 := wOf (ewOf low8 (top q0 q1 q2 q3).1)
def logWeightOf (q0 q1 q2 q3 : Vec F S16 .f32) : FVec F S16 .f32 := logOf (weightOf q0 q1 q2 q3)
def totalOf (q0 q1 q2 q3 : Vec F S16 .f32) : F .f32 := laneSum (weightOf q0 q1 q2 q3)

/-- A row's four loaded pieces as vectors. -/
def asLanes (a : Vec F S1x16 .f32) : Vec F S16 .f32 := shapeCast S16 a shapeCasts_S1x16_S16
def asRow (a : FVec F S16 .f32) : Vec F S1x16 .f32 := shapeCast S1x16 a shapeCasts_S16_S1x16

section Prog
variable (i : grid1.Coords)

/-- The unit rectangle of sixteen words at `o`. -/
abbrev piece (o : Fin 2 → Nat) (h : ∀ a, o a + S1x16.size a ≤ S256x64.size a) : Rect S256x64 := Rect.unit (s := S256x64) o S1x16.size h

abbrev TileProg (F : FTy → Type) [FloatOps F] [Named F] (i : grid1.Coords) (α : Type) : Type _ :=
  Prog (TpuEff nD τ sig (Elt F) Λ₀ (.scVector ((i 0).castLE hcore1) ((i 1).castLE hsub1))) α

/-- The four pieces of a row of `m` read and written over with `v`. -/
def blank (m : Memref sig .scVector .vmem S256x64 .f32) (v : FVec F S16 .f32)
    (o0 : Fin 2 → Nat) (h0 : ∀ a, o0 a + S1x16.size a ≤ S256x64.size a) (o1 : Fin 2 → Nat) (h1 : ∀ a, o1 a + S1x16.size a ≤ S256x64.size a)
    (o2 : Fin 2 → Nat) (h2 : ∀ a, o2 a + S1x16.size a ≤ S256x64.size a) (o3 : Fin 2 → Nat) (h3 : ∀ a, o3 a + S1x16.size a ≤ S256x64.size a) :
    TileProg F i PUnit := do
  let _a : Vec F S1x16 .f32 ← Prog.lift (.load m (piece o0 h0).toLoadRect (View.loadsAt_vmem h_S1x16))
  Prog.lift (.store m (piece o0 h0) (asRow v) Finset.univ (View.stores_vmem_bits_univ h_S1x16 rfl) (.inl rfl))
  let _a : Vec F S1x16 .f32 ← Prog.lift (.load m (piece o1 h1).toLoadRect (View.loadsAt_vmem h_S1x16))
  Prog.lift (.store m (piece o1 h1) (asRow v) Finset.univ (View.stores_vmem_bits_univ h_S1x16 rfl) (.inl rfl))
  let _a : Vec F S1x16 .f32 ← Prog.lift (.load m (piece o2 h2).toLoadRect (View.loadsAt_vmem h_S1x16))
  Prog.lift (.store m (piece o2 h2) (asRow v) Finset.univ (View.stores_vmem_bits_univ h_S1x16 rfl) (.inl rfl))
  let _a : Vec F S1x16 .f32 ← Prog.lift (.load m (piece o3 h3).toLoadRect (View.loadsAt_vmem h_S1x16))
  Prog.lift (.store m (piece o3 h3) (asRow v) Finset.univ (View.stores_vmem_bits_univ h_S1x16 rfl) (.inl rfl))

/-- One token's rows of the three outputs. -/
def storeTok (arg7 arg8 : Memref sig .scVector .vmem S256x64 .f32) (arg9 : Memref sig .scVector .vmem S256x1 .f32)
    (o0 : Fin 2 → Nat) (h0 : ∀ a, o0 a + S1x16.size a ≤ S256x64.size a) (o1 : Fin 2 → Nat) (h1 : ∀ a, o1 a + S1x16.size a ≤ S256x64.size a)
    (o2 : Fin 2 → Nat) (h2 : ∀ a, o2 a + S1x16.size a ≤ S256x64.size a) (o3 : Fin 2 → Nat) (h3 : ∀ a, o3 a + S1x16.size a ≤ S256x64.size a)
    (tok fv : IVec S16 32) (w lw : FVec F S16 .f32) (pt : F .f32) : TileProg F i PUnit := do
  have hw : k1_chk1 izeros fv tok := (← Prog.lift (TpuEff.assume (k1_chk1 izeros fv tok) (k1_chk1.dec izeros fv tok))).down
  blank i arg7 zeros o0 h0 o1 h1 o2 h2 o3 h3
  blank i arg8 floors o0 h0 o1 h1 o2 h2 o3 h3
  SparseCore.vectorStoreIdx arg7 ![tok, fv] w low8 false (k1_idx1_inb izeros fv tok hw) (View.stores_vmem_bits_univ h_S256x64 rfl)
  SparseCore.vectorStoreIdx arg8 ![tok, fv] lw low8 false (k1_idx2_inb izeros fv tok hw) (View.stores_vmem_bits_univ h_S256x64 rfl)
  SparseCore.vectorStoreIdx arg9 ![tok, izeros] (broadcast S16 pt) low1 false (k1_idx3_inb izeros fv tok hw) (View.stores_vmem_bits_univ h_S256x1 rfl)

/-- The row a token's scatters name. -/
def tokOf (k1_t1 : Fin k1_t1_loop.trips) (j : BitVec 32) : IVec S16 32 :=
  broadcast S16 (Scalar.addi (Scalar.muli (Scf.iv 0#32 1#32 k1_t1) 4#32) j)

/-- One trip: four tokens. -/
def trip (arg6 arg7 arg8 : Memref sig .scVector .vmem S256x64 .f32) (arg9 : Memref sig .scVector .vmem S256x1 .f32)
    (k1_t1 : Fin k1_t1_loop.trips) : TileProg F i PUnit := do
  let a0 : Vec F S1x16 .f32 ← Prog.lift (.load arg6 (piece (k1_off2 k1_t1 0#32) (k1_off2_inb k1_t1 0)).toLoadRect (View.loadsAt_vmem h_S1x16))
  let a1 : Vec F S1x16 .f32 ← Prog.lift (.load arg6 (piece (k1_off3 k1_t1 0#32) (k1_off3_inb k1_t1 0)).toLoadRect (View.loadsAt_vmem h_S1x16))
  let a2 : Vec F S1x16 .f32 ← Prog.lift (.load arg6 (piece (k1_off4 k1_t1 0#32) (k1_off4_inb k1_t1 0)).toLoadRect (View.loadsAt_vmem h_S1x16))
  let a3 : Vec F S1x16 .f32 ← Prog.lift (.load arg6 (piece (k1_off5 k1_t1 0#32) (k1_off5_inb k1_t1 0)).toLoadRect (View.loadsAt_vmem h_S1x16))
  let b0 : Vec F S1x16 .f32 ← Prog.lift (.load arg6 (piece (k1_off2 k1_t1 1#32) (k1_off2_inb k1_t1 1)).toLoadRect (View.loadsAt_vmem h_S1x16))
  let b1 : Vec F S1x16 .f32 ← Prog.lift (.load arg6 (piece (k1_off3 k1_t1 1#32) (k1_off3_inb k1_t1 1)).toLoadRect (View.loadsAt_vmem h_S1x16))
  let b2 : Vec F S1x16 .f32 ← Prog.lift (.load arg6 (piece (k1_off4 k1_t1 1#32) (k1_off4_inb k1_t1 1)).toLoadRect (View.loadsAt_vmem h_S1x16))
  let b3 : Vec F S1x16 .f32 ← Prog.lift (.load arg6 (piece (k1_off5 k1_t1 1#32) (k1_off5_inb k1_t1 1)).toLoadRect (View.loadsAt_vmem h_S1x16))
  let c0 : Vec F S1x16 .f32 ← Prog.lift (.load arg6 (piece (k1_off2 k1_t1 2#32) (k1_off2_inb k1_t1 2)).toLoadRect (View.loadsAt_vmem h_S1x16))
  let c1 : Vec F S1x16 .f32 ← Prog.lift (.load arg6 (piece (k1_off3 k1_t1 2#32) (k1_off3_inb k1_t1 2)).toLoadRect (View.loadsAt_vmem h_S1x16))
  let c2 : Vec F S1x16 .f32 ← Prog.lift (.load arg6 (piece (k1_off4 k1_t1 2#32) (k1_off4_inb k1_t1 2)).toLoadRect (View.loadsAt_vmem h_S1x16))
  let c3 : Vec F S1x16 .f32 ← Prog.lift (.load arg6 (piece (k1_off5 k1_t1 2#32) (k1_off5_inb k1_t1 2)).toLoadRect (View.loadsAt_vmem h_S1x16))
  let d0 : Vec F S1x16 .f32 ← Prog.lift (.load arg6 (piece (k1_off2 k1_t1 3#32) (k1_off2_inb k1_t1 3)).toLoadRect (View.loadsAt_vmem h_S1x16))
  let d1 : Vec F S1x16 .f32 ← Prog.lift (.load arg6 (piece (k1_off3 k1_t1 3#32) (k1_off3_inb k1_t1 3)).toLoadRect (View.loadsAt_vmem h_S1x16))
  let d2 : Vec F S1x16 .f32 ← Prog.lift (.load arg6 (piece (k1_off4 k1_t1 3#32) (k1_off4_inb k1_t1 3)).toLoadRect (View.loadsAt_vmem h_S1x16))
  let d3 : Vec F S1x16 .f32 ← Prog.lift (.load arg6 (piece (k1_off5 k1_t1 3#32) (k1_off5_inb k1_t1 3)).toLoadRect (View.loadsAt_vmem h_S1x16))
  storeTok i arg7 arg8 arg9 (k1_off2 k1_t1 0#32) (k1_off2_inb k1_t1 0) (k1_off3 k1_t1 0#32) (k1_off3_inb k1_t1 0) (k1_off4 k1_t1 0#32) (k1_off4_inb k1_t1 0) (k1_off5 k1_t1 0#32) (k1_off5_inb k1_t1 0) (tokOf k1_t1 0#32)
    (expertOf (asLanes a0) (asLanes a1) (asLanes a2) (asLanes a3)) (weightOf (asLanes a0) (asLanes a1) (asLanes a2) (asLanes a3))
    (logWeightOf (asLanes a0) (asLanes a1) (asLanes a2) (asLanes a3)) (totalOf (asLanes a0) (asLanes a1) (asLanes a2) (asLanes a3))
  storeTok i arg7 arg8 arg9 (k1_off6 k1_t1) (k1_off6_inb k1_t1) (k1_off7 k1_t1) (k1_off7_inb k1_t1) (k1_off8 k1_t1) (k1_off8_inb k1_t1) (k1_off9 k1_t1) (k1_off9_inb k1_t1) (tokOf k1_t1 1#32)
    (expertOf (asLanes b0) (asLanes b1) (asLanes b2) (asLanes b3)) (weightOf (asLanes b0) (asLanes b1) (asLanes b2) (asLanes b3))
    (logWeightOf (asLanes b0) (asLanes b1) (asLanes b2) (asLanes b3)) (totalOf (asLanes b0) (asLanes b1) (asLanes b2) (asLanes b3))
  storeTok i arg7 arg8 arg9 (k1_off10 k1_t1) (k1_off10_inb k1_t1) (k1_off11 k1_t1) (k1_off11_inb k1_t1) (k1_off12 k1_t1) (k1_off12_inb k1_t1) (k1_off13 k1_t1) (k1_off13_inb k1_t1) (tokOf k1_t1 2#32)
    (expertOf (asLanes c0) (asLanes c1) (asLanes c2) (asLanes c3)) (weightOf (asLanes c0) (asLanes c1) (asLanes c2) (asLanes c3))
    (logWeightOf (asLanes c0) (asLanes c1) (asLanes c2) (asLanes c3)) (totalOf (asLanes c0) (asLanes c1) (asLanes c2) (asLanes c3))
  storeTok i arg7 arg8 arg9 (k1_off14 k1_t1) (k1_off14_inb k1_t1) (k1_off15 k1_t1) (k1_off15_inb k1_t1) (k1_off16 k1_t1) (k1_off16_inb k1_t1) (k1_off17 k1_t1) (k1_off17_inb k1_t1) (tokOf k1_t1 3#32)
    (expertOf (asLanes d0) (asLanes d1) (asLanes d2) (asLanes d3)) (weightOf (asLanes d0) (asLanes d1) (asLanes d2) (asLanes d3))
    (logWeightOf (asLanes d0) (asLanes d1) (asLanes d2) (asLanes d3)) (totalOf (asLanes d0) (asLanes d1) (asLanes d2) (asLanes d3))
end Prog

variable (i : grid1.Coords) (arg2 : Memref sig .scVector .hbm S8192x64 .f32) (harg2 : arg2.IsWhole) (arg3 : Memref sig .scVector .hbm S8192x64 .f32) (harg3 : arg3.IsWhole) (arg4 : Memref sig .scVector .hbm S8192x1 .f32) (harg4 : arg4.IsWhole) (arg5 : Memref sig .scVector .hbm S8192x64 .f32) (harg5 : arg5.IsWhole) (arg6 : Memref sig .scVector .vmem S256x64 .f32) (harg6 : arg6.IsWhole) (arg7 : Memref sig .scVector .vmem S256x64 .f32) (harg7 : arg7.IsWhole) (arg8 : Memref sig .scVector .vmem S256x64 .f32) (harg8 : arg8.IsWhole) (arg9 : Memref sig .scVector .vmem S256x1 .f32) (harg9 : arg9.IsWhole) (v12_r0 : DmaSems sig S_) (v12_r1 : DmaSems sig S_) (v12_r2 : DmaSems sig S_) (v12_r3 : DmaSems sig S_)

set_option maxHeartbeats 8000000 in
/-- The last parts of the body are the four tokens' rows. -/
theorem stores_eq (k1_t1 : Fin k1_t1_loop.trips) (v81_4 v214_4 v347_4 v480_4 : IVec S16 32) (v124 v145 v257 v278 v390 v411 v523 v527 v530 : FVec F S16 .f32) (v142 v275 v408 : F .f32)
    (v3 : IVec S16 32) :
    (do
    let v5 : IVec S16 1 := low8
    let v7 : IVec S16 1 := low1
    let v8 : FVec F S16 .f32 := zeros
    let v9 : FVec F S16 .f32 := floors
    let v10 : IVec S16 32 := izeros
    let v12 : BitVec 32 := Scalar.muli (Scf.iv 0#32 1#32 k1_t1) 4#32
    let ⟨v541, v544, v546, k1_hw1⟩ : Σ' (v541 : F .f32) (v544 : FVec F S16 .f32) (v546 : IVec S16 32), k1_chk1 v10 v81_4 v546 ← k1_part15 i arg2 harg2 arg3 harg3 arg4 harg4 arg5 harg5 arg6 harg6 arg7 harg7 arg8 harg8 arg9 harg9 v12_r0 v12_r1 v12_r2 v12_r3 v5 v8 v9 v10 k1_t1 v12 v81_4 v124 v523 v527 v530
    let ⟨v583, v584, k1_hw3⟩ : Σ' (v583 : BitVec 32) (v584 : IVec S16 32), k1_chk3 v10 v347_4 v584 ← k1_part16 i arg2 harg2 arg3 harg3 arg4 harg4 arg5 harg5 arg6 harg6 arg7 harg7 arg8 harg8 arg9 harg9 v12_r0 v12_r1 v12_r2 v12_r3 v5 v7 v8 v9 v10 k1_t1 v12 v81_4 v142 v145 v214_4 v257 v275 v278 v347_4 v546 k1_hw1
    let ⟨v602, v603, k1_hw4⟩ : Σ' (v602 : BitVec 32) (v603 : IVec S16 32), k1_chk4 v10 v480_4 v603 ← k1_part17 i arg2 harg2 arg3 harg3 arg4 harg4 arg5 harg5 arg6 harg6 arg7 harg7 arg8 harg8 arg9 harg9 v12_r0 v12_r1 v12_r2 v12_r3 v5 v7 v8 v9 v10 k1_t1 v12 v347_4 v390 v408 v411 v480_4 v583 v584 k1_hw3
    let v611_ld : Vec F S1x16 .f32 ← Prog.lift (.load arg7 (Rect.unit (s := S256x64) (k1_off17 k1_t1) S1x16.size (k1_off17_inb k1_t1)).toLoadRect (View.loadsAt_vmem h_S1x16))
    have v611 : Vec F S16 .f32 := shapeCast S16 v611_ld shapeCasts_S1x16_S16
    Prog.lift (.store arg7 (Rect.unit (s := S256x64) (k1_off17 k1_t1) S1x16.size (k1_off17_inb k1_t1)) (shapeCast S1x16 v8 shapeCasts_S16_S1x16) Finset.univ (View.stores_vmem_bits_univ h_S1x16 rfl) (.inl rfl))
    let v612 : Index := Scalar.indexCast v602
    let c0_332 : Index := 0#32
    let v613_ld : Vec F S1x16 .f32 ← Prog.lift (.load arg8 (Rect.unit (s := S256x64) (k1_off14 k1_t1) S1x16.size (k1_off14_inb k1_t1)).toLoadRect (View.loadsAt_vmem h_S1x16))
    have v613 : Vec F S16 .f32 := shapeCast S16 v613_ld shapeCasts_S1x16_S16
    Prog.lift (.store arg8 (Rect.unit (s := S256x64) (k1_off14 k1_t1) S1x16.size (k1_off14_inb k1_t1)) (shapeCast S1x16 v9 shapeCasts_S16_S1x16) Finset.univ (View.stores_vmem_bits_univ h_S1x16 rfl) (.inl rfl))
    let v614 : Index := Scalar.indexCast v602
    let c16_333 : Index := 16#32
    let v615_ld : Vec F S1x16 .f32 ← Prog.lift (.load arg8 (Rect.unit (s := S256x64) (k1_off15 k1_t1) S1x16.size (k1_off15_inb k1_t1)).toLoadRect (View.loadsAt_vmem h_S1x16))
    have v615 : Vec F S16 .f32 := shapeCast S16 v615_ld shapeCasts_S1x16_S16
    Prog.lift (.store arg8 (Rect.unit (s := S256x64) (k1_off15 k1_t1) S1x16.size (k1_off15_inb k1_t1)) (shapeCast S1x16 v9 shapeCasts_S16_S1x16) Finset.univ (View.stores_vmem_bits_univ h_S1x16 rfl) (.inl rfl))
    let v616 : Index := Scalar.indexCast v602
    let c32_334 : Index := 32#32
    let v617_ld : Vec F S1x16 .f32 ← Prog.lift (.load arg8 (Rect.unit (s := S256x64) (k1_off16 k1_t1) S1x16.size (k1_off16_inb k1_t1)).toLoadRect (View.loadsAt_vmem h_S1x16))
    have v617 : Vec F S16 .f32 := shapeCast S16 v617_ld shapeCasts_S1x16_S16
    Prog.lift (.store arg8 (Rect.unit (s := S256x64) (k1_off16 k1_t1) S1x16.size (k1_off16_inb k1_t1)) (shapeCast S1x16 v9 shapeCasts_S16_S1x16) Finset.univ (View.stores_vmem_bits_univ h_S1x16 rfl) (.inl rfl))
    let v618 : Index := Scalar.indexCast v602
    let c48_335 : Index := 48#32
    let v619_ld : Vec F S1x16 .f32 ← Prog.lift (.load arg8 (Rect.unit (s := S256x64) (k1_off17 k1_t1) S1x16.size (k1_off17_inb k1_t1)).toLoadRect (View.loadsAt_vmem h_S1x16))
    have v619 : Vec F S16 .f32 := shapeCast S16 v619_ld shapeCasts_S1x16_S16
    Prog.lift (.store arg8 (Rect.unit (s := S256x64) (k1_off17 k1_t1) S1x16.size (k1_off17_inb k1_t1)) (shapeCast S1x16 v9 shapeCasts_S16_S1x16) Finset.univ (View.stores_vmem_bits_univ h_S1x16 rfl) (.inl rfl))
    SparseCore.vectorStoreIdx arg7 ![v603, v480_4] v523 v5 false (k1_idx10_inb v10 v480_4 v603 k1_hw4) (View.stores_vmem_bits_univ h_S256x64 rfl)
    SparseCore.vectorStoreIdx arg8 ![v603, v480_4] v544 v5 false (k1_idx11_inb v10 v480_4 v603 k1_hw4) (View.stores_vmem_bits_univ h_S256x64 rfl)
    have v620 : FVec F S16 .f32 := broadcast S16 v541
    SparseCore.vectorStoreIdx arg9 ![v603, v10] v620 v7 false (k1_idx12_inb v10 v480_4 v603 k1_hw4) (View.stores_vmem_bits_univ h_S256x1 rfl)
    pure ⟨⟩ : TileProg F i PUnit) = (do
    storeTok i arg7 arg8 arg9 (k1_off2 k1_t1 0#32) (k1_off2_inb k1_t1 0) (k1_off3 k1_t1 0#32) (k1_off3_inb k1_t1 0) (k1_off4 k1_t1 0#32) (k1_off4_inb k1_t1 0) (k1_off5 k1_t1 0#32) (k1_off5_inb k1_t1 0) (tokOf k1_t1 0#32) v81_4 v124 v145 v142
    storeTok i arg7 arg8 arg9 (k1_off6 k1_t1) (k1_off6_inb k1_t1) (k1_off7 k1_t1) (k1_off7_inb k1_t1) (k1_off8 k1_t1) (k1_off8_inb k1_t1) (k1_off9 k1_t1) (k1_off9_inb k1_t1) (tokOf k1_t1 1#32) v214_4 v257 v278 v275
    storeTok i arg7 arg8 arg9 (k1_off10 k1_t1) (k1_off10_inb k1_t1) (k1_off11 k1_t1) (k1_off11_inb k1_t1) (k1_off12 k1_t1) (k1_off12_inb k1_t1) (k1_off13 k1_t1) (k1_off13_inb k1_t1) (tokOf k1_t1 2#32) v347_4 v390 v411 v408
    storeTok i arg7 arg8 arg9 (k1_off14 k1_t1) (k1_off14_inb k1_t1) (k1_off15 k1_t1) (k1_off15_inb k1_t1) (k1_off16 k1_t1) (k1_off16_inb k1_t1) (k1_off17 k1_t1) (k1_off17_inb k1_t1) (tokOf k1_t1 3#32) v480_4 v523 (logOf v523) (first (sum1 (sum2 (addf v527 v530))))) := by
  rfl

set_option maxHeartbeats 8000000 in
/-- The loop's body is a trip. -/
theorem body_eq (k1_t1 : Fin k1_t1_loop.trips) :
    (do
    let v3 : IVec S16 32 := lanes
    let v5 : IVec S16 1 := low8
    let v7 : IVec S16 1 := low1
    let v8 : FVec F S16 .f32 := zeros
    let v9 : FVec F S16 .f32 := floors
    let v10 : IVec S16 32 := izeros
    let c0_i32_2 : BitVec 32 := 0#32
    let c1_i32_3 : BitVec 32 := 1#32
    let ⟨v12, v19, v21, v27_3, v27_4, v37_3, v37_4, v39⟩ : Σ' (v12 : BitVec 32) (v19 : Vec F S16 .f32) (v21 : Vec F S16 .f32) (v27_3 : Vec F S16 .f32) (v27_4 : IVec S16 32) (v37_3 : Vec F S16 .f32) (v37_4 : IVec S16 32), IVec S16 32 ← k1_part1 i arg2 harg2 arg3 harg3 arg4 harg4 arg5 harg5 arg6 harg6 arg7 harg7 arg8 harg8 arg9 harg9 v12_r0 v12_r1 v12_r2 v12_r3 v3 c0_i32_2 c1_i32_3 k1_t1
    let ⟨v58, v59, v65_3, v65_4, v66, v67, c0_i32_53, c16_i32_54⟩ : Σ' (v58 : Vec F S16 .f32) (v59 : IVec S16 32) (v65_3 : Vec F S16 .f32) (v65_4 : IVec S16 32) (v66 : IVec S16 32) (v67 : IVec S16 32) (c0_i32_53 : BitVec 32), BitVec 32 ← k1_part2 i arg2 harg2 arg3 harg3 arg4 harg4 arg5 harg5 arg6 harg6 arg7 harg7 arg8 harg8 arg9 harg9 v12_r0 v12_r1 v12_r2 v12_r3 v3 v5 v19 v21 v27_3 v27_4 v37_3 v37_4 v39
    let ⟨v81_4, v104, v108, v109, v110⟩ : Σ' (v81_4 : IVec S16 32) (v104 : FVec F S16 .f32) (v108 : FVec F S16 .f32) (v109 : FVec F S12 .f32), FVec F S4 .f32 ← k1_part3 i arg2 harg2 arg3 harg3 arg4 harg4 arg5 harg5 arg6 harg6 arg7 harg7 arg8 harg8 arg9 harg9 v12_r0 v12_r1 v12_r2 v12_r3 v5 v58 v59 v65_3 v65_4 v66 v67 c0_i32_53 c16_i32_54
    let ⟨v124, v142, v145, v148, v150, v152, v154, v155, v156, c0_i32_79⟩ : Σ' (v124 : FVec F S16 .f32) (v142 : F .f32) (v145 : FVec F S16 .f32) (v148 : Vec F S16 .f32) (v150 : Vec F S16 .f32) (v152 : Vec F S16 .f32) (v154 : Vec F S16 .f32) (v155 : IVec S16 32) (v156 : IVec S16 32), BitVec 32 ← k1_part4 i arg2 harg2 arg3 harg3 arg4 harg4 arg5 harg5 arg6 harg6 arg7 harg7 arg8 harg8 arg9 harg9 v12_r0 v12_r1 v12_r2 v12_r3 k1_t1 v12 v104 v108 v109 v110
    let ⟨v160_3, v160_4, v170_3, v170_4, v178_3, v178_4, v180, v181, v184_2⟩ : Σ' (v160_3 : Vec F S16 .f32) (v160_4 : IVec S16 32) (v170_3 : Vec F S16 .f32) (v170_4 : IVec S16 32) (v178_3 : Vec F S16 .f32) (v178_4 : IVec S16 32) (v180 : IVec S16 32) (v181 : IVec S16 32), IVec S16 32 ← k1_part5 i arg2 harg2 arg3 harg3 arg4 harg4 arg5 harg5 arg6 harg6 arg7 harg7 arg8 harg8 arg9 harg9 v12_r0 v12_r1 v12_r2 v12_r3 v3 v148 v150 v152 v154 v155 v156 c0_i32_79
    let ⟨v207, v208, v209, v212_2, c0_i32_143⟩ : Σ' (v207 : Vec F S16 .f32) (v208 : IVec S16 32) (v209 : IVec S16 32) (v212_2 : IVec S16 32), BitVec 32 ← k1_part6 i arg2 harg2 arg3 harg3 arg4 harg4 arg5 harg5 arg6 harg6 arg7 harg7 arg8 harg8 arg9 harg9 v12_r0 v12_r1 v12_r2 v12_r3 v5 v154 v160_3 v160_4 v170_3 v170_4 v178_3 v178_4 v180 v181 v184_2
    let ⟨v214_4, v257, v269, v270⟩ : Σ' (v214_4 : IVec S16 32) (v257 : FVec F S16 .f32) (v269 : FVec F S16 .f32), FVec F S15 .f32 ← k1_part7 i arg2 harg2 arg3 harg3 arg4 harg4 arg5 harg5 arg6 harg6 arg7 harg7 arg8 harg8 arg9 harg9 v12_r0 v12_r1 v12_r2 v12_r3 v5 v207 v208 v209 v212_2 c0_i32_143
    let ⟨v275, v278, v283, v285, v287, v293_3, v293_4, v295, v296, v301, c0_i32_170⟩ : Σ' (v275 : F .f32) (v278 : FVec F S16 .f32) (v283 : Vec F S16 .f32) (v285 : Vec F S16 .f32) (v287 : Vec F S16 .f32) (v293_3 : Vec F S16 .f32) (v293_4 : IVec S16 32) (v295 : IVec S16 32) (v296 : IVec S16 32) (v301 : IVec S16 32), BitVec 32 ← k1_part8 i arg2 harg2 arg3 harg3 arg4 harg4 arg5 harg5 arg6 harg6 arg7 harg7 arg8 harg8 arg9 harg9 v12_r0 v12_r1 v12_r2 v12_r3 v3 k1_t1 v12 v257 v269 v270
    let ⟨v324, v325, v331_3, v331_4⟩ : Σ' (v324 : Vec F S16 .f32) (v325 : IVec S16 32) (v331_3 : Vec F S16 .f32), IVec S16 32 ← k1_part9 i arg2 harg2 arg3 harg3 arg4 harg4 arg5 harg5 arg6 harg6 arg7 harg7 arg8 harg8 arg9 harg9 v12_r0 v12_r1 v12_r2 v12_r3 v3 v5 v283 v285 v287 v293_3 v293_4 v295 v296 v301 c0_i32_170
    let ⟨v347_4, v370⟩ : Σ' (v347_4 : IVec S16 32), FVec F S16 .f32 ← k1_part10 i arg2 harg2 arg3 harg3 arg4 harg4 arg5 harg5 arg6 harg6 arg7 harg7 arg8 harg8 arg9 harg9 v12_r0 v12_r1 v12_r2 v12_r3 v5 v324 v325 v331_3 v331_4
    let ⟨v390, v408, v411, v414, v416, v418, v420⟩ : Σ' (v390 : FVec F S16 .f32) (v408 : F .f32) (v411 : FVec F S16 .f32) (v414 : Vec F S16 .f32) (v416 : Vec F S16 .f32) (v418 : Vec F S16 .f32), Vec F S16 .f32 ← k1_part11 i arg2 harg2 arg3 harg3 arg4 harg4 arg5 harg5 arg6 harg6 arg7 harg7 arg8 harg8 arg9 harg9 v12_r0 v12_r1 v12_r2 v12_r3 k1_t1 v12 v370
    let ⟨v426_3, v426_4, v436_3, v436_4, v444_3, v444_4, v446, v447, v448⟩ : Σ' (v426_3 : Vec F S16 .f32) (v426_4 : IVec S16 32) (v436_3 : Vec F S16 .f32) (v436_4 : IVec S16 32) (v444_3 : Vec F S16 .f32) (v444_4 : IVec S16 32) (v446 : IVec S16 32) (v447 : IVec S16 32), IVec S16 32 ← k1_part12 i arg2 harg2 arg3 harg3 arg4 harg4 arg5 harg5 arg6 harg6 arg7 harg7 arg8 harg8 arg9 harg9 v12_r0 v12_r1 v12_r2 v12_r3 v3 v414 v416 v418
    let ⟨v473, v474, v475, v476, c0_i32_290⟩ : Σ' (v473 : Vec F S16 .f32) (v474 : IVec S16 32) (v475 : IVec S16 32) (v476 : IVec S16 32), BitVec 32 ← k1_part13 i arg2 harg2 arg3 harg3 arg4 harg4 arg5 harg5 arg6 harg6 arg7 harg7 arg8 harg8 arg9 harg9 v12_r0 v12_r1 v12_r2 v12_r3 v5 v420 v426_3 v426_4 v436_3 v436_4 v444_3 v444_4 v446 v447 v448
    let ⟨v480_4, v523, v527, v530⟩ : Σ' (v480_4 : IVec S16 32) (v523 : FVec F S16 .f32) (v527 : FVec F S16 .f32), FVec F S16 .f32 ← k1_part14 i arg2 harg2 arg3 harg3 arg4 harg4 arg5 harg5 arg6 harg6 arg7 harg7 arg8 harg8 arg9 harg9 v12_r0 v12_r1 v12_r2 v12_r3 v5 v473 v474 v475 v476 c0_i32_290
    let ⟨v541, v544, v546, k1_hw1⟩ : Σ' (v541 : F .f32) (v544 : FVec F S16 .f32) (v546 : IVec S16 32), k1_chk1 v10 v81_4 v546 ← k1_part15 i arg2 harg2 arg3 harg3 arg4 harg4 arg5 harg5 arg6 harg6 arg7 harg7 arg8 harg8 arg9 harg9 v12_r0 v12_r1 v12_r2 v12_r3 v5 v8 v9 v10 k1_t1 v12 v81_4 v124 v523 v527 v530
    let ⟨v583, v584, k1_hw3⟩ : Σ' (v583 : BitVec 32) (v584 : IVec S16 32), k1_chk3 v10 v347_4 v584 ← k1_part16 i arg2 harg2 arg3 harg3 arg4 harg4 arg5 harg5 arg6 harg6 arg7 harg7 arg8 harg8 arg9 harg9 v12_r0 v12_r1 v12_r2 v12_r3 v5 v7 v8 v9 v10 k1_t1 v12 v81_4 v142 v145 v214_4 v257 v275 v278 v347_4 v546 k1_hw1
    let ⟨v602, v603, k1_hw4⟩ : Σ' (v602 : BitVec 32) (v603 : IVec S16 32), k1_chk4 v10 v480_4 v603 ← k1_part17 i arg2 harg2 arg3 harg3 arg4 harg4 arg5 harg5 arg6 harg6 arg7 harg7 arg8 harg8 arg9 harg9 v12_r0 v12_r1 v12_r2 v12_r3 v5 v7 v8 v9 v10 k1_t1 v12 v347_4 v390 v408 v411 v480_4 v583 v584 k1_hw3
    let v611_ld : Vec F S1x16 .f32 ← Prog.lift (.load arg7 (Rect.unit (s := S256x64) (k1_off17 k1_t1) S1x16.size (k1_off17_inb k1_t1)).toLoadRect (View.loadsAt_vmem h_S1x16))
    have v611 : Vec F S16 .f32 := shapeCast S16 v611_ld shapeCasts_S1x16_S16
    Prog.lift (.store arg7 (Rect.unit (s := S256x64) (k1_off17 k1_t1) S1x16.size (k1_off17_inb k1_t1)) (shapeCast S1x16 v8 shapeCasts_S16_S1x16) Finset.univ (View.stores_vmem_bits_univ h_S1x16 rfl) (.inl rfl))
    let v612 : Index := Scalar.indexCast v602
    let c0_332 : Index := 0#32
    let v613_ld : Vec F S1x16 .f32 ← Prog.lift (.load arg8 (Rect.unit (s := S256x64) (k1_off14 k1_t1) S1x16.size (k1_off14_inb k1_t1)).toLoadRect (View.loadsAt_vmem h_S1x16))
    have v613 : Vec F S16 .f32 := shapeCast S16 v613_ld shapeCasts_S1x16_S16
    Prog.lift (.store arg8 (Rect.unit (s := S256x64) (k1_off14 k1_t1) S1x16.size (k1_off14_inb k1_t1)) (shapeCast S1x16 v9 shapeCasts_S16_S1x16) Finset.univ (View.stores_vmem_bits_univ h_S1x16 rfl) (.inl rfl))
    let v614 : Index := Scalar.indexCast v602
    let c16_333 : Index := 16#32
    let v615_ld : Vec F S1x16 .f32 ← Prog.lift (.load arg8 (Rect.unit (s := S256x64) (k1_off15 k1_t1) S1x16.size (k1_off15_inb k1_t1)).toLoadRect (View.loadsAt_vmem h_S1x16))
    have v615 : Vec F S16 .f32 := shapeCast S16 v615_ld shapeCasts_S1x16_S16
    Prog.lift (.store arg8 (Rect.unit (s := S256x64) (k1_off15 k1_t1) S1x16.size (k1_off15_inb k1_t1)) (shapeCast S1x16 v9 shapeCasts_S16_S1x16) Finset.univ (View.stores_vmem_bits_univ h_S1x16 rfl) (.inl rfl))
    let v616 : Index := Scalar.indexCast v602
    let c32_334 : Index := 32#32
    let v617_ld : Vec F S1x16 .f32 ← Prog.lift (.load arg8 (Rect.unit (s := S256x64) (k1_off16 k1_t1) S1x16.size (k1_off16_inb k1_t1)).toLoadRect (View.loadsAt_vmem h_S1x16))
    have v617 : Vec F S16 .f32 := shapeCast S16 v617_ld shapeCasts_S1x16_S16
    Prog.lift (.store arg8 (Rect.unit (s := S256x64) (k1_off16 k1_t1) S1x16.size (k1_off16_inb k1_t1)) (shapeCast S1x16 v9 shapeCasts_S16_S1x16) Finset.univ (View.stores_vmem_bits_univ h_S1x16 rfl) (.inl rfl))
    let v618 : Index := Scalar.indexCast v602
    let c48_335 : Index := 48#32
    let v619_ld : Vec F S1x16 .f32 ← Prog.lift (.load arg8 (Rect.unit (s := S256x64) (k1_off17 k1_t1) S1x16.size (k1_off17_inb k1_t1)).toLoadRect (View.loadsAt_vmem h_S1x16))
    have v619 : Vec F S16 .f32 := shapeCast S16 v619_ld shapeCasts_S1x16_S16
    Prog.lift (.store arg8 (Rect.unit (s := S256x64) (k1_off17 k1_t1) S1x16.size (k1_off17_inb k1_t1)) (shapeCast S1x16 v9 shapeCasts_S16_S1x16) Finset.univ (View.stores_vmem_bits_univ h_S1x16 rfl) (.inl rfl))
    SparseCore.vectorStoreIdx arg7 ![v603, v480_4] v523 v5 false (k1_idx10_inb v10 v480_4 v603 k1_hw4) (View.stores_vmem_bits_univ h_S256x64 rfl)
    SparseCore.vectorStoreIdx arg8 ![v603, v480_4] v544 v5 false (k1_idx11_inb v10 v480_4 v603 k1_hw4) (View.stores_vmem_bits_univ h_S256x64 rfl)
    have v620 : FVec F S16 .f32 := broadcast S16 v541
    SparseCore.vectorStoreIdx arg9 ![v603, v10] v620 v7 false (k1_idx12_inb v10 v480_4 v603 k1_hw4) (View.stores_vmem_bits_univ h_S256x1 rfl)
    pure ⟨⟩ : TileProg F i PUnit)
      = trip i arg6 arg7 arg8 arg9 k1_t1 := by
  unfold trip
  dsimp only
  rw [part1_eq]
  simp only [bind_assoc, pure_bind]
  iterate 4 refine bind_congr fun _ => ?_
  rw [part2_eq]
  rw [pure_bind]
  dsimp only
  rw [part3_eq]
  rw [pure_bind]
  dsimp only
  rw [part4_eq]
  simp only [bind_assoc, pure_bind]
  iterate 4 refine bind_congr fun _ => ?_
  rw [part5_eq]
  rw [pure_bind]
  dsimp only
  rw [part6_eq]
  rw [pure_bind]
  dsimp only
  rw [part7_eq]
  rw [pure_bind]
  dsimp only
  rw [part8_eq]
  simp only [bind_assoc, pure_bind]
  iterate 4 refine bind_congr fun _ => ?_
  rw [part9_eq]
  rw [pure_bind]
  dsimp only
  rw [part10_eq]
  rw [pure_bind]
  dsimp only
  rw [part11_eq]
  simp only [bind_assoc, pure_bind]
  iterate 4 refine bind_congr fun _ => ?_
  rw [part12_eq]
  rw [pure_bind]
  dsimp only
  rw [part13_eq]
  rw [pure_bind]
  dsimp only
  rw [part14_eq]
  rw [pure_bind]
  dsimp only
  exact stores_eq i arg2 harg2 arg3 harg3 arg4 harg4 arg5 harg5 arg6 harg6 arg7 harg7 arg8 harg8 arg9 harg9 v12_r0 v12_r1 v12_r2 v12_r3 k1_t1 _ _ _ _ _ _ _ _ _ _ _ _ _ _ _ _ lanes

end Cert.Proof.Router

end
-- ==== Proof.Rows.lean ====
/-
  What a token's stores leave in the tile's output rows, as plain functions of the row's place and the token's
  sorted vectors.
-/
module

public import proofs.«01_k».proof.Proof.Trip
public import Idealize.ShloMosaic.Lib.Writes

@[expose] public section

noncomputable section

namespace Cert.Proof.Router

open Cert.KernelIdeal Cert.KernelIdeal.Gen
open Idealize.ShloMosaic Idealize.SL.Sem

variable {F : FTy → Type} [FloatOps F] [Named F]

/-- Lane `k` of a sixteen-lane vector. -/
abbrev lane (k : Fin (S16.size 0)) : S16.Idx := Shape.ofLane (d := S16.size) k

theorem lane_val (x : S16.Idx) : lane (x 0) = x := by
  funext a; obtain rfl : a = 0 := Subsingleton.elim _ _; rfl

/-- What column `c` of a row holds after a masked scatter of `v` to the columns `E`, from `z` before: the value of the
    last lane that names the column. -/
def putRow (E : IVec S16 32) (v : FVec F S16 .f32) (mask : IVec S16 1) (z : F .f32) (c : ℕ) : F .f32 :=
  (List.finRange (S16.size 0)).foldl (fun acc k => if mask (lane k) = 1 ∧ (E (lane k)).toNat = c then v (lane k) else acc) z

theorem store_foldl {s : Shape} (idxs : Fin s.rank → IVec S16 32) (v : FVec F S16 .f32) (mask : IVec S16 1)
    (h : ∀ a x, (idxs a x).toNat < s.size a) (j : s.Idx) :
    ∀ (l : List (Fin (S16.size 0))) (f : Vec F s .f32),
      (l.foldl (fun g k => if mask (lane k) = 1 then (fun j' => if (∀ a, (j' a).val = (idxAt idxs h (lane k) a).val) then v (lane k) else g j') else g) f) j
        = l.foldl (fun acc k => if mask (lane k) = 1 ∧ ∀ a, (j a).val = (idxs a (lane k)).toNat then v (lane k) else acc) (f j)
  | [], _ => rfl
  | k :: l, f => by
    rw [List.foldl_cons, List.foldl_cons, store_foldl idxs v mask h j l]
    congr 1
    by_cases hm : mask (lane k) = 1
    · simp only [hm, if_true, true_and]; rfl
    · simp only [hm, if_false, false_and]

theorem storeIdx_at {s : Shape} (f : Vec F s .f32) (idxs : Fin s.rank → IVec S16 32) (v : FVec F S16 .f32) (mask : IVec S16 1)
    (h : ∀ a x, (idxs a x).toNat < s.size a) (j : s.Idx) :
    storeIdx (d := S16.size) f idxs v mask false h j
      = (List.finRange (S16.size 0)).foldl (fun acc k => if mask (lane k) = 1 ∧ ∀ a, (j a).val = (idxs a (lane k)).toNat then v (lane k) else acc) (f j) := by
  rw [← store_foldl idxs v mask h j (List.finRange (S16.size 0)) f]
  unfold storeIdx
  simp only [Bool.false_eq_true, if_false]

/-- A scatter into one row `t` of sixty-four columns. -/
theorem storeIdx_row (f : Vec F S256x64 .f32) (tok E : IVec S16 32) (t : ℕ) (ht : ∀ x, (tok x).toNat = t) (v : FVec F S16 .f32) (mask : IVec S16 1)
    (h : ∀ a x, ((![tok, E] : Fin 2 → IVec S16 32) a x).toNat < S256x64.size a) (j : S256x64.Idx) :
    storeIdx (d := S16.size) f ![tok, E] v mask false h j = if (j 0).val = t then putRow E v mask (f j) (j 1).val else f j := by
  rw [storeIdx_at]
  have e : ∀ k, (∀ a, (j a).val = ((![tok, E] : Fin 2 → IVec S16 32) a (lane k)).toNat) ↔ ((j 0).val = t ∧ (E (lane k)).toNat = (j 1).val) := fun k =>
    ⟨fun h => ⟨(h 0).trans (ht _), (h 1).symm⟩, fun h a => by
      match a with
      | 0 => exact h.1.trans (ht _).symm
      | 1 => exact h.2.symm⟩
  simp only [e]
  split
  · next h0 => simp only [h0, true_and]; rfl
  · next h0 =>
    simp only [h0, false_and, and_false, if_false]
    generalize List.finRange (S16.size 0) = l
    generalize f j = z
    induction l with
    | nil => rfl
    | cons a l ih => exact ih

theorem foldl_head {α : Type} (n : ℕ) (P : Prop) [Decidable P] (p z : α) :
    (List.finRange (n + 1)).foldl (fun acc k => if k.val = 0 ∧ P then p else acc) z = if P then p else z := by
  rw [List.finRange_succ, List.foldl_cons, List.foldl_map]
  simp only [Fin.val_zero, true_and, Fin.val_succ, Nat.succ_ne_zero, false_and, if_false]
  generalize List.finRange n = l
  induction l with
  | nil => rfl
  | cons a l ih => exact ih

/-- A scatter into one row `t` of one column: lane 0's value, where the mask is lane 0's alone. -/
theorem storeIdx_one (f : Vec F S256x1 .f32) (tok : IVec S16 32) (t : ℕ) (ht : ∀ x, (tok x).toNat = t) (p : F .f32)
    (h : ∀ a x, ((![tok, izeros] : Fin 2 → IVec S16 32) a x).toNat < S256x1.size a) (j : S256x1.Idx) :
    storeIdx (d := S16.size) f ![tok, izeros] (broadcast S16 p) low1 false h j = if (j 0).val = t then p else f j := by
  rw [storeIdx_at]
  have h1 : (j 1).val = 0 := Nat.lt_one_iff.mp (j 1).isLt
  have e : ∀ k, (∀ a, (j a).val = ((![tok, izeros] : Fin 2 → IVec S16 32) a (lane k)).toNat) ↔ (j 0).val = t := fun k =>
    ⟨fun h => (h 0).trans (ht _), fun h a => by
      match a with
      | 0 => exact h.trans (ht _).symm
      | 1 => exact h1⟩
  simp only [e]
  have hl : ∀ k : Fin (S16.size 0), low1 (lane k) = 1 ↔ k.val = 0 := by decide +kernel
  simp only [hl]
  exact foldl_head 15 _ p (f j)

end Cert.Proof.Router

end
-- ==== Proof.Setup.lean ====
/-
  The program as the launch theorem sees it, its resource algebra and its buffers.
-/
module

public import proofs.«01_k».proof.Proof.Rows
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ValueIdxCore
public import Idealize.ShloMosaic.Lib.Tactic

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program -/

section
variable [FloatOps F] [Named F]
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
end

abbrev 𝒱₀ : Variants := Variants.none
abbrev 𝒱 : Variants := 𝒱₀.lift
abbrev v₀ : 𝒱.V := Sum.inl none

variable [FloatOps F] [Named F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-! ## The buffers -/

variable (m : (ℓ : Loc nD τ sig) → Buf (Elt F) ℓ) (ρ : Dev nD → PrngReg)

abbrev fLoc (d : Dev nD) : Loc nD τ sig := (SparseCore.T d).loc main_v2
abbrev aLoc (d : Dev nD) : Loc nD τ sig := (SparseCore.T d).loc main_v3_0
abbrev pLoc (d : Dev nD) : Loc nD τ sig := (SparseCore.T d).loc main_v3_1
abbrev lLoc (d : Dev nD) : Loc nD τ sig := (SparseCore.T d).loc main_v3_2

abbrev m6 : Memref sig .scVector .vmem S256x64 .f32 := Memref.whole cc1_scratch0
abbrev m7 : Memref sig .scVector .vmem S256x64 .f32 := Memref.whole cc1_scratch1
abbrev m8 : Memref sig .scVector .vmem S256x64 .f32 := Memref.whole cc1_scratch2
abbrev m9 : Memref sig .scVector .vmem S256x1 .f32 := Memref.whole cc1_scratch3

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

end Cert.Proof.Router

end
-- ==== Proof.Token.lean ====
/-
  One token's stores on the tile: the row of each output is cleared and then written by the scatters.
-/
module

public import proofs.«01_k».proof.Proof.Setup

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]
local notation "𝕄" => MT nD τ sig (HIx 1) (Elt F) ℕ UU ℕ

/-- A scatter into the whole of the tile's `mask` rows. -/
theorem wp_put7 (d : Dev nD) (L : grid1.Coords) (idxs : Fin S256x64.rank → IVec S16 32) (v : FVec F S16 .f32) (mask : IVec S16 1)
    (h : ∀ a x, (idxs a x).toNat < S256x64.size a) (hs) (f : Buf (Elt F) ((m7).view.loc (thr d L))) (Q : PUnit → sProp 𝕄) :
    ((m7).view.loc (thr d L) ↦{fullShare} f)
      ⊢ iprop((((m7).view.loc (thr d L) ↦{fullShare} (storeIdx (d := S16.size) (F := F) (s := S256x64) (e := .f32) f idxs v mask false h)) -∗ Q ⟨⟩)
        -∗ wp frame (wpE (defs₀ (F := F)) 𝒱₀ (thr d L) none) Set.univ (SparseCore.vectorStoreIdx m7 idxs v mask false h hs) Q) := by
  have h' := SparseCore.wp_vectorStoreIdx (defs := defs₀ (F := F)) 𝒱₀ (thr d L) none Set.univ (base := m7) (idxs := idxs) (v := v) (mask := mask) (add := false) (h := h) (hs := hs)
    (k := Prog.ret) (f := f) (Q := Q)
  have eS : ((m7).access (Rect.whole S256x64)).set = Finset.univ := Memref.set_access_whole cc1_scratch1
  have eR : View.read (Elt F) ((m7).access (Rect.whole S256x64)) f = f := Memref.read_access_whole (Elt F) cc1_scratch1 f
  have eW : ∀ w, View.write (Elt F) ((m7).access (Rect.whole S256x64)) f w Finset.univ = w := fun w => Memref.write_access_whole_univ (Elt F) cc1_scratch1 f w
  rw [eS, eR, eW] at h'
  have e : ∀ p : TileProg F L PUnit, p >>= Prog.ret = p := fun p => bind_pure p
  rw [e] at h'
  iintro H HQ
  iapply h' $$ H
  iintro H
  rw [wp_ret]
  imodintro
  iapply HQ; iexact H

/-- A scatter into the whole of the tile's `log` rows. -/
theorem wp_put8 (d : Dev nD) (L : grid1.Coords) (idxs : Fin S256x64.rank → IVec S16 32) (v : FVec F S16 .f32) (mask : IVec S16 1)
    (h : ∀ a x, (idxs a x).toNat < S256x64.size a) (hs) (f : Buf (Elt F) ((m8).view.loc (thr d L))) (Q : PUnit → sProp 𝕄) :
    ((m8).view.loc (thr d L) ↦{fullShare} f)
      ⊢ iprop((((m8).view.loc (thr d L) ↦{fullShare} (storeIdx (d := S16.size) (F := F) (s := S256x64) (e := .f32) f idxs v mask false h)) -∗ Q ⟨⟩)
        -∗ wp frame (wpE (defs₀ (F := F)) 𝒱₀ (thr d L) none) Set.univ (SparseCore.vectorStoreIdx m8 idxs v mask false h hs) Q) := by
  have h' := SparseCore.wp_vectorStoreIdx (defs := defs₀ (F := F)) 𝒱₀ (thr d L) none Set.univ (base := m8) (idxs := idxs) (v := v) (mask := mask) (add := false) (h := h) (hs := hs)
    (k := Prog.ret) (f := f) (Q := Q)
  have eS : ((m8).access (Rect.whole S256x64)).set = Finset.univ := Memref.set_access_whole cc1_scratch2
  have eR : View.read (Elt F) ((m8).access (Rect.whole S256x64)) f = f := Memref.read_access_whole (Elt F) cc1_scratch2 f
  have eW : ∀ w, View.write (Elt F) ((m8).access (Rect.whole S256x64)) f w Finset.univ = w := fun w => Memref.write_access_whole_univ (Elt F) cc1_scratch2 f w
  rw [eS, eR, eW] at h'
  have e : ∀ p : TileProg F L PUnit, p >>= Prog.ret = p := fun p => bind_pure p
  rw [e] at h'
  iintro H HQ
  iapply h' $$ H
  iintro H
  rw [wp_ret]
  imodintro
  iapply HQ; iexact H

/-- A scatter into the whole of the tile's `total` rows. -/
theorem wp_put9 (d : Dev nD) (L : grid1.Coords) (idxs : Fin S256x1.rank → IVec S16 32) (v : FVec F S16 .f32) (mask : IVec S16 1)
    (h : ∀ a x, (idxs a x).toNat < S256x1.size a) (hs) (f : Buf (Elt F) ((m9).view.loc (thr d L))) (Q : PUnit → sProp 𝕄) :
    ((m9).view.loc (thr d L) ↦{fullShare} f)
      ⊢ iprop((((m9).view.loc (thr d L) ↦{fullShare} (storeIdx (d := S16.size) (F := F) (s := S256x1) (e := .f32) f idxs v mask false h)) -∗ Q ⟨⟩)
        -∗ wp frame (wpE (defs₀ (F := F)) 𝒱₀ (thr d L) none) Set.univ (SparseCore.vectorStoreIdx m9 idxs v mask false h hs) Q) := by
  have h' := SparseCore.wp_vectorStoreIdx (defs := defs₀ (F := F)) 𝒱₀ (thr d L) none Set.univ (base := m9) (idxs := idxs) (v := v) (mask := mask) (add := false) (h := h) (hs := hs)
    (k := Prog.ret) (f := f) (Q := Q)
  have eS : ((m9).access (Rect.whole S256x1)).set = Finset.univ := Memref.set_access_whole cc1_scratch3
  have eR : View.read (Elt F) ((m9).access (Rect.whole S256x1)) f = f := Memref.read_access_whole (Elt F) cc1_scratch3 f
  have eW : ∀ w, View.write (Elt F) ((m9).access (Rect.whole S256x1)) f w Finset.univ = w := fun w => Memref.write_access_whole_univ (Elt F) cc1_scratch3 f w
  rw [eS, eR, eW] at h'
  have e : ∀ p : TileProg F L PUnit, p >>= Prog.ret = p := fun p => bind_pure p
  rw [e] at h'
  iintro H HQ
  iapply h' $$ H
  iintro H
  rw [wp_ret]
  imodintro
  iapply HQ; iexact H

/-- A place of row `t` in the sixteen columns from `k`. -/
theorem mem_piece (o : Fin 2 → Nat) (h : ∀ a, o a + S1x16.size a ≤ S256x64.size a) (t k : ℕ) (e : o = ![t, k]) (j : S256x64.Idx)
    (h0 : (j 0).val = t) (h1 : k ≤ (j 1).val ∧ (j 1).val < k + 16) : j ∈ (piece o h).set := by
  refine (piece o h).mem_set.mpr ?_
  subst e
  intro a
  match a with
  | 0 => exact ⟨0, by show 0 < 1; omega, by show (j 0).val = t + 1 * 0; omega⟩
  | 1 => exact ⟨(j 1).val - k, by show _ < 16; omega, by show (j 1).val = k + 1 * _; omega⟩

theorem asRow_broadcast (c : F .f32) (x : S1x16.Idx) : asRow (broadcast S16 c) x = c := rfl

/-- The four pieces of row `t` written over with one value. -/
theorem read_blank {κ : Kind} {sp : Space} (v : View sig κ sp S256x64 .f32) (f : v.ty.Contents (Elt F)) (c : F .f32) (w : S1x16.Idx → F .f32) (hw : ∀ x, w x = c) (t : ℕ)
    (o0 : Fin 2 → Nat) (h0 : ∀ a, o0 a + S1x16.size a ≤ S256x64.size a) (o1 : Fin 2 → Nat) (h1 : ∀ a, o1 a + S1x16.size a ≤ S256x64.size a)
    (o2 : Fin 2 → Nat) (h2 : ∀ a, o2 a + S1x16.size a ≤ S256x64.size a) (o3 : Fin 2 → Nat) (h3 : ∀ a, o3 a + S1x16.size a ≤ S256x64.size a)
    (e0 : o0 = ![t, 0]) (e1 : o1 = ![t, 16]) (e2 : o2 = ![t, 32]) (e3 : o3 = ![t, 48]) (j : S256x64.Idx) :
    v.read (Elt F) (v.writes (Elt F) f [⟨piece o3 h3, w⟩, ⟨piece o2 h2, w⟩,
        ⟨piece o1 h1, w⟩, ⟨piece o0 h0, w⟩]) j
      = if (j 0).val = t then c else v.read (Elt F) f j := by
  split
  · next ht =>
    refine View.read_writes_apply_of_pieces v f (fun _ => c) _ ?_ j ?_
    · intro p hp x
      simp only [List.mem_cons, List.not_mem_nil, or_false] at hp
      rcases hp with hp | hp | hp | hp <;> (subst hp; exact hw x)
    · have hj : (j 1).val < 64 := (j 1).isLt
      rcases Nat.lt_or_ge (j 1).val 16 with h | h
      · exact ⟨_, List.mem_cons_of_mem _ (List.mem_cons_of_mem _ (List.mem_cons_of_mem _ List.mem_cons_self)), mem_piece o0 h0 t 0 e0 j ht ⟨by omega, by omega⟩⟩
      rcases Nat.lt_or_ge (j 1).val 32 with h | h
      · exact ⟨_, List.mem_cons_of_mem _ (List.mem_cons_of_mem _ List.mem_cons_self), mem_piece o1 h1 t 16 e1 j ht ⟨by omega, by omega⟩⟩
      rcases Nat.lt_or_ge (j 1).val 48 with h | h
      · exact ⟨_, List.mem_cons_of_mem _ List.mem_cons_self, mem_piece o2 h2 t 32 e2 j ht ⟨by omega, by omega⟩⟩
      · exact ⟨_, List.mem_cons_self, mem_piece o3 h3 t 48 e3 j ht ⟨by omega, by omega⟩⟩
  · next ht =>
    refine View.read_writes_apply_of_forall_not_mem v f j _ ?_
    intro p hp
    simp only [List.mem_cons, List.not_mem_nil, or_false] at hp
    rcases hp with hp | hp | hp | hp <;> subst hp
    · exact Rect.not_mem_set_of_axis _ j 0 t 1 (congrFun e3 0) rfl rfl (by omega)
    · exact Rect.not_mem_set_of_axis _ j 0 t 1 (congrFun e2 0) rfl rfl (by omega)
    · exact Rect.not_mem_set_of_axis _ j 0 t 1 (congrFun e1 0) rfl rfl (by omega)
    · exact Rect.not_mem_set_of_axis _ j 0 t 1 (congrFun e0 0) rfl rfl (by omega)

/-- What the three rows' contents are after a token's stores, `f7 f8 f9` before: row `t` rewritten, the others as before. -/
def TokStored (t : ℕ) (fv : IVec S16 32) (w lw : FVec F S16 .f32) (pt : F .f32) (f7 f8 : Vec F S256x64 .f32) (f9 : Vec F S256x1 .f32)
    (g7 g8 : Vec F S256x64 .f32) (g9 : Vec F S256x1 .f32) : Prop :=
  (∀ j, g7 j = if (j 0).val = t then putRow fv w low8 (Scalar.ofBits .f32 0x00000000#32) (j 1).val else f7 j)
  ∧ (∀ j, g8 j = if (j 0).val = t then putRow fv lw low8 (Scalar.ofBits .f32 0xFF800000#32) (j 1).val else f8 j)
  ∧ ∀ j, g9 j = if (j 0).val = t then pt else f9 j

/-- One token's stores. -/
theorem wp_storeTok (d : Dev nD) (L : grid1.Coords)
    (o0 : Fin 2 → Nat) (h0 : ∀ a, o0 a + S1x16.size a ≤ S256x64.size a) (o1 : Fin 2 → Nat) (h1 : ∀ a, o1 a + S1x16.size a ≤ S256x64.size a)
    (o2 : Fin 2 → Nat) (h2 : ∀ a, o2 a + S1x16.size a ≤ S256x64.size a) (o3 : Fin 2 → Nat) (h3 : ∀ a, o3 a + S1x16.size a ≤ S256x64.size a)
    (tok fv : IVec S16 32) (w lw : FVec F S16 .f32) (pt : F .f32) (t : ℕ) (hchk : k1_chk1 izeros fv tok) (htok : ∀ x, (tok x).toNat = t)
    (e0 : o0 = ![t, 0]) (e1 : o1 = ![t, 16]) (e2 : o2 = ![t, 32]) (e3 : o3 = ![t, 48])
    (f7 : Buf (Elt F) ((m7).view.loc (thr d L))) (f8 : Buf (Elt F) ((m8).view.loc (thr d L))) (f9 : Buf (Elt F) ((m9).view.loc (thr d L))) (Q : PUnit → sProp 𝕄) :
    iprop(((m7).view.loc (thr d L) ↦{fullShare} f7) ∗ ((m8).view.loc (thr d L) ↦{fullShare} f8) ∗ ((m9).view.loc (thr d L) ↦{fullShare} f9) ∗
      (∀ (g7 : Buf (Elt F) ((m7).view.loc (thr d L))) (g8 : Buf (Elt F) ((m8).view.loc (thr d L))) (g9 : Buf (Elt F) ((m9).view.loc (thr d L))),
        ⌜TokStored t fv w lw pt f7 f8 f9 g7 g8 g9⌝ -∗
        (((m7).view.loc (thr d L) ↦{fullShare} g7) ∗ ((m8).view.loc (thr d L) ↦{fullShare} g8) ∗ ((m9).view.loc (thr d L) ↦{fullShare} g9)) -∗ Q ⟨⟩))
     ⊢ wp frame (wpE (defs₀ (F := F)) 𝒱₀ (thr d L) none) Set.univ (storeTok (F := F) L m7 m8 m9 o0 h0 o1 h1 o2 h2 o3 h3 tok fv w lw pt) Q := by
  unfold storeTok blank
  iintro ⟨H7, H8, H9, HQ⟩
  sl_exec
  simp only [wp_bind]
  iapply (wp_put7 d L ![tok, fv]) $$ H7
  iintro H7
  iapply (wp_put8 d L ![tok, fv]) $$ H8
  iintro H8
  iapply (wp_put9 d L ![tok, izeros]) $$ H9
  iintro H9
  iapply HQ $$ %_ %_ %_ [] [H7 H8 H9]
  rotate_left
  · isplitl [H7]; · iexact H7
    isplitl [H8]; · iexact H8
    iexact H9
  ipureintro
  refine ⟨fun j => ?_, fun j => ?_, fun j => storeIdx_one _ _ t htok _ _ j⟩
  · refine (storeIdx_row _ _ _ t htok _ _ _ j).trans ?_
    have h := read_blank (View.whole cc1_scratch1) f7 (Scalar.ofBits .f32 0x00000000#32) (asRow zeros) (asRow_broadcast _) t o0 h0 o1 h1 o2 h2 o3 h3 e0 e1 e2 e3 j
    rw [View.read_whole, View.read_whole] at h
    split
    · next ht => rw [if_pos ht] at h; rw [← h]
    · next ht => rw [if_neg ht] at h; exact h
  · refine (storeIdx_row _ _ _ t htok _ _ _ j).trans ?_
    have h := read_blank (View.whole cc1_scratch2) f8 (Scalar.ofBits .f32 0xFF800000#32) (asRow floors) (asRow_broadcast _) t o0 h0 o1 h1 o2 h2 o3 h3 e0 e1 e2 e3 j
    rw [View.read_whole, View.read_whole] at h
    split
    · next ht => rw [if_pos ht] at h; rw [← h]
    · next ht => rw [if_neg ht] at h; exact h

end Cert.Proof.Router

end
-- ==== Proof.Lanes.lean ====
/-
  Where the lanes of the sorted vectors come from: every lane of a placed vector is a lane of the vector placed.
-/
module

public import proofs.«01_k».proof.Proof.Rows
public import Idealize.ShloMosaic.Lib.Pipeline.Value

@[expose] public section

noncomputable section

namespace Cert.Proof.Router

open Cert.KernelIdeal Cert.KernelIdeal.Gen
open Idealize.ShloMosaic Idealize.SL.Sem

variable {F : FTy → Type} [FloatOps F] [Named F]

theorem rep_inv {σ : Type} (p : σ → Prop) (g : σ → σ) (h : ∀ x, p x → p (g x)) : ∀ (n : ℕ) (x : σ), p x → p (rep g n x) := by
  intro n x hx
  rw [rep_eq]
  induction n generalizing x with
  | zero => exact hx
  | succ n ih => exact ih (g x) (h x hx)

/-- The lanes from `s` on, then those before it. -/
theorem concat_lane {α : Type} (n s : ℕ) (h1 : S16.Slices ![s] ⟨1, ![n]⟩) (h2 : S16.Slices ![0] ⟨1, ![s]⟩)
    (h : Shape.Concatenates [⟨1, ![n]⟩, ⟨1, ![s]⟩] S16 0) (hn : n + s = 16) (x : S16.Idx → α) (k r : Fin 16) (hr : r.val = (k.val + s) % 16) :
    concatenate S16 0 [⟨⟨1, ![n]⟩, extractStridedSlice ⟨1, ![n]⟩ ![s] x h1⟩, ⟨⟨1, ![s]⟩, extractStridedSlice ⟨1, ![s]⟩ ![0] x h2⟩] h (lane k) = x (lane r) := by
  have hk := k.isLt
  have hrk := r.isLt
  by_cases hkn : k.val < n
  · refine (concatenate_pair_apply_left 0 _ _ h (lane k) rfl (Shape.ofLane (d := ![n]) ⟨k.val, hkn⟩) ?_).trans ?_
    · intro b; obtain rfl : b = 0 := Subsingleton.elim _ _; rfl
    · unfold extractStridedSlice
      congr 1
      funext a; obtain rfl : a = 0 := Subsingleton.elim _ _
      refine Fin.ext ?_
      show s + k.val = r.val
      omega
  · refine (concatenate_pair_apply_right 0 _ _ h (lane k) rfl rfl (Shape.ofLane (d := ![s]) ⟨k.val - n, by show _ < s; omega⟩) ?_ ?_).trans ?_
    · intro b hb; obtain rfl : b = 0 := Subsingleton.elim _ _; exact absurd rfl hb
    · show k.val - n + n = k.val
      omega
    · unfold extractStridedSlice
      congr 1
      funext a; obtain rfl : a = 0 := Subsingleton.elim _ _
      refine Fin.ext ?_
      show 0 + (k.val - n) = r.val
      omega

theorem roll_lane {α : Type} (x : S16.Idx → α) (k : Fin 16) : roll x (lane k) = x (lane (k + 1 : Fin 16)) :=
  concat_lane 15 1 _ _ _ rfl x k (k + 1) (by rw [Fin.val_add]; rfl)

theorem roll_all {α : Type} (p : α → Prop) (x : S16.Idx → α) (h : ∀ j, p (x j)) : ∀ j, p (roll x j) := by
  intro j
  have e := roll_lane x (j 0)
  rw [lane_val] at e
  rw [e]; exact h _

theorem select_all {α : Type} (p : α → Prop) (c : IVec S16 1) (x y : S16.Idx → α) (hx : ∀ j, p (x j)) (hy : ∀ j, p (y j)) : ∀ j, p (select c x y j) := by
  intro j
  unfold select
  show p (if c j = 1 then x j else y j)
  split
  · exact hx j
  · exact hy j

theorem placeV_all (p : BitVec 32 → Prop) (ln : IVec S16 32) (key : Vec F S16 .f32) (val r : IVec S16 32) (h : ∀ j, p (val j)) : ∀ j, p (placeV ln key val r j) := by
  have := rep_inv (fun c : KVO F => (∀ j, p (c.2.1 j)) ∧ ∀ j, p (c.2.2.2.2 j)) (placeStep ln)
    (fun c hc => ⟨roll_all p c.2.1 hc.1, select_all p _ _ _ hc.1 hc.2⟩) 16 (key, val, r, key, val) ⟨h, h⟩
  exact this.2

theorem lanes_lt (j : S16.Idx) : (lanes j).toNat < 64 := by
  have : ∀ k : Fin 16, (lanes (lane k)).toNat < 64 := by intro k; fin_cases k <;> decide
  simpa only [lane_val] using this (j 0)
theorem lanes16_lt (j : S16.Idx) : (addi lanes (broadcast S16 16#32) j).toNat < 64 := by
  have : ∀ k : Fin 16, (addi lanes (broadcast S16 16#32) (lane k)).toNat < 64 := by intro k; fin_cases k <;> decide
  simpa only [lane_val] using this (j 0)
theorem lanes32_lt (j : S16.Idx) : (addi lanes (broadcast S16 32#32) j).toNat < 64 := by
  have : ∀ k : Fin 16, (addi lanes (broadcast S16 32#32) (lane k)).toNat < 64 := by intro k; fin_cases k <;> decide
  simpa only [lane_val] using this (j 0)
theorem lanes48_lt (j : S16.Idx) : (addi lanes (broadcast S16 48#32) j).toNat < 64 := by
  have : ∀ k : Fin 16, (addi lanes (broadcast S16 48#32) (lane k)).toNat < 64 := by intro k; fin_cases k <;> decide
  simpa only [lane_val] using this (j 0)

section
variable {p : BitVec 32 → Prop}
theorem sortD_all (key : Vec F S16 .f32) (val : IVec S16 32) (h : ∀ j, p (val j)) : ∀ j, p ((sortD key val).2 j) := placeV_all p _ _ _ _ h
theorem sortA_all (key : Vec F S16 .f32) (val : IVec S16 32) (h : ∀ j, p (val j)) : ∀ j, p ((sortA key val).2 j) := placeV_all p _ _ _ _ h
theorem pick_all (a b : Vec F S16 .f32 × IVec S16 32) (ha : ∀ j, p (a.2 j)) (hb : ∀ j, p (b.2 j)) : ∀ j, p ((pick a b).2 j) :=
  select_all p _ _ _ ha hb
end

/-- An expert is one of the sixty-four. -/
theorem expertOf_lt (q0 q1 q2 q3 : Vec F S16 .f32) : ∀ j, (expertOf q0 q1 q2 q3 j).toNat < 64 := by
  unfold expertOf top
  refine sortD_all (p := fun b => b.toNat < 64) _ _ (pick_all (p := fun b => b.toNat < 64) _ _ (sortD_all (p := fun b => b.toNat < 64) _ _ (pick_all (p := fun b => b.toNat < 64) _ _ (sortD_all (p := fun b => b.toNat < 64) _ _ lanes_lt) (sortA_all (p := fun b => b.toNat < 64) _ _ lanes16_lt)))
    (sortA_all (p := fun b => b.toNat < 64) _ _ (pick_all (p := fun b => b.toNat < 64) _ _ (sortD_all (p := fun b => b.toNat < 64) _ _ lanes32_lt) (sortA_all (p := fun b => b.toNat < 64) _ _ lanes48_lt))))

/-- The row a token's scatters name, as a number. -/
theorem tokOf_val (k1_t1 : Fin k1_t1_loop.trips) (r : Fin 4) (x : S16.Idx) : (tokOf k1_t1 (BitVec.ofNat 32 r.val) x).toNat = 4 * k1_t1.val + r.val := by
  have : ∀ (k : Fin k1_t1_loop.trips) (r : Fin 4), (Scalar.addi (Scalar.muli (Scf.iv 0#32 1#32 k) 4#32) (BitVec.ofNat 32 r.val)).toNat = 4 * k.val + r.val := by
    decide +kernel
  exact this k1_t1 r

theorem trips_eq : k1_t1_loop.trips = 64 := by decide +kernel

theorem chk_of (k1_t1 : Fin k1_t1_loop.trips) (r : Fin 4) (q0 q1 q2 q3 : Vec F S16 .f32) :
    k1_chk1 izeros (expertOf q0 q1 q2 q3) (tokOf k1_t1 (BitVec.ofNat 32 r.val)) := by
  have ht : ∀ x, (tokOf k1_t1 (BitVec.ofNat 32 r.val) x).toNat < 256 := fun x => by
    rw [tokOf_val]; have h1 : k1_t1.val < 64 := trips_eq ▸ k1_t1.isLt; have := r.isLt; omega
  have hE := expertOf_lt q0 q1 q2 q3
  refine ⟨fun a x => ?_, fun a x => ?_, fun a x => ?_⟩ <;> match a with
    | 0 => exact ht x
    | 1 => first | exact hE x | exact (show (0 : ℕ) < 1 by decide)

end Cert.Proof.Router

end
-- ==== Proof.Tile.lean ====
/-
  A trip of the tile's loop, carrying the values: the rows of the tokens done so far hold the router's functions of
  the fetched rows.
-/
module

public import proofs.«01_k».proof.Proof.Token
public import proofs.«01_k».proof.Proof.Lanes

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

/-- Sixteen of a row's sixty-four entries, from `16 k`. -/
def quarter (g : Fin 64 → F .f32) (k : Fin 4) : Vec F S16 .f32 :=
  fun j => g ⟨16 * k.val + (j 0).val, by have : (j 0).val < 16 := (j 0).isLt; have := k.isLt; omega⟩

/-- The router's outputs for one token, of its row of scores: the weights on the chosen experts, their sum, and the logarithms. -/
def maskRow (g : Fin 64 → F .f32) (c : ℕ) : F .f32 :=
  putRow (expertOf (quarter g 0) (quarter g 1) (quarter g 2) (quarter g 3)) (weightOf (quarter g 0) (quarter g 1) (quarter g 2) (quarter g 3)) low8 (Scalar.ofBits .f32 0x00000000#32) c
def logRow (g : Fin 64 → F .f32) (c : ℕ) : F .f32 :=
  putRow (expertOf (quarter g 0) (quarter g 1) (quarter g 2) (quarter g 3)) (logWeightOf (quarter g 0) (quarter g 1) (quarter g 2) (quarter g 3)) low8 (Scalar.ofBits .f32 0xFF800000#32) c
def sumRow (g : Fin 64 → F .f32) : F .f32 := totalOf (quarter g 0) (quarter g 1) (quarter g 2) (quarter g 3)

/-- Row `r` of an array of sixty-four columns. -/
def rowOf {n : ℕ} (x : Vec F ⟨2, ![n, 64]⟩ .f32) (r : Fin n) : Fin 64 → F .f32 := fun c => x (ix2 r c)

/-- The three outputs of an array of scores. -/
def outMask {n : ℕ} (x : Vec F ⟨2, ![n, 64]⟩ .f32) : Vec F ⟨2, ![n, 64]⟩ .f32 := fun j => maskRow (rowOf x (j 0)) (j 1).val
def outLog {n : ℕ} (x : Vec F ⟨2, ![n, 64]⟩ .f32) : Vec F ⟨2, ![n, 64]⟩ .f32 := fun j => logRow (rowOf x (j 0)) (j 1).val
def outSum {n : ℕ} (x : Vec F ⟨2, ![n, 64]⟩ .f32) : Vec F ⟨2, ![n, 1]⟩ .f32 := fun j => sumRow (rowOf x (j 0))

/-- The rows below `n` hold the outputs. -/
def Done (n : ℕ) (x f7 f8 : Vec F S256x64 .f32) (f9 : Vec F S256x1 .f32) : Prop :=
  (∀ j, (j 0).val < n → f7 j = outMask x j) ∧ (∀ j, (j 0).val < n → f8 j = outLog x j) ∧ ∀ j, (j 0).val < n → f9 j = outSum x j

theorem Done.token {n : ℕ} {x f7 f8 : Vec F S256x64 .f32} {f9 : Vec F S256x1 .f32} (h : Done n x f7 f8 f9) (r : Fin 256) (hr : r.val = n)
    {g7 g8 : Vec F S256x64 .f32} {g9 : Vec F S256x1 .f32} {q0 q1 q2 q3 : Vec F S16 .f32}
    (e0 : q0 = quarter (rowOf x r) 0) (e1 : q1 = quarter (rowOf x r) 1) (e2 : q2 = quarter (rowOf x r) 2) (e3 : q3 = quarter (rowOf x r) 3)
    (hs : TokStored n (expertOf q0 q1 q2 q3) (weightOf q0 q1 q2 q3) (logWeightOf q0 q1 q2 q3) (totalOf q0 q1 q2 q3) f7 f8 f9 g7 g8 g9) :
    Done (n + 1) x g7 g8 g9 := by
  subst e0 e1 e2 e3
  have key : ∀ j0 : Fin 256, j0.val = n → j0 = r := fun j0 hj => Fin.ext (hj.trans hr.symm)
  refine ⟨fun j hj => ?_, fun j hj => ?_, fun j hj => ?_⟩
  · rw [hs.1 j]
    split
    · next ht => rw [outMask, key _ ht]; rfl
    · next ht => exact h.1 j (by omega)
  · rw [hs.2.1 j]
    split
    · next ht => rw [outLog, key _ ht]; rfl
    · next ht => exact h.2.1 j (by omega)
  · rw [hs.2.2 j]
    split
    · next ht => rw [outSum, key _ ht]; rfl
    · next ht => exact h.2.2 j (by omega)

/-- A piece of the fetched rows as lanes is a quarter of the row. -/
theorem asLanes_piece (x : Vec F S256x64 .f32) (o : Fin 2 → Nat) (h : ∀ a, o a + S1x16.size a ≤ S256x64.size a) (r : Fin 256) (k : Fin 4) (e : o = ![r.val, 16 * k.val]) :
    asLanes (View.readAt (Elt F) (m6).view (piece o h).toLoadRect x) = quarter (rowOf x r) k := by
  subst e
  funext j
  unfold asLanes
  rw [shapeCast_dropUnit_apply ![16]]
  unfold quarter rowOf
  show x _ = x _
  congr 1
  funext a
  refine Fin.ext ?_
  match a with
  | 0 => show r.val + 1 * 0 = r.val; omega
  | 1 => show 16 * k.val + 1 * (j 0).val = 16 * k.val + (j 0).val; omega

/-- What a load at `o` of the fetched rows reads. -/
abbrev fetched (x : Vec F S256x64 .f32) (o : Fin 2 → Nat) (h : ∀ a, o a + S1x16.size a ≤ S256x64.size a) : Vec F S1x16 .f32 :=
  View.readAt (Elt F) (m6).view (piece o h).toLoadRect x

/-- The sixteen loads of a trip, then `kk` of what they read. -/
def loadsThen (L : grid1.Coords) (k1_t1 : Fin k1_t1_loop.trips) (kk : Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → TileProg F L PUnit) : TileProg F L PUnit := do
  let a0 : Vec F S1x16 .f32 ← Prog.lift (.load m6 (piece (k1_off2 k1_t1 0#32) (k1_off2_inb k1_t1 0)).toLoadRect (View.loadsAt_vmem h_S1x16))
  let a1 : Vec F S1x16 .f32 ← Prog.lift (.load m6 (piece (k1_off3 k1_t1 0#32) (k1_off3_inb k1_t1 0)).toLoadRect (View.loadsAt_vmem h_S1x16))
  let a2 : Vec F S1x16 .f32 ← Prog.lift (.load m6 (piece (k1_off4 k1_t1 0#32) (k1_off4_inb k1_t1 0)).toLoadRect (View.loadsAt_vmem h_S1x16))
  let a3 : Vec F S1x16 .f32 ← Prog.lift (.load m6 (piece (k1_off5 k1_t1 0#32) (k1_off5_inb k1_t1 0)).toLoadRect (View.loadsAt_vmem h_S1x16))
  let b0 : Vec F S1x16 .f32 ← Prog.lift (.load m6 (piece (k1_off2 k1_t1 1#32) (k1_off2_inb k1_t1 1)).toLoadRect (View.loadsAt_vmem h_S1x16))
  let b1 : Vec F S1x16 .f32 ← Prog.lift (.load m6 (piece (k1_off3 k1_t1 1#32) (k1_off3_inb k1_t1 1)).toLoadRect (View.loadsAt_vmem h_S1x16))
  let b2 : Vec F S1x16 .f32 ← Prog.lift (.load m6 (piece (k1_off4 k1_t1 1#32) (k1_off4_inb k1_t1 1)).toLoadRect (View.loadsAt_vmem h_S1x16))
  let b3 : Vec F S1x16 .f32 ← Prog.lift (.load m6 (piece (k1_off5 k1_t1 1#32) (k1_off5_inb k1_t1 1)).toLoadRect (View.loadsAt_vmem h_S1x16))
  let c0 : Vec F S1x16 .f32 ← Prog.lift (.load m6 (piece (k1_off2 k1_t1 2#32) (k1_off2_inb k1_t1 2)).toLoadRect (View.loadsAt_vmem h_S1x16))
  let c1 : Vec F S1x16 .f32 ← Prog.lift (.load m6 (piece (k1_off3 k1_t1 2#32) (k1_off3_inb k1_t1 2)).toLoadRect (View.loadsAt_vmem h_S1x16))
  let c2 : Vec F S1x16 .f32 ← Prog.lift (.load m6 (piece (k1_off4 k1_t1 2#32) (k1_off4_inb k1_t1 2)).toLoadRect (View.loadsAt_vmem h_S1x16))
  let c3 : Vec F S1x16 .f32 ← Prog.lift (.load m6 (piece (k1_off5 k1_t1 2#32) (k1_off5_inb k1_t1 2)).toLoadRect (View.loadsAt_vmem h_S1x16))
  let d0 : Vec F S1x16 .f32 ← Prog.lift (.load m6 (piece (k1_off2 k1_t1 3#32) (k1_off2_inb k1_t1 3)).toLoadRect (View.loadsAt_vmem h_S1x16))
  let d1 : Vec F S1x16 .f32 ← Prog.lift (.load m6 (piece (k1_off3 k1_t1 3#32) (k1_off3_inb k1_t1 3)).toLoadRect (View.loadsAt_vmem h_S1x16))
  let d2 : Vec F S1x16 .f32 ← Prog.lift (.load m6 (piece (k1_off4 k1_t1 3#32) (k1_off4_inb k1_t1 3)).toLoadRect (View.loadsAt_vmem h_S1x16))
  let d3 : Vec F S1x16 .f32 ← Prog.lift (.load m6 (piece (k1_off5 k1_t1 3#32) (k1_off5_inb k1_t1 3)).toLoadRect (View.loadsAt_vmem h_S1x16))
  kk a0 a1 a2 a3 b0 b1 b2 b3 c0 c1 c2 c3 d0 d1 d2 d3

theorem wp_loads (d : Dev nD) (L : grid1.Coords) (k1_t1 : Fin k1_t1_loop.trips) (kk : Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → Vec F S1x16 .f32 → TileProg F L PUnit)
    (x : Buf (Elt F) ((m6).view.loc (thr d L))) (Q : PUnit → sProp 𝕄) :
    iprop(((m6).view.loc (thr d L) ↦{fullShare} x) ∗ (((m6).view.loc (thr d L) ↦{fullShare} x) -∗
        wp frame (wpE (defs₀ (F := F)) 𝒱₀ (thr d L) none) Set.univ (kk
          (fetched x (k1_off2 k1_t1 0#32) (k1_off2_inb k1_t1 0))
          (fetched x (k1_off3 k1_t1 0#32) (k1_off3_inb k1_t1 0))
          (fetched x (k1_off4 k1_t1 0#32) (k1_off4_inb k1_t1 0))
          (fetched x (k1_off5 k1_t1 0#32) (k1_off5_inb k1_t1 0))
          (fetched x (k1_off2 k1_t1 1#32) (k1_off2_inb k1_t1 1))
          (fetched x (k1_off3 k1_t1 1#32) (k1_off3_inb k1_t1 1))
          (fetched x (k1_off4 k1_t1 1#32) (k1_off4_inb k1_t1 1))
          (fetched x (k1_off5 k1_t1 1#32) (k1_off5_inb k1_t1 1))
          (fetched x (k1_off2 k1_t1 2#32) (k1_off2_inb k1_t1 2))
          (fetched x (k1_off3 k1_t1 2#32) (k1_off3_inb k1_t1 2))
          (fetched x (k1_off4 k1_t1 2#32) (k1_off4_inb k1_t1 2))
          (fetched x (k1_off5 k1_t1 2#32) (k1_off5_inb k1_t1 2))
          (fetched x (k1_off2 k1_t1 3#32) (k1_off2_inb k1_t1 3))
          (fetched x (k1_off3 k1_t1 3#32) (k1_off3_inb k1_t1 3))
          (fetched x (k1_off4 k1_t1 3#32) (k1_off4_inb k1_t1 3))
          (fetched x (k1_off5 k1_t1 3#32) (k1_off5_inb k1_t1 3))) Q))
      ⊢ wp frame (wpE (defs₀ (F := F)) 𝒱₀ (thr d L) none) Set.univ (loadsThen L k1_t1 kk) Q := by
  unfold loadsThen
  iintro ⟨H6, HQ⟩
  sl_exec
  iapply HQ $$ H6

/-- A trip of the loop does four more rows. -/
theorem wp_trip (d : Dev nD) (L : grid1.Coords) (k1_t1 : Fin k1_t1_loop.trips) (x : Buf (Elt F) ((m6).view.loc (thr d L)))
    (f7 : Buf (Elt F) ((m7).view.loc (thr d L))) (f8 : Buf (Elt F) ((m8).view.loc (thr d L))) (f9 : Buf (Elt F) ((m9).view.loc (thr d L)))
    (h : Done (4 * k1_t1.val) x f7 f8 f9) (Q : PUnit → sProp 𝕄) :
    iprop(((m6).view.loc (thr d L) ↦{fullShare} x) ∗ ((m7).view.loc (thr d L) ↦{fullShare} f7) ∗ ((m8).view.loc (thr d L) ↦{fullShare} f8) ∗ ((m9).view.loc (thr d L) ↦{fullShare} f9) ∗
      (∀ (g7 : Buf (Elt F) ((m7).view.loc (thr d L))) (g8 : Buf (Elt F) ((m8).view.loc (thr d L))) (g9 : Buf (Elt F) ((m9).view.loc (thr d L))),
        ⌜Done (4 * (k1_t1.val + 1)) x g7 g8 g9⌝ -∗
        (((m6).view.loc (thr d L) ↦{fullShare} x) ∗ ((m7).view.loc (thr d L) ↦{fullShare} g7) ∗ ((m8).view.loc (thr d L) ↦{fullShare} g8) ∗ ((m9).view.loc (thr d L) ↦{fullShare} g9)) -∗ Q ⟨⟩))
     ⊢ wp frame (wpE (defs₀ (F := F)) 𝒱₀ (thr d L) none) Set.univ (trip (F := F) L m6 m7 m8 m9 k1_t1) Q := by
  iintro ⟨H6, H7, H8, H9, HQ⟩
  iapply (wp_loads d L k1_t1 (fun a0 a1 a2 a3 b0 b1 b2 b3 c0 c1 c2 c3 d0 d1 d2 d3 => do
    storeTok L m7 m8 m9 (k1_off2 k1_t1 0#32) (k1_off2_inb k1_t1 0) (k1_off3 k1_t1 0#32) (k1_off3_inb k1_t1 0) (k1_off4 k1_t1 0#32) (k1_off4_inb k1_t1 0) (k1_off5 k1_t1 0#32) (k1_off5_inb k1_t1 0) (tokOf k1_t1 0#32)
      (expertOf (asLanes a0) (asLanes a1) (asLanes a2) (asLanes a3)) (weightOf (asLanes a0) (asLanes a1) (asLanes a2) (asLanes a3))
      (logWeightOf (asLanes a0) (asLanes a1) (asLanes a2) (asLanes a3)) (totalOf (asLanes a0) (asLanes a1) (asLanes a2) (asLanes a3))
    storeTok L m7 m8 m9 (k1_off6 k1_t1) (k1_off6_inb k1_t1) (k1_off7 k1_t1) (k1_off7_inb k1_t1) (k1_off8 k1_t1) (k1_off8_inb k1_t1) (k1_off9 k1_t1) (k1_off9_inb k1_t1) (tokOf k1_t1 1#32)
      (expertOf (asLanes b0) (asLanes b1) (asLanes b2) (asLanes b3)) (weightOf (asLanes b0) (asLanes b1) (asLanes b2) (asLanes b3))
      (logWeightOf (asLanes b0) (asLanes b1) (asLanes b2) (asLanes b3)) (totalOf (asLanes b0) (asLanes b1) (asLanes b2) (asLanes b3))
    storeTok L m7 m8 m9 (k1_off10 k1_t1) (k1_off10_inb k1_t1) (k1_off11 k1_t1) (k1_off11_inb k1_t1) (k1_off12 k1_t1) (k1_off12_inb k1_t1) (k1_off13 k1_t1) (k1_off13_inb k1_t1) (tokOf k1_t1 2#32)
      (expertOf (asLanes c0) (asLanes c1) (asLanes c2) (asLanes c3)) (weightOf (asLanes c0) (asLanes c1) (asLanes c2) (asLanes c3))
      (logWeightOf (asLanes c0) (asLanes c1) (asLanes c2) (asLanes c3)) (totalOf (asLanes c0) (asLanes c1) (asLanes c2) (asLanes c3))
    storeTok L m7 m8 m9 (k1_off14 k1_t1) (k1_off14_inb k1_t1) (k1_off15 k1_t1) (k1_off15_inb k1_t1) (k1_off16 k1_t1) (k1_off16_inb k1_t1) (k1_off17 k1_t1) (k1_off17_inb k1_t1) (tokOf k1_t1 3#32)
      (expertOf (asLanes d0) (asLanes d1) (asLanes d2) (asLanes d3)) (weightOf (asLanes d0) (asLanes d1) (asLanes d2) (asLanes d3))
      (logWeightOf (asLanes d0) (asLanes d1) (asLanes d2) (asLanes d3)) (totalOf (asLanes d0) (asLanes d1) (asLanes d2) (asLanes d3))) x Q)
  isplitl [H6]; · iexact H6
  iintro H6
  have hT : k1_t1.val < 64 := trips_eq ▸ k1_t1.isLt
  simp only [wp_bind]
  iapply (wp_storeTok d L _ _ _ _ _ _ _ _ _ _ _ _ _ (4 * k1_t1.val) (chk_of k1_t1 0 _ _ _ _) (fun y => tokOf_val k1_t1 0 y)
    (k1_off2_eq k1_t1 0) (k1_off3_eq k1_t1 0) (k1_off4_eq k1_t1 0) (k1_off5_eq k1_t1 0) f7 f8 f9)
  isplitl [H7]; · iexact H7
  isplitl [H8]; · iexact H8
  isplitl [H9]; · iexact H9
  iintro %a7 %a8 %a9 %ha ⟨H7, H8, H9⟩
  have h1 := h.token ⟨4 * k1_t1.val, by omega⟩ rfl (asLanes_piece x _ _ _ 0 (k1_off2_eq k1_t1 0)) (asLanes_piece x _ _ _ 1 (k1_off3_eq k1_t1 0))
    (asLanes_piece x _ _ _ 2 (k1_off4_eq k1_t1 0)) (asLanes_piece x _ _ _ 3 (k1_off5_eq k1_t1 0)) ha
  iapply (wp_storeTok d L _ _ _ _ _ _ _ _ _ _ _ _ _ (4 * k1_t1.val + 1) (chk_of k1_t1 1 _ _ _ _) (fun y => tokOf_val k1_t1 1 y)
    (k1_off6_eq k1_t1) (k1_off7_eq k1_t1) (k1_off8_eq k1_t1) (k1_off9_eq k1_t1) a7 a8 a9)
  isplitl [H7]; · iexact H7
  isplitl [H8]; · iexact H8
  isplitl [H9]; · iexact H9
  iintro %b7 %b8 %b9 %hb ⟨H7, H8, H9⟩
  have h2 := h1.token ⟨4 * k1_t1.val + 1, by omega⟩ rfl (asLanes_piece x _ _ _ 0 (k1_off2_eq k1_t1 1)) (asLanes_piece x _ _ _ 1 (k1_off3_eq k1_t1 1))
    (asLanes_piece x _ _ _ 2 (k1_off4_eq k1_t1 1)) (asLanes_piece x _ _ _ 3 (k1_off5_eq k1_t1 1)) hb
  iapply (wp_storeTok d L _ _ _ _ _ _ _ _ _ _ _ _ _ (4 * k1_t1.val + 2) (chk_of k1_t1 2 _ _ _ _) (fun y => tokOf_val k1_t1 2 y)
    (k1_off10_eq k1_t1) (k1_off11_eq k1_t1) (k1_off12_eq k1_t1) (k1_off13_eq k1_t1) b7 b8 b9)
  isplitl [H7]; · iexact H7
  isplitl [H8]; · iexact H8
  isplitl [H9]; · iexact H9
  iintro %c7 %c8 %c9 %hc ⟨H7, H8, H9⟩
  have h3 := h2.token ⟨4 * k1_t1.val + 2, by omega⟩ rfl (asLanes_piece x _ _ _ 0 (k1_off2_eq k1_t1 2)) (asLanes_piece x _ _ _ 1 (k1_off3_eq k1_t1 2))
    (asLanes_piece x _ _ _ 2 (k1_off4_eq k1_t1 2)) (asLanes_piece x _ _ _ 3 (k1_off5_eq k1_t1 2)) hc
  iapply (wp_storeTok d L _ _ _ _ _ _ _ _ _ _ _ _ _ (4 * k1_t1.val + 3) (chk_of k1_t1 3 _ _ _ _) (fun y => tokOf_val k1_t1 3 y)
    (k1_off14_eq k1_t1) (k1_off15_eq k1_t1) (k1_off16_eq k1_t1) (k1_off17_eq k1_t1) c7 c8 c9)
  isplitl [H7]; · iexact H7
  isplitl [H8]; · iexact H8
  isplitl [H9]; · iexact H9
  iintro %g7 %g8 %g9 %hd ⟨H7, H8, H9⟩
  have h4 := h3.token ⟨4 * k1_t1.val + 3, by omega⟩ rfl (asLanes_piece x _ _ _ 0 (k1_off2_eq k1_t1 3)) (asLanes_piece x _ _ _ 1 (k1_off3_eq k1_t1 3))
    (asLanes_piece x _ _ _ 2 (k1_off4_eq k1_t1 3)) (asLanes_piece x _ _ _ 3 (k1_off5_eq k1_t1 3)) hd
  iapply HQ $$ %g7 %g8 %g9 %h4
  isplitl [H6]; · iexact H6
  isplitl [H7]; · iexact H7
  isplitl [H8]; · iexact H8
  iexact H9
end Cert.Proof.Router

end
-- ==== Proof.Body.lean ====
/-
  The router's task on one tile: fetch its 256 rows of scores, the loop, and the copies of the three outputs' rows.
-/
module

public import proofs.«01_k».proof.Proof.Tile

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

abbrev fW : Memref sig .scVector .hbm S8192x64 .f32 := Memref.whole main_v2_scv
abbrev aW : Memref sig .scVector .hbm S8192x64 .f32 := Memref.whole main_v3_0_scv
abbrev pW : Memref sig .scVector .hbm S8192x1 .f32 := Memref.whole main_v3_1_scv
abbrev lW : Memref sig .scVector .hbm S8192x64 .f32 := Memref.whole main_v3_2_scv

/-- The tile's 256 rows of each array. -/
abbrev fS (L : grid1.Coords) : Memref sig .scVector .hbm S256x64 .f32 := fW.slice (Rect.unit (s := S8192x64) (k1_off1 L) S256x64.size (k1_off1_inb L)) (fun _ => rfl)
abbrev aS (L : grid1.Coords) : Memref sig .scVector .hbm S256x64 .f32 := aW.slice (Rect.unit (s := S8192x64) (k1_off18 L) S256x64.size (k1_off18_inb L)) (fun _ => rfl)
abbrev pS (L : grid1.Coords) : Memref sig .scVector .hbm S256x1 .f32 := pW.slice (Rect.unit (s := S8192x1) (k1_off19 L) S256x1.size (k1_off19_inb L)) (fun _ => rfl)
abbrev lS (L : grid1.Coords) : Memref sig .scVector .hbm S256x64 .f32 := lW.slice (Rect.unit (s := S8192x64) (k1_off18 L) S256x64.size (k1_off18_inb L)) (fun _ => rfl)

/-- The task in normal form. -/
def router (L : grid1.Coords) : TileProg F L PUnit := do
  Prog.lift (.enqueueDma (fS L) (.here m6) (.dma cc1_scoped0.sem) (View.wordExact_bits rfl) (Memref.isWhole_whole cc1_scratch0).wordExact ⟨Or.inl rfl, trivial⟩)
  Prog.lift (.waitDma2 cc1_scoped0.sem (fS L) m6 (View.wordExact_bits rfl) (Memref.isWhole_whole cc1_scratch0).wordExact)
  Scf.Loop.for k1_t1_loop k1_t1_ok ⟨⟩ fun k1_t1 _ => trip L m6 m7 m8 m9 k1_t1
  Prog.lift (.enqueueDma m7 (.here (aS L)) (.dma cc1_scoped1.sem) (Memref.isWhole_whole cc1_scratch1).wordExact (View.wordExact_bits rfl) ⟨Or.inl rfl, trivial⟩)
  Prog.lift (.waitDma2 cc1_scoped1.sem m7 (aS L) (Memref.isWhole_whole cc1_scratch1).wordExact (View.wordExact_bits rfl))
  Prog.lift (.enqueueDma m9 (.here (pS L)) (.dma cc1_scoped2.sem) (Memref.isWhole_whole cc1_scratch3).wordExact (View.wordExact_bits rfl) ⟨Or.inl rfl, trivial⟩)
  Prog.lift (.waitDma2 cc1_scoped2.sem m9 (pS L) (Memref.isWhole_whole cc1_scratch3).wordExact (View.wordExact_bits rfl))
  Prog.lift (.enqueueDma m8 (.here (lS L)) (.dma cc1_scoped3.sem) (Memref.isWhole_whole cc1_scratch2).wordExact (View.wordExact_bits rfl) ⟨Or.inl rfl, trivial⟩)
  Prog.lift (.waitDma2 cc1_scoped3.sem m8 (lS L) (Memref.isWhole_whole cc1_scratch2).wordExact (View.wordExact_bits rfl))
  pure ⟨⟩

theorem router_eq (L : grid1.Coords) :
    cc1__sc_router_body (F := F) L fW (Memref.isWhole_whole _) aW (Memref.isWhole_whole _) pW (Memref.isWhole_whole _) lW (Memref.isWhole_whole _)
        m6 (Memref.isWhole_whole _) m7 (Memref.isWhole_whole _) m8 (Memref.isWhole_whole _) m9 (Memref.isWhole_whole _) cc1_scoped0 cc1_scoped1 cc1_scoped2 cc1_scoped3
      = router L := by
  have hb : (fun (k1_t1 : Fin k1_t1_loop.trips) (_ : PUnit) => trip (F := F) L m6 m7 m8 m9 k1_t1) = _ :=
    funext fun k1_t1 => funext fun _ => (body_eq L fW (Memref.isWhole_whole _) aW (Memref.isWhole_whole _) pW (Memref.isWhole_whole _) lW (Memref.isWhole_whole _)
        m6 (Memref.isWhole_whole _) m7 (Memref.isWhole_whole _) m8 (Memref.isWhole_whole _) m9 (Memref.isWhole_whole _) cc1_scoped0 cc1_scoped1 cc1_scoped2 cc1_scoped3 k1_t1).symm
  unfold router
  rw [hb]
  unfold cc1__sc_router_body k1_part18
  simp only [bind_assoc]
  rfl

end Cert.Proof.Router

end
-- ==== Proof.TileBody.lean ====
/-
  The tile's task from its rows of the four arrays to the rows at the router's outputs.
-/
module

public import proofs.«01_k».proof.Proof.Body

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

/-! ## The rows of a tile, as sets of places -/

/-- The first row of the tile. -/
def base (L : grid1.Coords) : ℕ := 512 * (L 1).val + 256 * (L 0).val

theorem base_le (L : grid1.Coords) : base L + 256 ≤ 8192 := by
  have h1 : (L 1).val < 16 := (L 1).isLt
  have h0 : (L 0).val < 2 := (L 0).isLt
  unfold base; omega

/-- Rows `b` to `b + 255` of an array of 8192 rows. -/
def rows {k : ℕ} (b : ℕ) : Finset (⟨2, ![8192, k]⟩ : Shape).Idx := Finset.univ.filter fun j => b ≤ (j 0).val ∧ (j 0).val < b + 256

theorem rect_rows {k : ℕ} (o : Fin 2 → ℕ) (h : ∀ a, o a + (⟨2, ![256, k]⟩ : Shape).size a ≤ (⟨2, ![8192, k]⟩ : Shape).size a) (b : ℕ) (e : o = ![b, 0]) :
    (Rect.unit (s := ⟨2, ![8192, k]⟩) o (⟨2, ![256, k]⟩ : Shape).size h).set = rows b := by
  subst e
  ext j
  refine (Rect.unit (s := ⟨2, ![8192, k]⟩) ![b, 0] (⟨2, ![256, k]⟩ : Shape).size h).mem_set.trans ?_
  unfold rows
  rw [Finset.mem_filter]
  constructor
  · intro hj
    obtain ⟨i, hi, e⟩ := hj 0
    have hi' : i < 256 := hi
    have e' : (j 0).val = b + 1 * i := e
    exact ⟨Finset.mem_univ _, by omega, by omega⟩
  · rintro ⟨-, h1, h2⟩ a
    match a with
    | 0 => exact ⟨(j 0).val - b, by show _ < 256; omega, by show (j 0).val = b + 1 * _; omega⟩
    | 1 => exact ⟨(j 1).val, (j 1).isLt, by show (j 1).val = 0 + 1 * _; omega⟩

theorem fS_set (L : grid1.Coords) : (fS L).view.set = rows (base L) := by
  rw [← rect_rows (k := 64) _ (k1_off1_inb L) (base L) (k1_off1_eq L)]
  show ((View.whole (main_v2_scv : Ref sig .scVector)).slice _).set = _
  rw [View.set_slice]; exact Finset.map_refl
theorem aS_set (L : grid1.Coords) : (aS L).view.set = rows (base L) := by
  rw [← rect_rows (k := 64) _ (k1_off18_inb L) (base L) (k1_off18_eq L)]
  show ((View.whole (main_v3_0_scv : Ref sig .scVector)).slice _).set = _
  rw [View.set_slice]; exact Finset.map_refl
theorem pS_set (L : grid1.Coords) : (pS L).view.set = rows (base L) := by
  rw [← rect_rows (k := 1) _ (k1_off19_inb L) (base L) (k1_off19_eq L)]
  show ((View.whole (main_v3_1_scv : Ref sig .scVector)).slice _).set = _
  rw [View.set_slice]; exact Finset.map_refl
theorem lS_set (L : grid1.Coords) : (lS L).view.set = rows (base L) := by
  rw [← rect_rows (k := 64) _ (k1_off18_inb L) (base L) (k1_off18_eq L)]
  show ((View.whole (main_v3_2_scv : Ref sig .scVector)).slice _).set = _
  rw [View.set_slice]; exact Finset.map_refl

/-! ## The tile's own semaphores and buffers -/

section Own
variable (d : Dev nD) (L : grid1.Coords)
abbrev cell0 : GSem nD τ sig := (thr d L, SemLoc.dma cc1_scoped0.sem)
abbrev cell1 : GSem nD τ sig := (thr d L, SemLoc.dma cc1_scoped1.sem)
abbrev cell2 : GSem nD τ sig := (thr d L, SemLoc.dma cc1_scoped2.sem)
abbrev cell3 : GSem nD τ sig := (thr d L, SemLoc.dma cc1_scoped3.sem)

omit [FloatOps F] [Named F] in
theorem ownSems0_tile : ∃ R : sProp 𝕄, (ownSems0 (thr d L) : sProp 𝕄)
      = iprop(semVal (cell0 d L) 0 ∗ semVal (cell1 d L) 0 ∗ semVal (cell2 d L) 0 ∗ semVal (cell3 d L) 0 ∗ R) := by
  have hne : ∀ a b : SemLoc sig, a ≠ b → ((thr d L, a) : GSem nD τ sig) ≠ (thr d L, b) := fun a b h e => h (Prod.mk.inj e).2
  refine ⟨bigSep (((((ownCells (thr d L)).erase (cell0 d L)).erase (cell1 d L)).erase (cell2 d L)).erase (cell3 d L)) fun g => semVal g 0, ?_⟩
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨hne _ _ (by decide), (mem_ownCells (g := cell1 d L)).mpr ⟨rfl, by
      show (SemLoc.dma cc1_scoped1.sem : SemLoc sig).isScoped .scVector = true; decide⟩⟩),
    SparseCore.bigSep_erase' (Finset.mem_erase.mpr ⟨hne _ _ (by decide), Finset.mem_erase.mpr ⟨hne _ _ (by decide),
      (mem_ownCells (g := cell2 d L)).mpr ⟨rfl, by show (SemLoc.dma cc1_scoped2.sem : SemLoc sig).isScoped .scVector = true; decide⟩⟩⟩),
    SparseCore.bigSep_erase' (Finset.mem_erase.mpr ⟨hne _ _ (by decide), Finset.mem_erase.mpr ⟨hne _ _ (by decide), Finset.mem_erase.mpr ⟨hne _ _ (by decide),
      (mem_ownCells (g := cell3 d L)).mpr ⟨rfl, by show (SemLoc.dma cc1_scoped3.sem : SemLoc sig).isScoped .scVector = true; decide⟩⟩⟩⟩)]

omit [FloatOps F] [Named F] in
theorem ownBufs_tile : ∃ R : sProp 𝕄, (ownBufs (thr d L) : sProp 𝕄)
      = iprop((∃ f, (m6).view.loc (thr d L) ↦{fullShare} f) ∗ (∃ f, (m7).view.loc (thr d L) ↦{fullShare} f)
          ∗ (∃ f, (m8).view.loc (thr d L) ↦{fullShare} f) ∗ (∃ f, (m9).view.loc (thr d L) ↦{fullShare} f) ∗ R) := by
  have hne : ∀ a b : Ref sig .scVector, a ≠ b → (Proc.scVector (cV L) (jV L)).devRef a ≠ (Proc.scVector (cV L) (jV L)).devRef b :=
    fun a b h e => h (Proc.devRef_injective _ e)
  refine ⟨bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨hne cc1_scratch1 cc1_scratch0 (by decide), SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide), Finset.mem_erase.mpr ⟨hne cc1_scratch2 cc1_scratch0 (by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide), SparseCore.Cfg.mem_ownRefs_of_owner (p := Proc.scVector (cV L) (jV L)) (b := (Proc.scVector (cV L) (jV L)).devRef cc1_scratch3) rfl⟩⟩⟩)]
end Own

/-! ## The arrays' rows -/

section Pts
variable (d : Dev nD)
abbrev fRows (L : grid1.Coords) (f : Vec F S8192x64 .f32) : sProp 𝕄 := fLoc d ↦[rows (k := 64) (base L)]{fullShare} f
abbrev aRows (L : grid1.Coords) (f : Vec F S8192x64 .f32) : sProp 𝕄 := aLoc d ↦[rows (k := 64) (base L)]{fullShare} f
abbrev pRows (L : grid1.Coords) (f : Vec F S8192x1 .f32) : sProp 𝕄 := pLoc d ↦[rows (k := 1) (base L)]{fullShare} f
abbrev lRows (L : grid1.Coords) (f : Vec F S8192x64 .f32) : sProp 𝕄 := lLoc d ↦[rows (k := 64) (base L)]{fullShare} f

variable (L : grid1.Coords)
omit [FloatOps F] [Named F] in
theorem fS_pts (f : Buf (Elt F) (fLoc d)) : ((fS L).view.loc (thr d L) ↦[(fS L).view.set]{fullShare} f : sProp 𝕄) = fRows d L f := by rw [fS_set]
omit [FloatOps F] [Named F] in
theorem aS_pts (f : Buf (Elt F) (aLoc d)) : ((aS L).view.loc (thr d L) ↦[(aS L).view.set]{fullShare} f : sProp 𝕄) = aRows d L f := by rw [aS_set]
omit [FloatOps F] [Named F] in
theorem pS_pts (f : Buf (Elt F) (pLoc d)) : ((pS L).view.loc (thr d L) ↦[(pS L).view.set]{fullShare} f : sProp 𝕄) = pRows d L f := by rw [pS_set]
omit [FloatOps F] [Named F] in
theorem lS_pts (f : Buf (Elt F) (lLoc d)) : ((lS L).view.loc (thr d L) ↦[(lS L).view.set]{fullShare} f : sProp 𝕄) = lRows d L f := by rw [lS_set]
end Pts

/-- A row of the tile's scores is the array's. -/
theorem rowOf_read (L : grid1.Coords) (fin : Vec F S8192x64 .f32) (x : Fin 256) (r : Fin 8192) (h : r.val = base L + x.val) :
    rowOf (n := 256) ((fS L).view.read (Elt F) fin) x = rowOf fin r := by
  funext c
  unfold rowOf
  refine ((View.read_apply _ _).trans (cast_eq _ _)).trans ?_
  refine congrArg fin (funext fun a => Fin.ext ?_)
  match a with
  | 0 =>
    show k1_off1 L 0 + 1 * x.val = r.val
    rw [k1_off1_eq L, h]
    show 512 * (L 1).val + 256 * (L 0).val + 1 * x.val = _
    unfold base; omega
  | 1 =>
    show k1_off1 L 1 + 1 * c.val = c.val
    rw [k1_off1_eq L]
    show 0 + 1 * c.val = c.val
    omega

/-- One piece written over the whole of a view lands as it is. -/
theorem read_writes_whole {κ : Kind} {sp : Space} {s : Shape} (v : View sig κ sp s .f32) (f : v.ty.Contents (Elt F)) (g : Vec F s .f32) (x : s.Idx) :
    v.read (Elt F) (v.writes (Elt F) f [⟨Rect.whole s, g⟩]) x = g x := by
  refine View.read_writes_apply_of_pieces v f g _ (fun p hp y => ?_) x ⟨_, List.mem_singleton.mpr rfl, by rw [Rect.set_whole]; exact Finset.mem_univ x⟩
  obtain rfl := List.mem_singleton.mp hp
  exact congrArg g (Rect.emb_whole_apply _ y).symm

/-! ## What the copies land is the outputs' rows -/

theorem land_a (L : grid1.Coords) (fin : Vec F S8192x64 .f32) (fa : Vec F S8192x64 .f32) (g : Vec F S256x64 .f32) (h : ∀ j, g j = outMask ((fS L).view.read (Elt F) fin) j) :
    ∀ i ∈ rows (k := 64) (base L), ((aS L).view.writes (Elt F) fa [⟨Rect.whole S256x64, g⟩] : Vec F S8192x64 .f32) i = outMask fin i := by
  intro i hi
  rw [← aS_set] at hi
  obtain ⟨x, -, rfl⟩ := Finset.mem_map.mp hi
  have hr := read_writes_whole (F := F) (aS L).view fa g x
  rw [View.read_apply, cast_eq] at hr
  refine hr.trans ((h x).trans ?_)
  have e0 : ((aS L).view.emb x 0).val = base L + (x 0).val := by
    show k1_off18 L 0 + 1 * (x 0).val = _
    rw [k1_off18_eq L]
    show 512 * (L 1).val + 256 * (L 0).val + 1 * (x 0).val = _
    unfold base; omega
  have e1 : ((aS L).view.emb x 1).val = (x 1).val := by
    show k1_off18 L 1 + 1 * (x 1).val = _
    rw [k1_off18_eq L]
    show 0 + 1 * (x 1).val = _
    omega
  unfold outMask
  exact congrArg₂ _ (rowOf_read L fin _ _ e0) e1.symm

theorem land_p (L : grid1.Coords) (fin : Vec F S8192x64 .f32) (fa : Vec F S8192x1 .f32) (g : Vec F S256x1 .f32) (h : ∀ j, g j = outSum ((fS L).view.read (Elt F) fin) j) :
    ∀ i ∈ rows (k := 1) (base L), ((pS L).view.writes (Elt F) fa [⟨Rect.whole S256x1, g⟩] : Vec F S8192x1 .f32) i = outSum fin i := by
  intro i hi
  rw [← pS_set] at hi
  obtain ⟨x, -, rfl⟩ := Finset.mem_map.mp hi
  have hr := read_writes_whole (F := F) (pS L).view fa g x
  rw [View.read_apply, cast_eq] at hr
  refine hr.trans ((h x).trans ?_)
  have e0 : ((pS L).view.emb x 0).val = base L + (x 0).val := by
    show k1_off19 L 0 + 1 * (x 0).val = _
    rw [k1_off19_eq L]
    show 512 * (L 1).val + 256 * (L 0).val + 1 * (x 0).val = _
    unfold base; omega
  unfold outSum
  exact congrArg _ (rowOf_read L fin _ _ e0)

theorem land_l (L : grid1.Coords) (fin : Vec F S8192x64 .f32) (fa : Vec F S8192x64 .f32) (g : Vec F S256x64 .f32) (h : ∀ j, g j = outLog ((fS L).view.read (Elt F) fin) j) :
    ∀ i ∈ rows (k := 64) (base L), ((lS L).view.writes (Elt F) fa [⟨Rect.whole S256x64, g⟩] : Vec F S8192x64 .f32) i = outLog fin i := by
  intro i hi
  rw [← lS_set] at hi
  obtain ⟨x, -, rfl⟩ := Finset.mem_map.mp hi
  have hr := read_writes_whole (F := F) (lS L).view fa g x
  rw [View.read_apply, cast_eq] at hr
  refine hr.trans ((h x).trans ?_)
  have e0 : ((lS L).view.emb x 0).val = base L + (x 0).val := by
    show k1_off18 L 0 + 1 * (x 0).val = _
    rw [k1_off18_eq L]
    show 512 * (L 1).val + 256 * (L 0).val + 1 * (x 0).val = _
    unfold base; omega
  have e1 : ((lS L).view.emb x 1).val = (x 1).val := by
    show k1_off18 L 1 + 1 * (x 1).val = _
    rw [k1_off18_eq L]
    show 0 + 1 * (x 1).val = _
    omega
  unfold outLog
  exact congrArg₂ _ (rowOf_read L fin _ _ e0) e1.symm

/-- The loop's invariant: the fetched rows, and the rows of the tokens done so far at the router's outputs. -/
def inv (d : Dev nD) (L : grid1.Coords) (x : Vec F S256x64 .f32) (k : ℕ) (_ : PUnit) : sProp 𝕄 :=
  iprop(((m6).view.loc (thr d L) ↦{fullShare} x) ∗ ∃ (f7 f8 : Vec F S256x64 .f32) (f9 : Vec F S256x1 .f32), ⌜Done (4 * k) x f7 f8 f9⌝
    ∗ ((m7).view.loc (thr d L) ↦{fullShare} f7) ∗ ((m8).view.loc (thr d L) ↦{fullShare} f8) ∗ ((m9).view.loc (thr d L) ↦{fullShare} f9))

theorem tile_body (hF : (K (F := F)).Facts) (d : Dev nD) (L : grid1.Coords) (O : CellTallies nD τ sig (HIx 1)) (W : Waits sig (HIx 1)) (hO : ∀ g, O g none = 0)
    (fin : Vec F S8192x64 .f32) (fa fl : Vec F S8192x64 .f32) (fp : Vec F S8192x1 .f32) :
    iprop(levAts (K (F := F)).L (K (F := F)).lev ∗ emp ∗ (fRows d L fin ∗ aRows d L fa ∗ pRows d L fp ∗ lRows d L fl)
        ∗ scopedBufs (thr d L) ∗ scopedSems0 (thr d L) ∗ owes (thr d L) O W)
      ⊢ wp frame (wpE (defs₀ (F := F)) 𝒱₀ (thr d L) none) Set.univ (router L)
          fun _ => iprop((fRows d L fin ∗ aRows d L (outMask fin) ∗ pRows d L (outSum fin) ∗ lRows d L (outLog fin)) ∗ scopedBufs (thr d L) ∗ scopedSems0 (thr d L)
            ∗ ∃ W', ⌜∀ p ∈ W', p ∈ W ∨ p.2 = none⌝ ∗ owes (thr d L) O W') := by
  obtain ⟨Rs, eS⟩ := ownSems0_tile (F := F) d L
  obtain ⟨Rb, eB⟩ := ownBufs_tile (F := F) d L
  rw [(K (F := F)).scopedBufs_V hF d (cV L) (jV L), SparseCore.Cfg.scopedSems0_V (Val := Elt F) d (cV L) (jV L), eS, eB]
  unfold router
  iintro ⟨#Hlv, -, ⟨Hf, Ha, Hp, Hl⟩, ⟨⟨%f6, H6⟩, ⟨%f7, H7⟩, ⟨%f8, H8⟩, ⟨%f9, H9⟩, Hbufs⟩, ⟨Hs0, Hs1, Hs2, Hs3, Hsems⟩, HO⟩
  ihave Hmw := ((K (F := F)).mayWaits_none (thr := thr d L) hO) $$ Hlv
  ihave Hf' := (Entails.of_eq (fS_pts (F := F) d L _).symm) $$ Hf
  ihave Ha' := (Entails.of_eq (aS_pts (F := F) d L _).symm) $$ Ha
  ihave Hp' := (Entails.of_eq (pS_pts (F := F) d L _).symm) $$ Hp
  ihave Hl' := (Entails.of_eq (lS_pts (F := F) d L _).symm) $$ Hl
  sl_exec (disch := exact View.amount_pos _ _ (show 0 < S256x64.numel by decide))
  rw [show tile_body.sl.dma0 L fin = (fS L).view.read (Elt F) fin from rfl, View.write_whole_univ]
  sl_for (inv d L ((fS L).view.read (Elt F) fin)) $$ [H6 H7 H8 H9]
  case region =>
    intro k _
    unfold inv
    iintro ⟨H6, %g7, %g8, %g9, %hD, H7, H8, H9⟩
    iapply (wp_trip d L k _ g7 g8 g9 hD)
    isplitl [H6]; · iexact H6
    isplitl [H7]; · iexact H7
    isplitl [H8]; · iexact H8
    isplitl [H9]; · iexact H9
    iintro %a7 %a8 %a9 %hD' ⟨H6, H7, H8, H9⟩
    isplitl [H6]; · iexact H6
    iexists a7, a8, a9
    isplitr; · ipureintro; exact hD'
    isplitl [H7]; · iexact H7
    isplitl [H8]; · iexact H8
    iexact H9
  · unfold inv
    isplitl [H6]; · iexact H6
    iexists f7, f8, f9
    isplitr; · ipureintro; exact ⟨fun j hj => absurd hj (by omega), fun j hj => absurd hj (by omega), fun j hj => absurd hj (by omega)⟩
    isplitl [H7]; · iexact H7
    isplitl [H8]; · iexact H8
    iexact H9
  iintro %_ HI
  unfold inv
  icases HI with ⟨H6, %g7, %g8, %g9, %hD, H7, H8, H9⟩
  have hD : Done 256 ((fS L).view.read (Elt F) fin) g7 g8 g9 := by
    have e : Scf.trips k1_t1_loop.lb k1_t1_loop.ub k1_t1_loop.st = 64 := trips_eq
    rw [e] at hD; exact hD
  have d7 := land_a L fin fa g7 fun j => hD.1 j (j 0).isLt
  have d9 := land_p L fin fp g9 fun j => hD.2.2 j (j 0).isLt
  have d8 := land_l L fin fl g8 fun j => hD.2.1 j (j 0).isLt
  sl_exec (disch := first | exact View.amount_pos _ _ (show 0 < S256x64.numel by decide) | exact View.amount_pos _ _ (show 0 < S256x1.numel by decide))
  sl_step
  rw [show tile_body.sl.dma0_1 g7 = g7 from rfl, show tile_body.sl.dma0_2 g9 = g9 from rfl, show tile_body.sl.dma0_3 g8 = g8 from rfl]
  isplitl [Hf' Ha' Hp' Hl']
  · isplitl [Hf']; · iapply (Entails.of_eq (fS_pts (F := F) d L _)); iexact Hf'
    isplitl [Ha']
    · iapply (Entails.of_eq ((aS_pts (F := F) d L _).trans (pointsTo_congr d7))); iexact Ha'
    isplitl [Hp']
    · iapply (Entails.of_eq ((pS_pts (F := F) d L _).trans (pointsTo_congr d9))); iexact Hp'
    · iapply (Entails.of_eq ((lS_pts (F := F) d L _).trans (pointsTo_congr d8))); iexact Hl'
  isplitl [H6 H7 H8 H9 Hbufs]
  · isplitl [H6]; · iexists _; iexact H6
    isplitl [H7]; · iexists _; iexact H7
    isplitl [H8]; · iexists _; iexact H8
    isplitl [H9]; · iexists _; iexact H9
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  rotate_left
  · iexact HO
  ipureintro; intro p hp
  simp only [Finset.mem_insert] at hp
  rcases hp with rfl | rfl | rfl | rfl | hp
  · exact .inr rfl
  · exact .inr rfl
  · exact .inr rfl
  · exact .inr rfl
  · exact .inl hp

end Cert.Proof.Router

end
-- ==== Proof.Tasks.lean ====
/-
  The router call's handshakes and obligations: every tile gets its rows and gives them back routed.
-/
module

public import proofs.«01_k».proof.Proof.TileBody

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

/-! ## What the call's handshakes carry -/

theorem nCore_zero : (K (F := F)).nCore 0 = 2 := rfl
theorem nSub_zero : (K (F := F)).nSub 0 = 16 := rfl

/-- The tile of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's rows of the scores and of the three outputs. -/
abbrev tileRows (d : Dev nD) (L : grid1.Coords) (fin fa fl : Vec F S8192x64 .f32) (fp : Vec F S8192x1 .f32) : sProp 𝕄 :=
  iprop(fRows d L fin ∗ aRows d L fa ∗ pRows d L fp ∗ lRows d L fl)

section
variable (m : (ℓ : Loc nD τ sig) → Buf (Elt F) ℓ) (fin : Dev nD → Vec F S8192x64 .f32)

/-- A tile is handed its rows of the scores and of the outputs, and hands them back with the outputs routed. -/
abbrev goRows (d : Dev nD) (c : Fin 2) (i : Fin 16) : sProp 𝕄 := tileRows d (coordsV c i) (fin d) (m (aLoc d)) (m (lLoc d)) (m (pLoc d))
abbrev tdRows (d : Dev nD) (c : Fin 2) (i : Fin 16) : sProp 𝕄 := tileRows d (coordsV c i) (fin d) (outMask (fin d)) (outLog (fin d)) (outSum (fin d))

def P : (K (F := F)).Pay (nD := nD) (Val := Elt F) (Name := ℕ) (U := UU) where
  st := fun q d c => match q with | 0 => bigSep Finset.univ fun i : Fin 16 => goRows m fin d (Fin.cast nCore_zero c) i
  dn := fun q d c => match q with | 0 => bigSep Finset.univ fun i : Fin 16 => tdRows fin d (Fin.cast nCore_zero c) i
  go := fun q d c i => match q with | 0 => goRows m fin d (Fin.cast nCore_zero c) (Fin.cast nSub_zero i)
  td := fun q d c i => match q with | 0 => tdRows fin d (Fin.cast nCore_zero c) (Fin.cast nSub_zero i)
  x := fun _ _ => iprop(emp)

instance P_storable : (P m fin).IsStorable where
  st q d c := match q with
    | 0 => (inferInstance : BI.Storable (upEmb : UEmb _ 𝕄) (bigSep Finset.univ fun i : Fin 16 => goRows m fin d (Fin.cast nCore_zero c) i))
  dn q d c := match q with
    | 0 => (inferInstance : BI.Storable (upEmb : UEmb _ 𝕄) (bigSep Finset.univ fun i : Fin 16 => tdRows fin d (Fin.cast nCore_zero c) i))
  go q d c i := match q with
    | 0 => (inferInstance : BI.Storable (upEmb : UEmb _ 𝕄) (goRows m fin d (Fin.cast nCore_zero c) (Fin.cast nSub_zero i)))
  td q d c i := match q with
    | 0 => (inferInstance : BI.Storable (upEmb : UEmb _ 𝕄) (tdRows fin d (Fin.cast nCore_zero c) (Fin.cast nSub_zero i)))

/-! ## The launch's obligations -/

theorem defs₀_vector (c : Fin τ.nSC) (s : Fin τ.nSub) :
    defs₀ (F := F) (.scVector c s) 1 ()
      = SparseCore.onTile hcore1 hsub1 (fun c s => cc1__sc_router_body (coordsV c s)
          fW (Memref.isWhole_whole _) aW (Memref.isWhole_whole _) pW (Memref.isWhole_whole _) lW (Memref.isWhole_whole _)
          m6 (Memref.isWhole_whole _) m7 (Memref.isWhole_whole _) m8 (Memref.isWhole_whole _) m9 (Memref.isWhole_whole _)
          cc1_scoped0 cc1_scoped1 cc1_scoped2 cc1_scoped3) ⟨⟩ c s := rfl

omit [FloatOps F] [Named F] in
theorem waits_of_none {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; intro p hp
    rcases hW' p hp with h | h
    · exact Or.inl h
    · exact Or.inr (Or.inl h)
  · iexact HO

theorem tileObl : (K (F := F)).TileObl (D (F := F)) 𝒱 (P m fin) v₀ 0 := by
  intro d c i O W hO _ _
  simp only [show (P m fin).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  rw [router_eq]
  exact (tile_body facts d (coordsV ⟨_, hc.1⟩ ⟨_, hc.2⟩) O W hO (fin d) (m (aLoc d)) (m (lLoc d)) (m (pLoc d))).trans
    (wp_mono frame _ _ fun _ => waits_of_none)

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m fin) 0 := by
  intro d c
  show (bigSep Finset.univ fun i : Fin 16 => goRows m fin d (Fin.cast nCore_zero c) i) ⊢ |={Set.univ}=> iprop(
      (bigSep Finset.univ fun i : Fin ((K (F := F)).nSub 0) => goRows m fin d (Fin.cast nCore_zero c) (Fin.cast nSub_zero i))
      ∗ ((bigSep Finset.univ fun i : Fin ((K (F := F)).nSub 0) => tdRows fin d (Fin.cast nCore_zero c) (Fin.cast nSub_zero i))
          -∗ bigSep Finset.univ fun i : Fin 16 => tdRows fin d (Fin.cast nCore_zero c) i))
  rw [bigSep_subs (F := F) (fun i => goRows m fin d (Fin.cast nCore_zero c) i), bigSep_subs (F := F) (fun i => tdRows fin d (Fin.cast nCore_zero c) i)]
  iintro H; imodintro
  isplitl [H]; · iexact H
  iintro H; iexact H

/-! ## The arrays as the tiles' rows -/

/-- The tiles' rows of an array of 8192 rows. -/
abbrev tile {k : ℕ} (p : Fin 2 × Fin 16) : Finset (⟨2, ![8192, k]⟩ : Shape).Idx := rows (base (coordsV p.1 p.2))

omit [FloatOps F] [Named F] in
theorem base_coords (p : Fin 2 × Fin 16) : base (coordsV p.1 p.2) = 512 * p.2.val + 256 * p.1.val := rfl

omit [FloatOps F] [Named F] in
theorem tile_disjoint {k : ℕ} : ∀ p ∈ (Finset.univ : Finset (Fin 2 × Fin 16)), ∀ q ∈ (Finset.univ : Finset (Fin 2 × Fin 16)), p ≠ q → Disjoint (tile (k := k) p) (tile q) := by
  intro p _ q _ h
  refine Finset.disjoint_left.mpr fun j hp hq => h ?_
  have hp := (Finset.mem_filter.mp hp).2
  have hq := (Finset.mem_filter.mp hq).2
  rw [base_coords] at hp hq
  have := p.1.isLt; have := q.1.isLt
  exact Prod.ext (Fin.ext (by omega)) (Fin.ext (by omega))

omit [FloatOps F] [Named F] in
theorem tile_cover {k : ℕ} : (Finset.univ : Finset (Fin 2 × Fin 16)).biUnion (tile (k := k)) = Finset.univ := by
  refine Finset.eq_univ_iff_forall.mpr fun j => Finset.mem_biUnion.mpr ?_
  have h : (j 0).val < 8192 := (j 0).isLt
  refine ⟨(⟨(j 0).val / 256 % 2, by omega⟩, ⟨(j 0).val / 512, by omega⟩), Finset.mem_univ _, Finset.mem_filter.mpr ⟨Finset.mem_univ _, ?_⟩⟩
  rw [base_coords]
  show 512 * ((j 0).val / 512) + 256 * ((j 0).val / 256 % 2) ≤ _ ∧ _ < 512 * ((j 0).val / 512) + 256 * ((j 0).val / 256 % 2) + 256
  omega

/-- The four arrays whole are every tile's rows. -/
theorem arrays_tiles (d : Dev nD) (f fa fl : Vec F S8192x64 .f32) (fp : Vec F S8192x1 .f32) :
    (iprop((fLoc d ↦{fullShare} f) ∗ (aLoc d ↦{fullShare} fa) ∗ (pLoc d ↦{fullShare} fp) ∗ (lLoc d ↦{fullShare} fl)) : sProp 𝕄)
      = bigSep Finset.univ fun c : Fin 2 => bigSep Finset.univ fun i : Fin 16 => tileRows d (coordsV c i) f fa fl fp := by
  have e64 : ∀ (ℓ : Loc nD τ sig) (T : Fin 2 × Fin 16 → Finset _) (hd : ∀ p ∈ (Finset.univ : Finset (Fin 2 × Fin 16)), ∀ q ∈ (Finset.univ : Finset (Fin 2 × Fin 16)), p ≠ q → Disjoint (T p) (T q))
      (hc : (Finset.univ : Finset (Fin 2 × Fin 16)).biUnion T = Finset.univ) (g : Buf (Elt F) ℓ),
      (ℓ ↦{fullShare} g : sProp 𝕄) = bigSep Finset.univ fun p => ℓ ↦[T p]{fullShare} g := by
    intro ℓ T hd hc g
    rw [← pointsTo_biUnion Finset.univ (ℓ := ℓ) T hd, hc]; try rfl
  have eP : (bigSep Finset.univ fun c : Fin 2 => bigSep Finset.univ fun i : Fin 16 => tileRows d (coordsV c i) f fa fl fp)
      = bigSep Finset.univ fun p : Fin 2 × Fin 16 => tileRows (F := F) d (coordsV p.1 p.2) f fa fl fp := (bigSep_univ_prod fun p : Fin 2 × Fin 16 => tileRows (F := F) d (coordsV p.1 p.2) f fa fl fp).symm
  rw [eP, e64 (fLoc d) (tile (k := 64)) tile_disjoint tile_cover f, e64 (aLoc d) (tile (k := 64)) tile_disjoint tile_cover fa,
    e64 (pLoc d) (tile (k := 1)) tile_disjoint tile_cover fp, e64 (lLoc d) (tile (k := 64)) tile_disjoint tile_cover fl,
    ← bigSep_sep', ← bigSep_sep', ← bigSep_sep']

theorem st_eq (d : Dev nD) : (bigSep Finset.univ fun c : Fin ((K (F := F)).nCore 0) => (P m fin).st 0 d c)
    = iprop((fLoc d ↦{fullShare} fin d) ∗ (aLoc d ↦{fullShare} m (aLoc d)) ∗ (pLoc d ↦{fullShare} m (pLoc d)) ∗ (lLoc d ↦{fullShare} m (lLoc d))) :=
  (bigSep_cores (F := F) (fun c => bigSep Finset.univ fun i : Fin 16 => goRows m fin d c i)).trans (arrays_tiles d _ _ _ _).symm
theorem dn_eq (d : Dev nD) : (bigSep Finset.univ fun c : Fin ((K (F := F)).nCore 0) => (P m fin).dn 0 d c)
    = iprop((fLoc d ↦{fullShare} fin d) ∗ (aLoc d ↦{fullShare} outMask (fin d)) ∗ (pLoc d ↦{fullShare} outSum (fin d)) ∗ (lLoc d ↦{fullShare} outLog (fin d))) :=
  (bigSep_cores (F := F) (fun c => bigSep Finset.univ fun i : Fin 16 => tdRows fin d c i)).trans (arrays_tiles d _ _ _ _).symm
end

end Cert.Proof.Router

end
-- ==== Proof.TcBody.lean ====
/-
  The first call's block: the values its kernel computes, and its run.
-/
module

public import proofs.«01_k».proof.Proof.Setup
public import Idealize.ShloMosaic.Lib.Pipeline.Value

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

/-! ## The block's values: experts down, tokens across -/

section Values

/-- A column's sum and its maximum. -/
def colSum (x : FVec F S64x512 .f32) : FVec F S1x512 .f32 :=
  shapeCast S1x512 (multiReduction .add [0] S512 x 0x00000000#32 reduces_S64x512_S512 (.inl rfl) rfl) shapeCasts_S512_S1x512
def colMax (x : FVec F S64x512 .f32) : FVec F S1x512 .f32 :=
  shapeCast S1x512 (multiReduction .maximumf [0] S512 x 0xFF800000#32 reduces_S64x512_S512 (.inl rfl) rfl) shapeCasts_S512_S1x512
/-- One value per column, at every expert. -/
def spread (v : FVec F S1x512 .f32) : FVec F S64x512 .f32 := broadcastTo S64x512 v broadcasts_S1x512_S64x512
/-- One float at every column, and at every place. -/
def lit (b : BitVec 32) : FVec F S1x512 .f32 := broadcast S1x512 (Scalar.ofBits .f32 b)
def litAll (b : BitVec 32) : FVec F S64x512 .f32 := broadcast S64x512 (Scalar.ofBits .f32 b)

/-- A block less its columns' means; its columns' deviations, with the small constant added. -/
def centred (x : FVec F S64x512 .f32) : FVec F S64x512 .f32 := subf x (spread (mulf (colSum x) (lit 0x3C800000#32)))
def devOf (x : FVec F S64x512 .f32) : FVec F S1x512 .f32 :=
  addf (sqrt (mulf (colSum (mulf (centred x) (centred x))) (broadcast S1x512 (Named.named κ "inv_em1" 0x3C820821#32)))) (lit 0x358637BD#32)
/-- The exponentials of a block less its columns' maxima. -/
def expOf (x : FVec F S64x512 .f32) : FVec F S64x512 .f32 := exp (subf x (spread (colMax x)))
/-- Each place's expert, and each column's first expert whose exponential is one. -/
def expertIx : IVec S64x512 32 := iota .tc S64x512 32 [0] iota_S64x512_d0_w32
def peakOf (ex : FVec F S64x512 .f32) : IVec S1x512 32 :=
  shapeCast S1x512 (multiReductionI .minsi [0] S512 (select (cmpf .oeq ex (litAll 0x3F800000#32)) expertIx (broadcast S64x512 64#32)) 2147483647#32
    reduces_S64x512_S512 rfl) shapeCasts_S512_S1x512
/-- The largest exponential beside the first largest. -/
def secondOf (ex : FVec F S64x512 .f32) : FVec F S1x512 .f32 :=
  colMax (select (cmpi .eq expertIx (broadcastTo S64x512 (peakOf ex) broadcasts_S1x512_S64x512)) (litAll 0xBF800000#32) ex)
/-- The gap between the two largest probabilities, and how strongly the mark is applied. -/
def gapOf (ex : FVec F S64x512 .f32) : FVec F S1x512 .f32 := divf (subf (lit 0x3F800000#32) (secondOf ex)) (colSum ex)
def strengthOf (ex : FVec F S64x512 .f32) : FVec F S1x512 .f32 := logistic (mulf (lit 0x41200000#32) (subf (lit 0x3E800000#32) (gapOf ex)))
/-- The bound of the mark. -/
def limitOf (x : FVec F S64x512 .f32) : FVec F S1x512 .f32 := mulf (devOf x) (lit 0x3FC00000#32)
/-- The mark before it is bounded. -/
def markOf (x y : FVec F S64x512 .f32) : FVec F S64x512 .f32 :=
  mulf (spread (mulf (strengthOf (expOf x)) (mulf (lit 0x3DCCCCCD#32) (devOf x)))) (divf (centred y) (spread (devOf y)))
/-- The marked scores. -/
def marked (x y : FVec F S64x512 .f32) : FVec F S64x512 .f32 :=
  addf x (minimumf (spread (limitOf x)) (maximumf (spread (subf (lit 0x00000000#32) (limitOf x))) (markOf x y)))

/-- The two projections, one above the other. -/
def project (h : FVec F S512x4096 .f32) (w : FVec F S4096x128 .f32) : FVec F S128x512 .f32 :=
  matmul dot_S4096x128_S512x4096_S128x512_0_1_1_0_n_n none w h (constant S128x512 .f32 0x00000000#32)
/-- The block of marked scores, tokens down. -/
def blockOut (h : FVec F S512x4096 .f32) (w : FVec F S4096x128 .f32) : FVec F S512x64 .f32 :=
  transpose S512x64 [1, 0] (marked (extractStridedSlice S64x512 ![0, 0] (project h w) slices_S128x512_o0_0_S64x512)
    (extractStridedSlice S64x512 ![64, 0] (project h w) slices_S128x512_o64_0_S64x512)) transposes_S64x512_p1_0_S512x64

end Values

/-! ## The body -/

theorem unit_all {a b : ℕ} (h : ∀ k, (![0, 0] : Fin 2 → ℕ) k + (⟨2, ![a, b]⟩ : Shape).size k ≤ (⟨2, ![a, b]⟩ : Shape).size k) (x : (⟨2, ![a, b]⟩ : Shape).Idx) :
    (Rect.unit (s := ⟨2, ![a, b]⟩) ![0, 0] (⟨2, ![a, b]⟩ : Shape).size h).emb x = x := by
  refine funext fun k => Fin.ext ?_
  match k with
  | 0 => show 0 + 1 * (x 0).val = (x 0).val; omega
  | 1 => show 0 + 1 * (x 1).val = (x 1).val; omega

omit [FloatOps F] [Named F] in
/-- The whole of a memref read at once is what the memref reads. -/
theorem readAt_all {sp : Space} {a b : ℕ} (v : View sig .tc sp ⟨2, ![a, b]⟩ .f32) (f : v.ty.Contents (Elt F))
    (h : ∀ k, (![0, 0] : Fin 2 → ℕ) k + (⟨2, ![a, b]⟩ : Shape).size k ≤ (⟨2, ![a, b]⟩ : Shape).size k) :
    v.readAt (Elt F) (Rect.unit (s := ⟨2, ![a, b]⟩) ![0, 0] (⟨2, ![a, b]⟩ : Shape).size h).toLoadRect f = v.read (Elt F) f := by
  funext x
  exact congrArg (v.read (Elt F) f) (unit_all h x)

/-- The block's kernel: from the block of the hidden states and the two projections' weights to the marked scores. -/
theorem wp_final (c : Dev nD) (i : grid0.Coords) (a1 : Memref sig .tc .vmem S512x4096 .f32) (h1 : a1.IsWhole) (a2 : Memref sig .tc .vmem S4096x128 .f32) (h2 : a2.IsWhole)
    (a3 : Memref sig .tc .vmem S512x64 .f32) (h3 : a3.IsWhole) (X1 : FVec F S512x4096 .f32) (X2 : FVec F S4096x128 .f32) (X3 : FVec F S512x64 .f32) (Q : PUnit → sProp 𝕄) :
    iprop(owns (c.tc : Thread nD τ) a1 fullShare X1 ∗ owns (c.tc : Thread nD τ) a2 fullShare X2 ∗ owns (c.tc : Thread nD τ) a3 fullShare X3
        ∗ (iprop(owns (c.tc : Thread nD τ) a1 fullShare X1 ∗ owns (c.tc : Thread nD τ) a2 fullShare X2 ∗ owns (c.tc : Thread nD τ) a3 fullShare (blockOut X1 X2)) -∗ Q ⟨⟩))
      ⊢ wp frame (wpE (defs₀ (F := F)) 𝒱₀ (c.tc : Thread nD τ) none) Set.univ (cc0__final_logits_kernel i a1 h1 a2 h2 a3 h3) Q := by
  unfold owns
  iintro ⟨⟨%f1, %e1, H1⟩, ⟨%f2, %e2, H2⟩, ⟨%f3, %e3, H3⟩, Hk⟩
  sl_exec!
  sl_step
  iapply Hk
  isplitl [H1]
  · iexists f1; isplitr; · ipureintro; exact e1
    iexact H1
  isplitl [H2]
  · iexists f2; isplitr; · ipureintro; exact e2
    iexact H2
  iexists _; isplitr; swap; · iexact H3
  ipureintro
  have ev : wp_final.sl.H3_1 c a1 a2 f1 f2 = [⟨Rect.unit (s := S512x64) ![0, 0] S512x64.size inb_S512x64_S512x64_0_0, blockOut X1 X2⟩] := by
    have r1 := readAt_all a1.view f1 inb_S512x4096_S512x4096_0_0
    have r2 := readAt_all a2.view f2 inb_S4096x128_S4096x128_0_0
    subst e1 e2
    rw [← r1, ← r2]
    have p1 : wp_final.sl.v1 c a1 f1 = a1.view.readAt (Elt F) (Rect.unit (s := S512x4096) ![0, 0] S512x4096.size inb_S512x4096_S512x4096_0_0).toLoadRect f1 := shapeCast_self _ _
    have p3 : wp_final.sl.v3 c a2 f2 = a2.view.readAt (Elt F) (Rect.unit (s := S4096x128) ![0, 0] S4096x128.size inb_S4096x128_S4096x128_0_0).toLoadRect f2 := shapeCast_self _ _
    rw [← p1, ← p3]
    rfl
  rw [ev]
  funext x
  refine View.read_writes_apply_of_pieces (Val := Elt F) a3.view _ (blockOut X1 X2) _ (fun p hp y => ?_) x ⟨_, List.mem_singleton.mpr rfl, ?_⟩
  · obtain rfl := List.mem_singleton.mp hp
    exact congrArg (blockOut X1 X2) (unit_all inb_S512x64_S512x64_0_0 y).symm
  · show x ∈ (Rect.unit (s := S512x64) ![0, 0] S512x64.size inb_S512x64_S512x64_0_0).set
    refine (Rect.unit (s := S512x64) ![0, 0] S512x64.size inb_S512x64_S512x64_0_0).mem_set.mpr fun k => ?_
    match k with
    | 0 => exact ⟨(x 0).val, (x 0).isLt, by show (x 0).val = 0 + 1 * _; omega⟩
    | 1 => exact ⟨(x 1).val, (x 1).isLt, by show (x 1).val = 0 + 1 * _; omega⟩

end Cert.Proof.Router

end
-- ==== Proof.TcRegion.lean ====
/-
  The TensorCore call: its windows, its body at each point, and the array it leaves.
-/
module

public import proofs.«01_k».proof.Proof.TcBody
public import proofs.«01_k».proof.Proof.Gen.KernelIdeal.Points
public import Idealize.ShloMosaic.Lib.Pipeline.FrameBody
public import Idealize.ShloMosaic.Lib.Pipeline.RegionArrays

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

open Idealize.ShloMosaic.Pipeline (Dat Cfg Window BodyObligation)

/-! ## The scores of all the tokens -/

/-- Rows `512 t …` of the hidden states. -/
def hRows (h : Vec F S8192x4096 .f32) (t : ℕ) (ht : t < 16) : Vec F S512x4096 .f32 :=
  fun x => h (ix2 ⟨512 * t + (x 0).val, by have := (x 0).isLt; change (x 0).val < 512 at this; omega⟩ (x 1))

/-- The scores: each block of 512 rows by the kernel. -/
def finalOf (h : Vec F S8192x4096 .f32) (w : Vec F S4096x128 .f32) : Vec F S8192x64 .f32 :=
  fun j => blockOut (hRows h ((j 0).val / 512) (by have := (j 0).isLt; change (j 0).val < 8192 at this; omega)) w
    (ix2 ⟨(j 0).val % 512, Nat.mod_lt _ (by decide)⟩ (j 1))

abbrev hLoc (d : Dev nD) : Loc nD τ sig := (SparseCore.T d).loc main_v0
abbrev wLoc (d : Dev nD) : Loc nD τ sig := (SparseCore.T d).loc main_v1

/-! ## The proof data -/

section
variable (h : Dev nD → Vec F S8192x4096 .f32) (w : Dev nD → Vec F S4096x128 .f32) (o : Dev nD → Vec F S8192x64 .f32)

/-- The three arrays at entry. -/
def entryAt (c : Dev nD) : (i : Fin cfg0.W) → Buf (Elt F) ((cfg0.win i).arr.view.loc (c.tc : Thread nD τ)) :=
  fun i => match i with
  | ⟨0, _⟩ => h c
  | ⟨1, _⟩ => w c
  | ⟨2, _⟩ => o c

/-- The rows of the hidden states staged at a point. -/
def stH (c : Dev nD) (t : Fin cfg0.N) : Vec F S512x4096 .f32 := ((cfg0.win 0).blk t).view.read (Elt F) (h c)
/-- The weights staged at a point. -/
def stW (c : Dev nD) (t : Fin cfg0.N) : Vec F S4096x128 .f32 := ((cfg0.win 1).blk t).view.read (Elt F) (w c)

def dat (c : Dev nD) : Dat τ (Elt F) (HIx 1) ℕ UU ℕ cfg0 c where
  A := entryAt h w o c
  after i t := match i with
    | ⟨0, _⟩ => stH h c t
    | ⟨1, _⟩ => stW w c t
    | ⟨2, _⟩ => blockOut (stH h c t) (stW w c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev (T c, p.1) p.2 ≤ 8 * 0}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat h w o c

theorem before_h (c : Dev nD) (t : Fin cfg0.N) (d) : (dat h w o c).before 0 t d = stH h c t := by
  unfold Dat.before; rw [if_pos (fetch0_0 t)]; rfl

theorem before_w (c : Dev nD) (t : Fin cfg0.N) (d) : (dat h w o c).before 1 t d = stW w c t :=
  (Dat.before_in_eq_fetched (dat h w o c) 1 rfl (fun _ => rfl) (fun _ _ _ => rfl) (fun _ => rfl) t d).trans rfl

theorem body_obligation (c : Dev nD) : BodyObligation (dat h w o c) (defs₀ (F := F)) 𝒱₀ none Set.univ := fun t => by
  rw [bigSep_W0, bigSep_W0]
  rw [show (dat h w o c).Φ t.succ = (dat h w o c).Φ t.castSucc from rfl,
    show (dat h w o c).owesAt none t.succ = (dat h w o c).owesAt none t.castSucc from rfl]
  iintro ⟨HΦ, Howes, ⟨%d0, H0⟩, ⟨%d1, H1⟩, ⟨%d2, H2⟩⟩
  rw [before_h, before_w]
  iapply (wp_final c _ _ _ _ _ _ _ (stH h c t) (stW w c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The array it leaves -/

theorem N_eq : cfg0.N = 16 := N_0

theorem coord_val (t : Fin cfg0.N) : (cfg0.grid.coords t 0).val = t.val := by
  have h1 : (cfg0.grid.coords t 0).val = t.val / 1 % 16 := Pipeline.Grid.coords_val (G := grid0) t 0 (by decide) rfl
  have h2 : t.val < 16 := N_eq ▸ t.isLt
  exact h1.trans (by omega)

theorem index_h (t : Fin cfg0.N) : (cfg0.win 0).index t 0 = t.val := by
  show (BitVec.ofNat 32 (cfg0.grid.coords t 0).val).toNat = t.val
  have h2 : t.val < 16 := N_eq ▸ t.isLt
  rw [coord_val, BitVec.toNat_ofNat, Nat.mod_eq_of_lt (by omega)]

theorem index_o (t : Fin cfg0.N) : (cfg0.win 2).index t 0 = t.val := by
  show (BitVec.ofNat 32 (cfg0.grid.coords t 0).val).toNat = t.val
  have h2 : t.val < 16 := N_eq ▸ t.isLt
  rw [coord_val, BitVec.toNat_ofNat, Nat.mod_eq_of_lt (by omega)]

/-- Where an element of the output's block lies in the array. -/
theorem blk_emb (t : Fin cfg0.N) (x : S512x64.Idx) :
    (((cfg0.win 2).blk t).view.emb x : S8192x64.Idx)
      = ix2 ⟨512 * t.val + (x 0).val, by have := (x 0).isLt; change (x 0).val < 512 at this; have h2 : t.val < 16 := N_eq ▸ t.isLt; omega⟩ (x 1) := by
  refine funext fun k => Fin.ext ?_
  match k with
  | 0 =>
    refine (Pipeline.Window.rect_emb_val (cfg0.win 2) t x 0).trans ?_
    rw [index_o]
    show t.val * 512 + (x 0).val = 512 * t.val + (x 0).val
    omega
  | 1 => exact (Pipeline.Window.rect_emb_val_of_index_zero (cfg0.win 2) t 1 rfl x)

omit [FloatOps F] [Named F] in
theorem stH_eq (c : Dev nD) (t : Fin cfg0.N) : stH h c t = hRows (h c) t.val (N_eq ▸ t.isLt) := by
  funext x
  unfold stH hRows
  rw [View.read_apply, cast_eq]
  refine congrArg (h c) (funext fun k => Fin.ext ?_)
  match k with
  | 0 =>
    refine (Pipeline.Window.rect_emb_val (cfg0.win 0) t x 0).trans ?_
    rw [index_h]
    show t.val * 512 + (x 0).val = 512 * t.val + (x 0).val
    omega
  | 1 => exact (Pipeline.Window.rect_emb_val_of_index_zero (cfg0.win 0) t 1 rfl x)

omit [FloatOps F] [Named F] in
theorem stW_eq (c : Dev nD) (t : Fin cfg0.N) : stW w c t = w c := by
  funext x
  unfold stW
  rw [View.read_apply, cast_eq]
  refine congrArg (w c) (funext fun k => Fin.ext ?_)
  match k with
  | 0 => exact (Pipeline.Window.rect_emb_val_of_index_zero (cfg0.win 1) t 0 rfl x)
  | 1 => exact (Pipeline.Window.rect_emb_val_of_index_zero (cfg0.win 1) t 1 rfl x)

theorem finalOf_block (h : Vec F S8192x4096 .f32) (w : Vec F S4096x128 .f32) (t : ℕ) (ht : t < 16) (x : S512x64.Idx) (hx : 512 * t + (x 0).val < 8192) :
    finalOf h w (ix2 ⟨512 * t + (x 0).val, hx⟩ (x 1)) = blockOut (hRows h t ht) w x := by
  have hx0 : (x 0).val < 512 := (x 0).isLt
  have e1 : (512 * t + (x 0).val) / 512 = t := by omega
  have e2 : (512 * t + (x 0).val) % 512 = (x 0).val := by omega
  unfold finalOf
  have key : ∀ (a b : ℕ) (ha : a < 16) (hb : b < 512), a = t → b = (x 0).val →
      blockOut (hRows h a ha) w (ix2 (⟨b, hb⟩ : Fin 512) (x 1 : Fin 64)) = blockOut (hRows h t ht) w x := by
    intro a b ha hb q1 q2
    subst q1; subst q2
    exact congrArg _ (ValueIdx.eq_ix2 x).symm
  exact key _ _ _ _ e1 e2

theorem arrAt_out (c : Dev nD) : (dat h w o c).arrAt 2 cfg0.N = finalOf (h c) (w c) := by
  refine Dat.arrAt_eq_of_cover (dat h w o c) 2 (finalOf (h c) (w c)) (fun t _ => ?_) (fun i => ?_)
  · have e : (dat h w o c).flushed 2 t = blockOut (stH h c t) (stW w c t) := rfl
    rw [e, stH_eq, stW_eq]
    funext x
    rw [View.read_apply, cast_eq]
    refine Eq.trans ?_ (congrArg (finalOf (h c) (w c)) (blk_emb t x)).symm
    exact (finalOf_block (h c) (w c) t.val _ x _).symm
  · have hi : (i 0).val < 8192 := (i 0).isLt
    refine ⟨⟨(i 0).val / 512, by rw [N_eq]; omega⟩, flush0_2 _, ?_⟩
    rw [View.set, Finset.mem_map]
    refine ⟨ix2 (⟨(i 0).val % 512, Nat.mod_lt _ (by decide)⟩ : Fin 512) (i 1 : Fin 64), Finset.mem_univ _, ?_⟩
    refine (blk_emb _ _).trans ?_
    refine funext fun k => Fin.ext ?_
    match k with
    | 0 => show 512 * ((i 0).val / 512) + (i 0).val % 512 = (i 0).val; omega
    | 1 => rfl

variable (hph : Function.Injective (Pipeline.cellOf (Pipeline.pin (pcfgs (F := F)) adm)))

/-- What the call is entered with. -/
def preR (c : Dev nD) : sProp 𝕄 := iprop((hLoc c ↦{fullShare} h c) ∗ (wLoc c ↦{fullShare} w c) ∗ (fLoc c ↦{fullShare} o c)
    ∗ ∃ W, ⌜(K (F := F)).WBelow (SparseCore.T c) W (8 * 0)⌝ ∗ owes (SparseCore.T c) ((K (F := F)).Otc c 0) W)

/-- What it leaves. -/
def postR (c : Dev nD) : sProp 𝕄 := iprop((hLoc c ↦{fullShare} h c) ∗ (wLoc c ↦{fullShare} w c) ∗ (fLoc c ↦{fullShare} finalOf (h c) (w c))
    ∗ ∃ W, ⌜(K (F := F)).WBelow (SparseCore.T c) W (8 * 0)⌝ ∗ owes (SparseCore.T c) ((K (F := F)).Otc c 0) W)

set_option backward.isDefEq.respectTransparency.types false in
def reg : Pipeline.RegionSeg (pcfgs (F := F)) adm (pdats h w o adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation h w o c).loose
  hwaits c := Pipeline.cellsWaits_of_cut (Pipeline.pin (pcfgs (F := F)) adm) (pdats h w o adm) none 0 c 0 ((K (F := F)).Otc c 0) (fun _ => rfl)
    (fun _ _ => Finset.mem_univ _) (fun _ _ => le_rfl)
    (fun g i hg => ⟨Finset.mem_univ _, lt_of_lt_of_le (Nat.succ_pos _) ((K (F := F)).lev_of_Otc_pos hg)⟩)
  pre c := preR h w o c
  post c := postR h w c
  X _ := BI.emp
  Y _ := BI.emp
  Z _ := BI.emp
  hentry c := by
    unfold preR
    rw [Pipeline.ownSems0_none]
    rw [Pipeline.arrays_eq (Pipeline.pin (pcfgs (F := F)) adm) (pdats h w o adm) 0 c launch0.arr_whole ((pdats h w o adm 0 c).share_full fun _ => rfl),
      bigSep_W0]
    iintro ⟨⟨H0, H1, H2, HO⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats h w o adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats h w o adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    unfold postR
    rw [Pipeline.arrays_eq (Pipeline.pin (pcfgs (F := F)) adm) (pdats h w o adm) 0 c launch0.arr_whole ((pdats h w o adm 0 c).share_full fun _ => rfl),
      bigSep_W0]
    have e0 : (pdats h w o adm 0 c).arrAt 0 cfg0.N = h c := (pdats h w o adm 0 c).arrAt_in 0 rfl _
    have e1 : (pdats h w o adm 0 c).arrAt 1 cfg0.N = w c := (pdats h w o adm 0 c).arrAt_in 1 rfl _
    have e2 : (pdats h w o adm 0 c).arrAt 2 cfg0.N = finalOf (h c) (w c) := arrAt_out h w o c
    have q0 := congrArg (fun f => (hLoc c ↦{fullShare} f : sProp 𝕄)) e0
    have q1 := congrArg (fun f => (wLoc c ↦{fullShare} f : sProp 𝕄)) e1
    have q2 := congrArg (fun f => (fLoc c ↦{fullShare} f : sProp 𝕄)) e2
    rw [← q0, ← q1, ← q2]
    iintro ⟨⟨H0, H1, H2⟩, HO, -, -⟩
    imodintro
    isplitl [H0]; · iexact H0
    isplitl [H1]; · iexact H1
    isplitl [H2]; · iexact H2
    unfold Pipeline.Dat.owesAt Pipeline.owesWithin
    icases HO with ⟨%W, %hW, HO⟩; iexists W; isplitr
    · ipureintro
      intro p hp
      rcases hW hp with h1 | h2
      · exact h1
      · obtain ⟨_, _, h3⟩ := h2
        rw [h3]; exact Nat.zero_le _
    iexact HO

end

end Cert.Proof.Router

end
-- ==== Proof.Main.lean ====
/-
  The main thread and the run of the program, with what each result holds.
-/
module

public import proofs.«01_k».proof.Proof.Tasks
public import proofs.«01_k».proof.Proof.TcRegion

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix2)

variable {F : FTy → Type} [FloatOps F] [Named F]
local notation "𝕄" => MT nD τ sig (HIx 1) (Elt F) ℕ UU ℕ

abbrev adm : (p : Fin 1) → (pcfgs (F := F) p).Adm := fun p => (cfgs p).toPCfg_adm
abbrev pin : Fin 1 → Pipeline.Cfg sig Λ₀ := Pipeline.pin (pcfgs (F := F)) adm

theorem pinj : Function.Injective (Pipeline.cellOf (nD := nD) (τ := τ) (pin (F := F))) := cellOf_inj

/-! ## What the launch hands out -/

def u₀ : UU := (initOf (K (F := F)).hsCells (K (F := F)).hsToks,
  (initOf (Pipeline.cells (pin (F := F)) pinj) (Pipeline.launchToks (pin (F := F)) pinj), 1))

/-- The pipeline's share of device `d`. -/
def G (d : Dev nD) : sProp 𝕄 := iprop(Pipeline.cellsGhost (pin (F := F)) EP 0 d ∗ Pipeline.toksInit (pin (F := F)) EP 0 d)

section
variable (m : (ℓ : Loc nD τ sig) → Buf (Elt F) ℓ) (ρ : Dev nD → PrngReg)

theorem one_pipe (Φ : Fin 1 → sProp 𝕄) : bigSep Finset.univ Φ = Φ 0 := by
  rw [show (Finset.univ : Finset (Fin 1)) = {0} from rfl, bigSep_singleton]

/-! ## The values -/

/-- The hidden states, a row per token. -/
def hIn (d : Dev nD) : Vec F S8192x4096 .f32 := shapeCast S8192x4096 (m ((SparseCore.T d).loc main_arg0) : Vec F S4x2048x4096 .f32) shapeCasts_S4x2048x4096_S8192x4096
/-- The two projections side by side. -/
def wIn (d : Dev nD) : Vec F S4096x128 .f32 :=
  concatenate S4096x128 1 [⟨S4096x64, (m ((SparseCore.T d).loc main_arg1) : Vec F S4096x64 .f32)⟩, ⟨S4096x64, (m ((SparseCore.T d).loc main_arg2) : Vec F S4096x64 .f32)⟩] concatenates_S4096x64_S4096x64_S4096x128_d1
/-- The marked scores of every token. -/
def fin (d : Dev nD) : Vec F S8192x64 .f32 := finalOf (hIn m d) (wIn m d)

/-- The three results. -/
def maskRes (d : Dev nD) : Vec F S4x2048x64 .f32 := shapeCast S4x2048x64 (outMask (fin m d) : Vec F S8192x64 .f32) shapeCasts_S8192x64_S4x2048x64
def sumRes (d : Dev nD) : Vec F S4x2048x1 .f32 := shapeCast S4x2048x1 (outSum (fin m d) : Vec F S8192x1 .f32) shapeCasts_S8192x1_S4x2048x1
def logRes (d : Dev nD) : Vec F S4x2048x64 .f32 := shapeCast S4x2048x64 (outLog (fin m d) : Vec F S8192x64 .f32) shapeCasts_S8192x64_S4x2048x64

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (fin m)).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pin (F := F)) EP pinj) $$ [HP] with ⟨Hg, Ht⟩
  · iapply (show (BI.own (((Emb.inl : Emb UP (UP × Counters)).trans (embR : Emb (UP × Counters) 𝕄)) (initOf (Pipeline.cells (pin (F := F)) pinj) (Pipeline.launchToks (pin (F := F)) pinj))) : sProp 𝕄)
      ⊢ BI.own (EP (initOf (Pipeline.cells (pin (F := F)) pinj) (Pipeline.launchToks (pin (F := F)) pinj))) from .rfl)
    iexact HP
  imodintro
  isplitl [HH]; · iexact HH
  isplitl [Hg Ht]
  · unfold G
    rw [bigSep_sep']
    simp only [one_pipe]
    isplitl [Hg] <;> iassumption
  unfold P; dsimp only
  rw [show (bigSep Finset.univ fun _ : Thread nD τ => bigSep Finset.univ fun _ : Fin 1 => (iprop(emp) : sProp 𝕄)) = iprop(emp) from
    (bigSep_congr fun _ _ => one_pipe _).trans (bigSep_emp_const _)]
  iempintro

/-! ## The buffers of the main thread -/

abbrev rf (b : Ref sig .tc) : DevRef τ sig := Proc.devRef .tc b
abbrev SR : Finset (DevRef τ sig) := {rf main_arg0, rf main_arg1, rf main_arg2, rf main_v4, rf main_v5, rf main_v6}
abbrev SA : Finset (DevRef τ sig) := insert (rf main_v0) (insert (rf main_v1) (insert (rf main_v2) (insert (rf main_v3_0) (insert (rf main_v3_1) (insert (rf main_v3_2) SR)))))

omit [FloatOps F] [Named F] in
theorem held_SA (d : Dev nD) (W : Valuation τ sig (Elt F)) :
    (held (T d) SA W : sProp 𝕄) = iprop((hLoc d ↦{fullShare} W (rf main_v0)) ∗ (wLoc d ↦{fullShare} W (rf main_v1)) ∗ (fLoc d ↦{fullShare} W (rf main_v2))
      ∗ (aLoc d ↦{fullShare} W (rf main_v3_0)) ∗ (pLoc d ↦{fullShare} W (rf main_v3_1)) ∗ (lLoc d ↦{fullShare} W (rf main_v3_2)) ∗ held (T d) SR W) := by
  unfold held SA
  rw [SparseCore.bigSep_insert' (by decide), SparseCore.bigSep_insert' (by decide), SparseCore.bigSep_insert' (by decide),
    SparseCore.bigSep_insert' (by decide), SparseCore.bigSep_insert' (by decide), SparseCore.bigSep_insert' (by decide)]

/-- The contents at launch. -/
def V0 (d : Dev nD) : Valuation τ sig (Elt F) := fun b => m (d, b)

omit [FloatOps F] [Named F] in
theorem unscoped_held (d : Dev nD) : (unscopedBufs d (fun b => m ((SparseCore.T d).loc b)) : sProp 𝕄) = held (T d) SA (V0 m d) := by
  have e : (SA : Finset (DevRef τ sig)) = (Finset.univ.filter fun b : Ref sig .tc => ¬ b.isScoped).map ⟨fun b => rf b, Proc.devRef_injective .tc⟩ := by decide
  unfold unscopedBufs held
  rw [e, bigSep_map]
  rfl

abbrev opH : HloOp τ sig (Elt F) := StableHlo.reshape main_arg0 main_v0 (rfl : (.f32 : EltTy) = .f32) shapeCasts_S4x2048x4096_S8192x4096
abbrev opW : HloOp τ sig (Elt F) := StableHlo.binary main_arg1 main_arg2 main_v1 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))
abbrev op4 : HloOp τ sig (Elt F) := StableHlo.reshape main_v3_0 main_v4 (rfl : (.f32 : EltTy) = .f32) shapeCasts_S8192x64_S4x2048x64
abbrev op5 : HloOp τ sig (Elt F) := StableHlo.reshape main_v3_1 main_v5 (rfl : (.f32 : EltTy) = .f32) shapeCasts_S8192x1_S4x2048x1
abbrev op6 : HloOp τ sig (Elt F) := StableHlo.reshape main_v3_2 main_v6 (rfl : (.f32 : EltTy) = .f32) shapeCasts_S8192x64_S4x2048x64

/-- After the first two operations. -/
def V2 (d : Dev nD) : Valuation τ sig (Elt F) := (opW (F := F)).result ((opH (F := F)).result (V0 m d))
/-- After the two calls. -/
def V3 (d : Dev nD) : Valuation τ sig (Elt F) :=
  Function.update (Function.update (Function.update (Function.update (V2 m d) (rf main_v2) (fin m d)) (rf main_v3_0) (outMask (fin m d))) (rf main_v3_1) (outSum (fin m d))) (rf main_v3_2) (outLog (fin m d))
/-- At the end. -/
def V6 (d : Dev nD) : Valuation τ sig (Elt F) := (op6 (F := F)).result ((op5 (F := F)).result ((op4 (F := F)).result (V3 m d)))

theorem V2_v0 (d : Dev nD) : V2 m d (rf main_v0) = hIn m d := by
  unfold V2; rw [StableHlo.binary_result_ne' (h := by decide), StableHlo.reshape_result']; rfl
theorem V2_v1 (d : Dev nD) : V2 m d (rf main_v1) = wIn m d := by
  unfold V2; rw [StableHlo.binary_result', StableHlo.reshape_result_ne' (h := by decide), StableHlo.reshape_result_ne' (h := by decide)]; rfl
theorem V2_ne (d : Dev nD) (r : Ref sig .tc) (h0 : r ≠ main_v0) (h1 : r ≠ main_v1) : V2 m d (rf r) = m ((SparseCore.T d).loc r) := by
  unfold V2; rw [StableHlo.binary_result_ne' (h := h1), StableHlo.reshape_result_ne' (h := h0)]; rfl

theorem V3_l (d : Dev nD) : V3 m d (rf main_v3_2) = outLog (fin m d) := Function.update_self _ _ _
theorem V3_p (d : Dev nD) : V3 m d (rf main_v3_1) = outSum (fin m d) :=
  (Function.update_of_ne (show rf main_v3_1 ≠ rf main_v3_2 by decide) _ _).trans (Function.update_self _ _ _)
theorem V3_a (d : Dev nD) : V3 m d (rf main_v3_0) = outMask (fin m d) :=
  (Function.update_of_ne (show rf main_v3_0 ≠ rf main_v3_2 by decide) _ _).trans
    ((Function.update_of_ne (show rf main_v3_0 ≠ rf main_v3_1 by decide) _ _).trans (Function.update_self _ _ _))
theorem V3_f (d : Dev nD) : V3 m d (rf main_v2) = fin m d :=
  (Function.update_of_ne (show rf main_v2 ≠ rf main_v3_2 by decide) _ _).trans
    ((Function.update_of_ne (show rf main_v2 ≠ rf main_v3_1 by decide) _ _).trans
      ((Function.update_of_ne (show rf main_v2 ≠ rf main_v3_0 by decide) _ _).trans (Function.update_self _ _ _)))
theorem V3_ne (d : Dev nD) (b : DevRef τ sig) (h : b ≠ rf main_v2 ∧ b ≠ rf main_v3_0 ∧ b ≠ rf main_v3_1 ∧ b ≠ rf main_v3_2) : V3 m d b = V2 m d b :=
  (Function.update_of_ne h.2.2.2 _ _).trans ((Function.update_of_ne h.2.2.1 _ _).trans ((Function.update_of_ne h.2.1 _ _).trans (Function.update_of_ne h.1 _ _)))

theorem held_SR3 (d : Dev nD) : (held (T d) SR (V3 m d) : sProp 𝕄) = held (T d) SR (V2 m d) :=
  StableHlo.held_congr (T d) fun b hb => V3_ne m d b (by revert b; decide)

/-- The results and the arguments at the end. -/
theorem V6_ne (d : Dev nD) (r : Ref sig .tc) (h4 : r ≠ main_v4) (h5 : r ≠ main_v5) (h6 : r ≠ main_v6) : V6 m d (rf r) = V3 m d (rf r) := by
  unfold V6; rw [StableHlo.reshape_result_ne' (h := h6), StableHlo.reshape_result_ne' (h := h5), StableHlo.reshape_result_ne' (h := h4)]
theorem V6_v4 (d : Dev nD) : V6 m d (rf main_v4) = maskRes m d := by
  unfold V6; rw [StableHlo.reshape_result_ne' (h := by decide), StableHlo.reshape_result_ne' (h := by decide), StableHlo.reshape_result', V3_a]; rfl
theorem V6_v5 (d : Dev nD) : V6 m d (rf main_v5) = sumRes m d := by
  unfold V6; rw [StableHlo.reshape_result_ne' (h := by decide), StableHlo.reshape_result', StableHlo.reshape_result_ne' (h := by decide), V3_p]; rfl
theorem V6_v6 (d : Dev nD) : V6 m d (rf main_v6) = logRes m d := by
  unfold V6; rw [StableHlo.reshape_result', StableHlo.reshape_result_ne' (h := by decide), StableHlo.reshape_result_ne' (h := by decide), V3_l]; rfl
theorem V6_arg (d : Dev nD) (r : Ref sig .tc) (h : r = main_arg0 ∨ r = main_arg1 ∨ r = main_arg2) : V6 m d (rf r) = m ((SparseCore.T d).loc r) := by
  rcases h with rfl | rfl | rfl <;>
  rw [V6_ne m d _ (by decide) (by decide) (by decide), V3_ne m d _ (by decide), V2_ne m d _ (by decide) (by decide)]

/-! ## The TensorCore call in the main thread -/

/-- The call, before the SparseCore calls' labels are added. -/
def callP : Prog (TpuEff nD τ sig (Elt F) (ΛP (F := F)) .tc) PUnit := .op (.customCall (Pipeline.entry 0) ()) fun _ => .ret ⟨⟩

theorem callP_wp [∀ e, Nonempty (Elt F e)] (h : Dev nD → Vec F S8192x4096 .f32) (w : Dev nD → Vec F S4096x128 .f32) (o : Dev nD → Vec F S8192x64 .f32) (d : Dev nD) (Φ : PUnit → sProp 𝕄) :
    iprop((iprop(boundary (d.tc : Thread nD τ) ∗ postR h w d) -∗ wp frame (wpE (Pipeline.defs (pcfgs (F := F)) defs₀) (Variants.lift 𝒱₀) (d.tc : Thread nD τ) none) Set.univ (.ret ⟨⟩) Φ)
        ∗ boundary (d.tc : Thread nD τ) ∗ preR h w o d ∗ levAts (K (F := F)).L (K (F := F)).lev
        ∗ Pipeline.cellsGhost (pin (F := F)) EP 0 d ∗ Pipeline.toksInit (pin (F := F)) EP 0 d)
      ⊢ wp frame (wpE (Pipeline.defs (pcfgs (F := F)) defs₀) (Variants.lift 𝒱₀) (d.tc : Thread nD τ) none) Set.univ (callP (F := F)) Φ := by
  have h2 := Pipeline.RegionSeg.wp (pcfgs (F := F)) adm (pdats h w o adm) none pinj EP defs₀ 𝒱₀ (K (F := F)).L (K (F := F)).lev
    (reg h w o adm) d none (fun u hu => absurd hu (Option.not_mem_none u)) (fun _ => .ret ⟨⟩) Φ
  exact h2

theorem region_wp [∀ e, Nonempty (Elt F e)] (κ : GSem nD τ sig → ℕ) (d : Dev nD) (o : Dev nD → Vec F S8192x64 .f32) (Φ : PUnit → sProp 𝕄) :
    iprop((iprop(boundary (T d) ∗ postR (hIn m) (wIn m) d) -∗ Φ ⟨⟩)
        ∗ boundary (T d) ∗ preR (hIn m) (wIn m) o d ∗ levAts (K (F := F)).L (K (F := F)).lev ∗ G d)
      ⊢ wp frame (wpE ((K (F := F)).defs (D (F := F))) 𝒱 (T d) none) Set.univ (Prog.lift (.customCall (SparseCore.inner (Pipeline.entry 0)) ())) Φ := by
  have h1 := (K (F := F)).wp_liftProg (D (F := F)) 𝒱 (T d) Set.univ none (callP (F := F)) Φ
  refine (show _ ⊢ _ from ?_).trans h1
  refine (show _ ⊢ _ from ?_).trans (callP_wp (hIn m) (wIn m) o d Φ)
  unfold G
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg] <;> iassumption

/-! ## The main thread -/

theorem sub_opH : (opH (F := F)).bufs ⊆ SA := show ({rf main_arg0, rf main_v0} : Finset (DevRef τ sig)) ⊆ SA by decide
theorem sub_opW : (opW (F := F)).bufs ⊆ SA := show ({rf main_arg1, rf main_arg2, rf main_v1} : Finset (DevRef τ sig)) ⊆ SA by decide
theorem sub_op4 : (op4 (F := F)).bufs ⊆ SA := show ({rf main_v3_0, rf main_v4} : Finset (DevRef τ sig)) ⊆ SA by decide
theorem sub_op5 : (op5 (F := F)).bufs ⊆ SA := show ({rf main_v3_1, rf main_v5} : Finset (DevRef τ sig)) ⊆ SA by decide
theorem sub_op6 : (op6 (F := F)).bufs ⊆ SA := show ({rf main_v3_2, rf main_v6} : Finset (DevRef τ sig)) ⊆ SA by decide

abbrev FIN (d : Dev nD) : sProp 𝕄 := held (T d) SA (V6 m d)

theorem hmain [∀ e, Nonempty (Elt F e)] (κ : GSem nD τ sig → ℕ) (d : Dev nD) :
    iprop((K (F := F)).ctx EH (P m (fin m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opH) (S := SA) sub_opH (V := V0 m d)) $$ [Hb Hheld]
  · isplitl [Hb] <;> iassumption
  iintro ⟨Hb, Hheld⟩
  rw [wp_ret]; imodintro
  iapply (wp_hlo_within 𝒱 (SparseCore.T d) none Set.univ (op := opW) (S := SA) sub_opW (V := (opH (F := F)).result (V0 m d))) $$ [Hb Hheld]
  · isplitl [Hb] <;> iassumption
  iintro ⟨Hb, Hheld⟩
  rw [wp_ret]; imodintro
  ihave Hheld := (show (held (T d) SA ((opW (F := F)).result ((opH (F := F)).result (V0 m d))) : sProp 𝕄) ⊢ held (T d) SA (V2 m d) from .rfl) $$ Hheld
  ihave Hh := (Entails.of_eq (held_SA (F := F) d (V2 m d))) $$ Hheld
  rw [V2_v0, V2_v1, V2_ne m d main_v2 (by decide) (by decide), V2_ne m d main_v3_0 (by decide) (by decide),
    V2_ne m d main_v3_1 (by decide) (by decide), V2_ne m d main_v3_2 (by decide) (by decide)]
  icases Hh with ⟨H0, H1, H2, Ha, Hp, Hl, HR⟩
  ihave Hlev := ((K (F := F)).ctx_levAts κ) $$ Hctx
  unfold SparseCore.Cfg.tcSt
  icases Hst with ⟨HO, Hst⟩
  iapply (region_wp m κ d (fun d => m (fLoc d)) _)
  isplitr [Hb H0 H1 H2 HO HG Hlev]
  swap
  · isplitl [Hb]; · iexact Hb
    isplitl [H0 H1 H2 HO]
    · unfold preR
      isplitl [H0]; · iexact H0
      isplitl [H1]; · iexact H1
      isplitl [H2]; · iexact H2
      iexact HO
    isplitl [Hlev] <;> iassumption
  iintro ⟨Hb, Hpost⟩
  unfold postR
  icases Hpost with ⟨H0, H1, H2, HO⟩
  iapply ((K (F := F)).wp_run (D (F := F)) 𝒱 (EH := EH) (P := P m (fin m)) κ d 0)
  isplitr; · iexact Hctx
  isplitl [Hst HO]
  · unfold SparseCore.Cfg.tcSt
    isplitl [HO]; · iexact HO
    iexact Hst
  isplitl [H2 Ha Hp Hl]
  · rw [st_eq]
    isplitl [H2]; · iexact H2
    isplitl [Ha]; · iexact Ha
    isplitl [Hp]; · iexact Hp
    iexact Hl
  iintro ⟨Hst, Hdn⟩
  ihave Hdn' := (Entails.of_eq (dn_eq m (fin m) d)) $$ Hdn
  icases Hdn' with ⟨H2, Ha, Hp, Hl⟩
  ihave Hheld := (Entails.of_eq (held_SA (F := F) d (V3 m d)).symm) $$ [H0 H1 H2 Ha Hp Hl HR]
  · rw [V3_l, V3_p, V3_a, V3_f, V3_ne m d (rf main_v0) (by decide), V3_ne m d (rf main_v1) (by decide), V2_v0, V2_v1, held_SR3]
    isplitl [H0]; · iexact H0
    isplitl [H1]; · iexact H1
    isplitl [H2]; · iexact H2
    isplitl [Ha]; · iexact Ha
    isplitl [Hp]; · iexact Hp
    isplitl [Hl]; · iexact Hl
    iexact HR
  iapply (wp_hlo_within 𝒱 (SparseCore.T d) none Set.univ (op := op4) (S := SA) sub_op4 (V := V3 m d)) $$ [Hb Hheld]
  · isplitl [Hb] <;> iassumption
  iintro ⟨Hb, Hheld⟩
  rw [wp_ret]; imodintro
  iapply (wp_hlo_within 𝒱 (SparseCore.T d) none Set.univ (op := op5) (S := SA) sub_op5 (V := (op4 (F := F)).result (V3 m d))) $$ [Hb Hheld]
  · isplitl [Hb] <;> iassumption
  iintro ⟨Hb, Hheld⟩
  rw [wp_ret]; imodintro
  iapply (wp_hlo_within 𝒱 (SparseCore.T d) none Set.univ (op := op6) (S := SA) sub_op6 (V := (op5 (F := F)).result ((op4 (F := F)).result (V3 m d)))) $$ [Hb Hheld]
  · isplitl [Hb] <;> iassumption
  iintro ⟨Hb, Hheld⟩
  rw [wp_ret]; imodintro; imodintro
  isplitl [Hst]
  · unfold SparseCore.Cfg.tcSt
    iexact Hst
  isplitl [Hheld]; · iexact Hheld
  isplitl [Hb] <;> iassumption

/-! ## The program's run -/

def fq (d : Dev nD) (s' : Phys nD τ sig (Elt F)) : Prop := ∀ b ∈ SA, s'.mem.mem (d, b) = V6 m d b

theorem hfin (d : Dev nD) (s' : Phys nD τ sig (Elt F)) : iprop(FIN m d ∗ SI s') ⊢ (⌜fq m d s'⌝ : sProp 𝕄) := by
  have one : ∀ b ∈ SA, iprop(FIN m d ∗ SI s') ⊢ (⌜s'.mem.mem (d, b) = V6 m d b⌝ : sProp 𝕄) := by
    intro b hb
    rw [show (FIN m d : sProp 𝕄) = iprop((((d, b) : Loc nD τ sig) ↦{fullShare} V6 m d b) ∗ bigSep (SA.erase b) fun b' => (((d, b') : Loc nD τ sig) ↦{fullShare} V6 m d b' : sProp 𝕄)) from bigSep_erase hb]
    iintro ⟨⟨Hx, -⟩, HSI⟩
    ihave H := (SI_pointsTo_agree (st := s') (ℓ := ((d, b) : Loc nD τ sig)) (I := Finset.univ) (q := fullShare) (f := V6 m d b)) $$ [HSI Hx]
    · isplitl [HSI] <;> iassumption
    icases H with %hx
    ipureintro; exact funext fun i => hx i (Finset.mem_univ i)
  unfold fq
  exact (Laws.forall_intro fun b => (Laws.forall_intro fun hb => one b hb).trans Laws.pure_forall.2).trans Laws.pure_forall.2

def QC : PUnit × MemSt nD τ sig (Elt F) → Prop := fun r => (∀ d : Dev nD, ∀ b ∈ SA, r.2.mem (d, b) = V6 m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (fin m)) (A := ∅) facts v₀
    (fun q hq => match q with | 0 => nomatch hq)
    (fun q _ => match q with | 0 => tileObl m (fin m))
    (fun q _ => match q with | 0 => SparseCore.Cfg.VecSplit.of_plain (vecSplit m (fin m)))
    m ρ main G (FIN m) (u₀ (F := F)) (sep_elim_left.trans (hu₀ m)) (hmain m ρ) (fq m) (hfin m) (QC m) (fun _ h hz => ⟨h, hz⟩)

/-- The run with its results: the arguments as they were, every semaphore at zero, and the three arrays. -/
theorem run_values [∀ e, Nonempty (Elt F e)] : θ_run (Cert.KernelIdeal.defs (F := F)) (Cert.KernelIdeal.threads (F := F)) ⟨m, fun _ => 0, ρ⟩ fun r =>
    (∀ d : Dev nD, (r.2.mem ((SparseCore.T d).loc main_v4) = maskRes m d ∧ r.2.mem ((SparseCore.T d).loc main_v5) = sumRes m d ∧ r.2.mem ((SparseCore.T d).loc main_v6) = logRes m d)
      ∧ r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2)) ∧ r.2.sem = fun _ => 0 :=
  (θ_run Cert.KernelIdeal.defs _ _).mono (fun _ h => ⟨fun d =>
    ⟨⟨(h.1 d (rf main_v4) (by decide)).trans (V6_v4 m d), (h.1 d (rf main_v5) (by decide)).trans (V6_v5 m d), (h.1 d (rf main_v6) (by decide)).trans (V6_v6 m d)⟩,
      (h.1 d (rf main_arg0) (by decide)).trans (V6_arg m d main_arg0 (.inl rfl)), (h.1 d (rf main_arg1) (by decide)).trans (V6_arg m d main_arg1 (.inr (.inl rfl))),
      (h.1 d (rf main_arg2) (by decide)).trans (V6_arg m d main_arg2 (.inr (.inr rfl)))⟩, h.2⟩) (run_main (F := F) m ρ)

end

end Cert.Proof.Router

end
-- ==== Proof.Transfer.lean ====
/-
  The program as printed and its idealized form are the same program at float bit patterns once the named constant is read
  as the pattern the program writes.  So a run of the idealized form, proved over any floats, is a run of the printed one.
-/
module

public import proofs.«01_k».proof.Defs
public import proofs.«01_k».proof.Proof.Gen.Kernel
public import proofs.«01_k».proof.Proof.Gen.KernelIdeal

@[expose] public section

noncomputable section

namespace Cert.Proof.Router

open Idealize.ShloMosaic Idealize.SL.Sem

/-- At bit patterns a named constant is the pattern written beside its name. -/
instance namedBits : Named Bits := ⟨fun _ _ {φ} bits => Scalar.ofBits φ bits⟩

/-- The bodies agree label by label. -/
theorem bodies_agree : Cert.KernelIdeal.defs₀ (F := Bits) = Cert.Kernel.defs₀ (F := Bits) := by
  funext p l a
  rcases p with _ | c | ⟨c, s⟩
  · match l, a with
    | 0, (t, s) => rfl
    | 1, _ => rfl
  · match l, a with
    | 0, _ => rfl
    | 1, _ => rfl
  · match l, a with
    | 0, _ => rfl
    | 1, _ => rfl

theorem programs_agree : Cert.KernelIdeal.defs (F := Bits) = Cert.Kernel.defs (F := Bits) :=
  congrArg (fun d => (Cert.Kernel.sc (F := Bits)).defs (Pipeline.defs (Cert.Kernel.pcfgs (F := Bits)) d)) bodies_agree

/-- What every execution of the one ends in, every execution of the other ends in. -/
theorem run_transfer (Q) (m g)
    (h : θ_run (Cert.KernelIdeal.defs (F := Bits)) (Cert.KernelIdeal.threads (F := Bits)) ⟨m, fun _ => 0, g⟩ Q) :
    θ_run (Cert.Kernel.defs (F := Bits)) (Cert.Kernel.threads (F := Bits)) ⟨m, fun _ => 0, g⟩ Q := by
  rw [← programs_agree]; exact h

end Cert.Proof.Router

end
-- ==== Proof.Frames.lean ====
/-
  Every program runs to its end with its arguments unchanged and every semaphore back at zero; and the named constant is
  the rational its name says.
-/
module

public import proofs.«01_k».proof.Defs
public import proofs.«01_k».proof.Proof.Main
public import proofs.«01_k».proof.Proof.Transfer
public import proofs.«01_k».proof.Proof.Gen.ReferenceIdeal.Run
public import Idealize.ShloMosaic.Adequacy

@[expose] public section

noncomputable section

namespace Cert.Proof.Router

open Idealize.ShloMosaic Idealize.SL.Sem

instance elt_bits_nonempty (e : EltTy) : Nonempty (Elt Bits e) := by
  cases e <;> exact ⟨(0 : BitVec _)⟩

theorem frame_kernel : Cert.quiescent_Kernel (hKernel := Cert.Kernel.Gen.facts) := fun m g _ =>
  run_transfer _ m g ((θ_run Cert.KernelIdeal.defs _ _).mono (fun _ h => ⟨fun c => (h.1 c).2, h.2⟩) (run_values (F := Bits) m g))

theorem frame_ideal : Cert.quiescent_KernelIdeal (hKernelIdeal := Cert.KernelIdeal.Gen.facts) := fun m g _ =>
  (θ_run Cert.KernelIdeal.defs _ _).mono (fun _ h => ⟨fun c => (h.1 c).2, h.2⟩) (run_values (F := Ideal) m g)

theorem frame_reference : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

theorem preserves : Cert.preserves_Kernel_KernelIdeal :=
  IdealRules.named_const.statement Cert.KernelIdeal.κ "inv_em1" .f32 0x3C820821#32 ((63⁻¹ : ℝ) : EReal) rfl

end Cert.Proof.Router

end
-- ==== Proof.Rank.lean ====
/-
  The order of a token's experts: the greater score first, the smaller index first among equal scores; an expert's rank in it;
  and what a stable sort by score alone puts at each place.
-/
module

public import Idealize.ShloMosaic.PureOps.Ideal
public import Idealize.ShloMosaic.Lib.SortFacts
public import Mathlib.Data.Prod.Lex
public import Mathlib.Data.EReal.Basic

@[expose] public section

noncomputable section

namespace Cert.Proof.Router

open Idealize.ShloMosaic

variable {n : ℕ} (s : Fin n → EReal)

/-- An expert's place in the order, as a value of a linear order. -/
def ord (e : Fin n) : Lex (ERealᵒᵈ × Fin n) := toLex (OrderDual.toDual (s e), e)

theorem ord_inj : Function.Injective (ord s) := fun a b h => by
  have := congrArg (fun x => (ofLex x).2) h
  exact this

theorem ord_lt (a b : Fin n) : ord s a < ord s b ↔ s b < s a ∨ (s a = s b ∧ a < b) := by
  unfold ord
  rw [Prod.Lex.toLex_lt_toLex]
  rfl

/-- How many experts go ahead of one. -/
def rank (e : Fin n) : ℕ := (Finset.univ.filter fun e' => ord s e' < ord s e).card

theorem rank_lt_rank {a b : Fin n} (h : ord s a < ord s b) : rank s a < rank s b := by
  refine Finset.card_lt_card ?_
  rw [Finset.ssubset_iff_of_subset]
  · exact ⟨a, by simpa using h, by simp⟩
  · intro e he
    simp only [Finset.mem_filter, Finset.mem_univ, true_and] at he ⊢
    exact he.trans h

theorem rank_inj : Function.Injective (rank s) := fun a b h => by
  rcases lt_trichotomy (ord s a) (ord s b) with q | q | q
  · exact absurd h (rank_lt_rank s q).ne
  · exact ord_inj s q
  · exact absurd h (rank_lt_rank s q).ne'

theorem rank_lt (e : Fin n) : rank s e < n := by
  have h : rank s e < (Finset.univ : Finset (Fin n)).card := by
    refine Finset.card_lt_card ?_
    rw [Finset.ssubset_iff_of_subset (Finset.filter_subset _ _)]
    exact ⟨e, Finset.mem_univ _, by simp⟩
  simpa using h

theorem rank_surj (k : Fin n) : ∃ e, rank s e = k.val := by
  have hi : Function.Injective (fun e => (⟨rank s e, rank_lt s e⟩ : Fin n)) := fun a b h => rank_inj s (by simpa using h)
  obtain ⟨e, he⟩ := (Finite.injective_iff_surjective.mp hi) k
  exact ⟨e, congrArg Fin.val he⟩

/-- The expert of rank `k`. -/
def nth (k : Fin n) : Fin n := (rank_surj s k).choose

theorem rank_nth (k : Fin n) : rank s (nth s k) = k.val := (rank_surj s k).choose_spec

theorem eq_nth {e : Fin n} {k : Fin n} (h : rank s e = k.val) : e = nth s k := rank_inj s (h.trans (rank_nth s k).symm)

theorem nth_inj : Function.Injective (nth s) := fun a b h => Fin.ext (by rw [← rank_nth s a, ← rank_nth s b, h])

theorem nth_zero_max {k : Fin n} (hk : k.val = 0) (e : Fin n) : s e ≤ s (nth s k) := by
  by_contra hc
  have h1 : ord s e < ord s (nth s k) := (ord_lt s _ _).mpr (.inl (not_le.mp hc))
  have h2 := rank_lt_rank s h1
  rw [rank_nth] at h2
  omega

/-- Along an ascending run the experts before are counted in the rank. -/
theorem le_rank {m : ℕ} (f : Fin m → Fin n) (hf : ∀ i j, i < j → ord s (f i) < ord s (f j)) (k : Fin m) : k.val ≤ rank s (f k) := by
  have hinj : Function.Injective f := fun i j h => by
    rcases lt_trichotomy i j with q | q | q
    · exact absurd (congrArg (ord s) h) (hf _ _ q).ne
    · exact q
    · exact absurd (congrArg (ord s) h) (hf _ _ q).ne'
  have : ((Finset.Iio k).image f).card ≤ rank s (f k) := by
    refine Finset.card_le_card fun e he => ?_
    obtain ⟨i, hi, rfl⟩ := Finset.mem_image.mp he
    simp only [Finset.mem_filter, Finset.mem_univ, true_and]
    exact hf _ _ (Finset.mem_Iio.mp hi)
  rwa [Finset.card_image_of_injective _ hinj, Fin.card_Iio] at this

/-- And are all of it when the run leaves out no expert ahead. -/
theorem rank_run {m : ℕ} (f : Fin m → Fin n) (hf : ∀ i j, i < j → ord s (f i) < ord s (f j)) (k : Fin m)
    (hall : ∀ e, ord s e < ord s (f k) → ∃ i, f i = e) : rank s (f k) = k.val := by
  refine le_antisymm ?_ (le_rank s f hf k)
  have : rank s (f k) ≤ ((Finset.Iio k).image f).card := by
    refine Finset.card_le_card fun e he => ?_
    simp only [Finset.mem_filter, Finset.mem_univ, true_and] at he
    obtain ⟨i, rfl⟩ := hall e he
    refine Finset.mem_image.mpr ⟨i, Finset.mem_Iio.mpr ?_, rfl⟩
    rcases lt_trichotomy i k with q | q | q
    · exact q
    · subst q; exact absurd he (lt_irrefl _)
    · exact absurd (he.trans (hf _ _ q)) (lt_irrefl _)
  exact this.trans (Finset.card_image_le.trans (Fin.card_Iio k).le)

/-! ## The stable sort -/

theorem sorted_insert (before : Fin n → Fin n → Bool) (hb : ∀ a b, before a b = true ↔ s b < s a) (a : Fin n) :
    ∀ l : List (Fin n), (∀ b ∈ l, a < b) → l.Pairwise (fun x y => ord s x < ord s y) →
      (insertBefore before a l).Pairwise (fun x y => ord s x < ord s y)
  | [], _, _ => List.pairwise_singleton _ _
  | b :: l, hl, hp => by
    unfold insertBefore
    have hp' := List.pairwise_cons.mp hp
    by_cases h : before b a = true
    · rw [if_pos h]
      refine List.pairwise_cons.mpr ⟨fun c hc => ?_, sorted_insert before hb a l (fun c hc => hl c (List.mem_cons_of_mem _ hc)) hp'.2⟩
      rcases List.mem_cons.mp ((perm_insertBefore before a l).mem_iff.mp hc) with rfl | hc
      · exact (ord_lt s _ _).mpr (.inl ((hb _ _).mp h))
      · exact hp'.1 c hc
    · rw [if_neg h]
      have hab : ord s a < ord s b := by
        refine (ord_lt s _ _).mpr ?_
        have h1 : ¬ s a < s b := fun q => h ((hb _ _).mpr q)
        rcases lt_or_eq_of_le (not_lt.mp h1) with q | q
        · exact .inl q
        · exact .inr ⟨q.symm, hl b List.mem_cons_self⟩
      refine List.pairwise_cons.mpr ⟨fun c hc => ?_, hp⟩
      rcases List.mem_cons.mp hc with rfl | hc
      · exact hab
      · exact hab.trans (hp'.1 c hc)

theorem sorted_stable (before : Fin n → Fin n → Bool) (hb : ∀ a b, before a b = true ↔ s b < s a) :
    ∀ l : List (Fin n), l.Pairwise (· < ·) → (stableSort before l).Pairwise (fun x y => ord s x < ord s y)
  | [], _ => List.Pairwise.nil
  | a :: l, hl => by
    have hl' := List.pairwise_cons.mp hl
    exact sorted_insert s before hb a _ (fun b hb' => hl'.1 b ((perm_stableSort before l).mem_iff.mp hb')) (sorted_stable before hb l hl'.2)

/-- A stable sort of the experts by score, greater first, puts the expert of rank `k` at place `k`. -/
theorem sortedFrom_nth (before : Fin n → Fin n → Bool) (hb : ∀ a b, before a b = true ↔ s b < s a) (k : Fin n) :
    sortedFrom before k = nth s k := by
  refine eq_nth s (rank_run s (sortedFrom before) (fun i j hij => ?_) k fun e _ => sortedFrom_surjective before e)
  have hp := sorted_stable s before hb (List.finRange n) (List.pairwise_lt_finRange n)
  exact List.pairwise_iff_get.mp hp _ _ hij

/-! ## Merging -/

/-- The lower eight of one run and the upper eight of another. -/
def merge8 (a b : Fin 16 → Fin n) (k : Fin 16) : Fin n := if k.val < 8 then a k else b k

/-- Of an ascending run the eight first experts lie in the lower half; of a descending one, in the upper. -/
theorem merge8_keeps {a b : Fin 16 → Fin n} (ha : ∀ i j, i < j → ord s (a i) < ord s (a j)) (hb : ∀ i j, i < j → ord s (b j) < ord s (b i))
    {e : Fin n} (hr : rank s e < 8) (h : (∃ k, a k = e) ∨ ∃ k, b k = e) : ∃ k, merge8 a b k = e := by
  rcases h with ⟨k, rfl⟩ | ⟨k, rfl⟩
  · have := le_rank s a ha k
    exact ⟨k, if_pos (by omega)⟩
  · have h1 := le_rank s (fun i => b i.rev) (fun i j hij => hb _ _ (Fin.rev_lt_rev.mpr hij)) k.rev
    simp only [Fin.rev_rev] at h1
    rw [Fin.val_rev] at h1
    exact ⟨k, if_neg (by omega)⟩

theorem merge8_mem {a b : Fin 16 → Fin n} (k : Fin 16) : (∃ j, a j = merge8 a b k) ∨ ∃ j, b j = merge8 a b k := by
  unfold merge8
  split
  · exact .inl ⟨k, rfl⟩
  · exact .inr ⟨k, rfl⟩

theorem run_inj {m : ℕ} {f : Fin m → Fin n} (hf : ∀ i j, i < j → ord s (f i) < ord s (f j)) : Function.Injective f := fun i j h => by
  rcases lt_trichotomy i j with q | q | q
  · exact absurd (congrArg (ord s) h) (hf _ _ q).ne
  · exact q
  · exact absurd (congrArg (ord s) h) (hf _ _ q).ne'

theorem run_inj' {m : ℕ} {f : Fin m → Fin n} (hf : ∀ i j, i < j → ord s (f j) < ord s (f i)) : Function.Injective f := fun i j h => by
  rcases lt_trichotomy i j with q | q | q
  · exact absurd (congrArg (ord s) h) (hf _ _ q).ne'
  · exact q
  · exact absurd (congrArg (ord s) h) (hf _ _ q).ne

theorem merge8_inj {a b : Fin 16 → Fin n} (ha : Function.Injective a) (hb : Function.Injective b) (hd : ∀ i j, a i ≠ b j) :
    Function.Injective (merge8 a b) := fun i j h => by
  unfold merge8 at h
  split at h <;> split at h
  · exact ha h
  · exact absurd h (hd _ _)
  · exact absurd h.symm (hd _ _)
  · exact hb h

/-- An ascending run with all of the eight first experts begins with them. -/
theorem run_first {f : Fin 16 → Fin n} (hf : ∀ i j, i < j → ord s (f i) < ord s (f j)) (hall : ∀ e, rank s e < 8 → ∃ k, f k = e)
    (k : Fin 16) (hk : k.val < 8) (hn : k.val < n) : f k = nth s ⟨k.val, hn⟩ := by
  obtain ⟨j, hj⟩ := hall (nth s ⟨k.val, hn⟩) (by rw [rank_nth]; exact hk)
  have hr : rank s (f j) = j.val := rank_run s f hf j fun e he => hall e (by
    have h1 := rank_lt_rank s he
    rw [hj, rank_nth] at h1
    have h2 : rank s e < k.val := h1
    omega)
  rw [hj, rank_nth] at hr
  have : j = k := Fin.ext hr.symm
  exact (congrArg f this).symm.trans hj

end Cert.Proof.Router

end
-- ==== Proof.LaneSort.lean ====
/-
  At exact values the kernel's lane sorts are sorts: of sixteen different experts with their scores, the experts in the order of
  Rank.lean, ascending or descending.
-/
module

public import proofs.«01_k».proof.Proof.Rank
public import proofs.«01_k».proof.Proof.Lanes

@[expose] public section

noncomputable section

namespace Cert.Proof.Router

open Cert.KernelIdeal Cert.KernelIdeal.Gen
open Idealize.ShloMosaic

variable (s : Fin 64 → EReal)

/-- The lanes of a pair of vectors are the scores and the indices of the experts `f`. -/
def Holds (x : Vec Ideal S16 .f32 × IVec S16 32) (f : Fin 16 → Fin 64) : Prop :=
  ∀ k : Fin 16, x.1 (lane k) = s (f k) ∧ x.2 (lane k) = BitVec.ofNat 32 (f k).val

/-! ## Words -/

theorem slt_small (a b : Fin 64) : IntOp.cmpi .slt (BitVec.ofNat 32 a.val) (BitVec.ofNat 32 b.val) = 1#1 ↔ a < b := by
  revert a b; decide +kernel

theorem bit_or (p q : Bool) : IntOp.ori (BitVec.ofBool p) (BitVec.ofBool q) = 1#1 ↔ (p = true ∨ q = true) := by
  revert p q; decide
theorem bit_and (p q : BitVec 1) : IntOp.andi p q = 1#1 ↔ (p = 1#1 ∧ q = 1#1) := by
  revert p q; decide
theorem bit_of (p : Prop) [Decidable p] : BitVec.ofBool (decide p) = 1#1 ↔ p := by
  by_cases h : p <;> simp [h]
theorem bit_or' (p q : BitVec 1) : IntOp.ori p q = 1#1 ↔ (p = 1#1 ∨ q = 1#1) := by
  revert p q; decide

theorem ahead_bit (x y : EReal) (a b : Fin 64) :
    IntOp.ori (Ideal.cmp .ogt x y) (IntOp.andi (Ideal.cmp .oeq x y) (IntOp.cmpi .slt (BitVec.ofNat 32 a.val) (BitVec.ofNat 32 b.val))) = 1#1
      ↔ y < x ∨ (x = y ∧ a < b) := by
  rw [bit_or', bit_and, slt_small]
  unfold Ideal.cmp
  simp only [bit_of]

theorem lanes_at (k : Fin 16) : lanes (lane k) = BitVec.ofNat 32 k.val := by
  revert k; decide +kernel

theorem eq_bit (a b : BitVec 32) : IntOp.cmpi .eq a b = 1#1 ↔ a = b := by
  unfold IntOp.cmpi
  simp only [beq_eq_decide, bit_of]

theorem step_add (k : Fin 16) (n : ℕ) : k + Fin.ofNat 16 n + 1 = k + Fin.ofNat 16 (n + 1) := by
  refine Fin.ext ?_
  simp only [Fin.val_add, Fin.val_ofNat, Fin.val_one]
  omega
theorem step_add' (k : Fin 16) (n : ℕ) : k + 1 + Fin.ofNat 16 n = k + Fin.ofNat 16 (n + 1) := by
  refine Fin.ext ?_
  simp only [Fin.val_add, Fin.val_ofNat, Fin.val_one]
  omega

/-! ## Counting -/

/-- One for each expert ahead among the next `n` lanes. -/
def upTo (f : Fin 16 → Fin 64) (k : Fin 16) (n : ℕ) : ℕ := ∑ i ∈ Finset.range n, if ord s (f (k + Fin.ofNat 16 i)) < ord s (f k) then 1 else 0

theorem count_inv (key : Vec Ideal S16 .f32) (val z : IVec S16 32) (f : Fin 16 → Fin 64) (h : Holds s (key, val) f) (n : ℕ) :
    (∀ k : Fin 16, ((countStep key val)^[n] (key, val, z)).1 (lane k) = s (f (k + Fin.ofNat 16 n)))
    ∧ (∀ k : Fin 16, ((countStep key val)^[n] (key, val, z)).2.1 (lane k) = BitVec.ofNat 32 (f (k + Fin.ofNat 16 n)).val)
    ∧ ∀ k : Fin 16, ((countStep key val)^[n] (key, val, z)).2.2 (lane k) = z (lane k) + BitVec.ofNat 32 (upTo s f k n) := by
  induction n with
  | zero =>
    have e : ∀ k : Fin 16, k + Fin.ofNat 16 0 = k := fun k => by refine Fin.ext ?_; simp only [Fin.val_add, Fin.val_ofNat]; omega
    refine ⟨fun k => ?_, fun k => ?_, fun k => ?_⟩
    · rw [e]; exact (h k).1
    · rw [e]; exact (h k).2
    · show z (lane k) = _
      unfold upTo
      rw [Finset.sum_range_zero]
      simp
  | succ n ih =>
    rw [Function.iterate_succ_apply']
    generalize (countStep key val)^[n] (key, val, z) = c at ih ⊢
    refine ⟨fun k => ?_, fun k => ?_, fun k => ?_⟩
    · exact (roll_lane c.1 k).trans ((ih.1 (k + 1)).trans (by rw [step_add']))
    · exact (roll_lane c.2.1 k).trans ((ih.2.1 (k + 1)).trans (by rw [step_add']))
    · have e : (countStep key val c).2.2 (lane k) = c.2.2 (lane k)
          + (if IntOp.ori (Ideal.cmp .ogt (c.1 (lane k)) (key (lane k))) (IntOp.andi (Ideal.cmp .oeq (c.1 (lane k)) (key (lane k))) (IntOp.cmpi .slt (c.2.1 (lane k)) (val (lane k)))) = 1#1
              then 1#32 else 0#32) := rfl
      have hk1 : key (lane k) = s (f k) := (h k).1
      have hk2 : val (lane k) = BitVec.ofNat 32 (f k).val := (h k).2
      rw [e, ih.2.2 k, ih.1 k, ih.2.1 k, hk1, hk2]
      have hb := (ahead_bit (s (f (k + Fin.ofNat 16 n))) (s (f k)) (f (k + Fin.ofNat 16 n)) (f k)).trans (ord_lt s _ _).symm
      have e2 : upTo s f k (n + 1) = upTo s f k n + if ord s (f (k + Fin.ofNat 16 n)) < ord s (f k) then 1 else 0 := Finset.sum_range_succ _ _
      rw [e2, BitVec.add_assoc]
      by_cases q : ord s (f (k + Fin.ofNat 16 n)) < ord s (f k)
      · rw [if_pos (hb.mpr q), if_pos q, BitVec.ofNat_add]
      · rw [if_neg (fun w => q (hb.mp w)), if_neg q]
        simp

/-- How many of the sixteen are ahead. -/
def place (f : Fin 16 → Fin 64) (k : Fin 16) : ℕ := (Finset.univ.filter fun j => ord s (f j) < ord s (f k)).card

theorem upTo_all (f : Fin 16 → Fin 64) (k : Fin 16) : upTo s f k 16 = place s f k := by
  unfold upTo place
  rw [Finset.card_filter, Finset.sum_range (fun i => if ord s (f (k + Fin.ofNat 16 i)) < ord s (f k) then 1 else 0)]
  rw [← Equiv.sum_comp (Equiv.addLeft k) (fun j => if ord s (f j) < ord s (f k) then 1 else 0)]
  refine Finset.sum_congr rfl fun i _ => ?_
  have : Fin.ofNat 16 i.val = i := Fin.ext (by simp only [Fin.val_ofNat]; omega)
  rw [this]
  rfl

theorem count_at (key : Vec Ideal S16 .f32) (val : IVec S16 32) (f : Fin 16 → Fin 64) (h : Holds s (key, val) f) (k : Fin 16) :
    countAll key val (broadcast S16 0#32) (lane k) = BitVec.ofNat 32 (place s f k) := by
  unfold countAll
  rw [rep_eq, (count_inv s key val _ f h 16).2.2 k, upTo_all]
  show 0#32 + _ = _
  simp

theorem place_lt_place {f : Fin 16 → Fin 64} {a b : Fin 16} (h : ord s (f a) < ord s (f b)) : place s f a < place s f b := by
  refine Finset.card_lt_card ?_
  rw [Finset.ssubset_iff_of_subset]
  · exact ⟨a, by simpa using h, by simp⟩
  · intro e he
    simp only [Finset.mem_filter, Finset.mem_univ, true_and] at he ⊢
    exact he.trans h

theorem place_lt (f : Fin 16 → Fin 64) (e : Fin 16) : place s f e < 16 := by
  have h : place s f e < (Finset.univ : Finset (Fin 16)).card := by
    refine Finset.card_lt_card ?_
    rw [Finset.ssubset_iff_of_subset (Finset.filter_subset _ _)]
    exact ⟨e, Finset.mem_univ _, by simp⟩
  simpa using h

theorem place_inj {f : Fin 16 → Fin 64} (hf : Function.Injective f) : Function.Injective (place s f) := fun a b h => by
  rcases lt_trichotomy (ord s (f a)) (ord s (f b)) with q | q | q
  · exact absurd h (place_lt_place s q).ne
  · exact hf (ord_inj s q)
  · exact absurd h (place_lt_place s q).ne'

theorem place_surj {f : Fin 16 → Fin 64} (hf : Function.Injective f) (k : Fin 16) : ∃ e, place s f e = k.val := by
  have hi : Function.Injective (fun e => (⟨place s f e, place_lt s f e⟩ : Fin 16)) := fun a b h => place_inj s hf (by simpa using h)
  obtain ⟨e, he⟩ := (Finite.injective_iff_surjective.mp hi) k
  exact ⟨e, congrArg Fin.val he⟩

theorem place_mono {f : Fin 16 → Fin 64} {a b : Fin 16} (h : place s f a < place s f b) : ord s (f a) < ord s (f b) := by
  rcases lt_trichotomy (ord s (f a)) (ord s (f b)) with q | q | q
  · exact q
  · have : place s f a = place s f b := by unfold place; rw [q]
    omega
  · exact absurd (place_lt_place s q) (by omega)

/-! ## Putting in place -/

theorem place_inv (key : Vec Ideal S16 .f32) (val r : IVec S16 32) (n : ℕ) :
    (∀ k : Fin 16, ((placeStep (F := Ideal) lanes)^[n] (key, val, r, key, val)).1 (lane k) = key (lane (k + Fin.ofNat 16 n : Fin 16)))
    ∧ (∀ k : Fin 16, ((placeStep (F := Ideal) lanes)^[n] (key, val, r, key, val)).2.1 (lane k) = val (lane (k + Fin.ofNat 16 n : Fin 16)))
    ∧ (∀ k : Fin 16, ((placeStep (F := Ideal) lanes)^[n] (key, val, r, key, val)).2.2.1 (lane k) = r (lane (k + Fin.ofNat 16 n : Fin 16)))
    ∧ ∀ k j : Fin 16, (∀ j' : Fin 16, r (lane j') = lanes (lane k) ↔ j' = j) → (j - k).val < n →
      ((placeStep (F := Ideal) lanes)^[n] (key, val, r, key, val)).2.2.2.1 (lane k) = key (lane j)
      ∧ ((placeStep (F := Ideal) lanes)^[n] (key, val, r, key, val)).2.2.2.2 (lane k) = val (lane j) := by
  induction n with
  | zero =>
    have e : ∀ k : Fin 16, k + Fin.ofNat 16 0 = k := fun k => by refine Fin.ext ?_; simp only [Fin.val_add, Fin.val_ofNat]; omega
    refine ⟨fun k => ?_, fun k => ?_, fun k => ?_, fun k j _ h => absurd h (by omega)⟩ <;> rw [e] <;> rfl
  | succ n ih =>
    rw [Function.iterate_succ_apply']
    generalize (placeStep (F := Ideal) lanes)^[n] (key, val, r, key, val) = c at ih ⊢
    refine ⟨fun k => ?_, fun k => ?_, fun k => ?_, fun k j hr hn => ?_⟩
    · exact (roll_lane c.1 k).trans ((ih.1 (k + 1)).trans (by rw [step_add']))
    · exact (roll_lane c.2.1 k).trans ((ih.2.1 (k + 1)).trans (by rw [step_add']))
    · exact (roll_lane c.2.2.1 k).trans ((ih.2.2.1 (k + 1)).trans (by rw [step_add']))
    · have e1 : (placeStep (F := Ideal) lanes c).2.2.2.1 (lane k) = if IntOp.cmpi .eq (c.2.2.1 (lane k)) (lanes (lane k)) = 1#1 then c.1 (lane k) else c.2.2.2.1 (lane k) := rfl
      have e2 : (placeStep (F := Ideal) lanes c).2.2.2.2 (lane k) = if IntOp.cmpi .eq (c.2.2.1 (lane k)) (lanes (lane k)) = 1#1 then c.2.1 (lane k) else c.2.2.2.2 (lane k) := rfl
      rw [e1, e2, ih.1 k, ih.2.1 k, ih.2.2.1 k]
      simp only [eq_bit]
      by_cases q : r (lane (k + Fin.ofNat 16 n : Fin 16)) = lanes (lane k)
      · rw [if_pos q, if_pos q, (hr _).mp q]
        exact ⟨rfl, rfl⟩
      · rw [if_neg q, if_neg q]
        refine ih.2.2.2 k j hr ?_
        have hne : k + Fin.ofNat 16 n ≠ j := fun w => q ((hr _).mpr w)
        have hne' : (j - k).val ≠ n := fun w => hne (by
          refine Fin.ext ?_
          rw [Fin.sub_def] at w
          simp only [Fin.val_add, Fin.val_ofNat] at w ⊢
          have := k.isLt; have := j.isLt
          omega)
        omega

/-- Pairs at places `r`, one pair to each place. -/
theorem place_holds (key : Vec Ideal S16 .f32) (val r : IVec S16 32) (f : Fin 16 → Fin 64) (h : Holds s (key, val) f) (t : Fin 16 → Fin 16)
    (ht : ∀ k j' : Fin 16, r (lane j') = lanes (lane k) ↔ j' = t k) :
    Holds s (placeK lanes key val r, placeV lanes key val r) (fun k => f (t k)) := by
  intro k
  unfold placeK placeV
  rw [rep_eq]
  have e := (place_inv key val r 16).2.2.2 k (t k) (ht k) (t k - k).isLt
  exact ⟨e.1.trans (h (t k)).1, e.2.trans (h (t k)).2⟩

theorem word_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

/-- The descending sort: the experts in order. -/
theorem sortD_holds {key : Vec Ideal S16 .f32} {val : IVec S16 32} {f : Fin 16 → Fin 64} (h : Holds s (key, val) f) (hf : Function.Injective f) :
    ∃ g : Fin 16 → Fin 64, Holds s (sortD key val) g ∧ (∀ i j, i < j → ord s (g i) < ord s (g j)) ∧ ∀ e, (∃ k, g k = e) ↔ ∃ k, f k = e := by
  choose t ht using place_surj s hf
  refine ⟨fun k => f (t k), place_holds s key val _ f h t fun k j' => ?_, fun i j hij => place_mono s ?_, fun e => ⟨fun ⟨k, hk⟩ => ⟨t k, hk⟩, fun ⟨k, hk⟩ => ?_⟩⟩
  · rw [count_at s key val f h, lanes_at, word_inj (by have := place_lt s f j'; omega) (by have := k.isLt; omega), ← ht k]
    exact ⟨fun w => place_inj s hf w, fun w => congrArg _ w⟩
  · rw [ht, ht]; exact hij
  · refine ⟨⟨place s f k, place_lt s f k⟩, ?_⟩
    rw [← hk]
    exact congrArg f (place_inj s hf (ht _))

/-- The ascending sort: the experts in the order turned round. -/
theorem sortA_holds {key : Vec Ideal S16 .f32} {val : IVec S16 32} {f : Fin 16 → Fin 64} (h : Holds s (key, val) f) (hf : Function.Injective f) :
    ∃ g : Fin 16 → Fin 64, Holds s (sortA key val) g ∧ (∀ i j, i < j → ord s (g j) < ord s (g i)) ∧ ∀ e, (∃ k, g k = e) ↔ ∃ k, f k = e := by
  choose t ht using place_surj s hf
  refine ⟨fun k => f (t k.rev), place_holds s key val _ f h (fun k => t k.rev) fun k j' => ?_, fun i j hij => place_mono s ?_, fun e => ⟨fun ⟨k, hk⟩ => ⟨_, hk⟩, fun ⟨k, hk⟩ => ?_⟩⟩
  · show 15#32 - countAll key val (broadcast S16 0#32) (lane j') = _ ↔ _
    have hp := place_lt s f j'
    have e : 15#32 - BitVec.ofNat 32 (place s f j') = BitVec.ofNat 32 (15 - place s f j') := by
      generalize place s f j' = p at hp
      interval_cases p <;> rfl
    have hr : (k.rev).val = 15 - k.val := by rw [Fin.val_rev]; omega
    have hk := k.isLt
    rw [count_at s key val f h, lanes_at, e, word_inj (by omega) (by omega)]
    constructor
    · intro w
      refine place_inj s hf ((?_ : place s f j' = k.rev.val).trans (ht _).symm)
      omega
    · intro w
      rw [w, ht]; omega
  · rw [ht, ht]; exact Fin.rev_lt_rev.mpr hij
  · refine ⟨(⟨place s f k, place_lt s f k⟩ : Fin 16).rev, ?_⟩
    rw [← hk]
    simp only [Fin.rev_rev]
    exact congrArg f (place_inj s hf (ht _))

/-- The lower eight of one pair of vectors and the upper eight of another. -/
theorem pick_holds {a b : Vec Ideal S16 .f32 × IVec S16 32} {f g : Fin 16 → Fin 64} (ha : Holds s a f) (hb : Holds s b g) :
    Holds s (pick a b) (merge8 f g) := by
  intro k
  have hl : low8 (lane k) = 1#1 ↔ k.val < 8 := by revert k; decide +kernel
  unfold merge8
  by_cases q : k.val < 8
  · rw [if_pos q]
    have e1 : (pick a b).1 (lane k) = a.1 (lane k) := if_pos (hl.mpr q)
    have e2 : (pick a b).2 (lane k) = a.2 (lane k) := if_pos (hl.mpr q)
    rw [e1, e2]; exact ha k
  · rw [if_neg q]
    have e1 : (pick a b).1 (lane k) = b.1 (lane k) := if_neg (fun w => q (hl.mp w))
    have e2 : (pick a b).2 (lane k) = b.2 (lane k) := if_neg (fun w => q (hl.mp w))
    rw [e1, e2]; exact hb k

end Cert.Proof.Router

end
-- ==== Proof.Top.lean ====
/-
  At exact values the lower eight lanes of the merged vector are the eight first experts of a token, and the kernel's three
  outputs of a token are the softmax of their scores in its places.
-/
module

public import proofs.«01_k».proof.Proof.LaneSort
public import proofs.«01_k».proof.Proof.Tile
public import Idealize.ShloMosaic.Lib.IdealHost

@[expose] public section

noncomputable section

namespace Cert.Proof.Router

open Cert.KernelIdeal Cert.KernelIdeal.Gen
open Idealize.ShloMosaic

variable (s : Fin 64 → EReal)

/-! ## The eight first -/

theorem quarter_holds (k : Fin 4) (v : IVec S16 32) (hv : ∀ j : Fin 16, v (lane j) = BitVec.ofNat 32 (16 * k.val + j.val)) :
    Holds s (quarter (F := Ideal) s k, v) (fun j => ⟨16 * k.val + j.val, by omega⟩) := fun j => ⟨rfl, hv j⟩

theorem quarter_inj (k : Fin 4) : Function.Injective (fun j : Fin 16 => (⟨16 * k.val + j.val, by omega⟩ : Fin 64)) := fun a b h => by
  have := congrArg Fin.val h
  simp only at this
  exact Fin.ext (by omega)

theorem lanes_add (o : ℕ) (ho : o < 64) (j : Fin 16) : addi lanes (broadcast S16 (BitVec.ofNat 32 o)) (lane j) = BitVec.ofNat 32 (o + j.val) := by
  show lanes (lane j) + BitVec.ofNat 32 o = _
  rw [lanes_at, BitVec.add_comm, BitVec.ofNat_add]

/-- One step of the merge: the pairs of two runs, ascending and descending, without an expert in common. -/
theorem merge_step {key1 key2 : Vec Ideal S16 .f32} {val1 val2 : IVec S16 32} {f1 f2 : Fin 16 → Fin 64}
    (h1 : Holds s (key1, val1) f1) (i1 : Function.Injective f1) (h2 : Holds s (key2, val2) f2) (i2 : Function.Injective f2)
    (hd : ∀ i j, f1 i ≠ f2 j) :
    ∃ g, Holds s (pick (sortD key1 val1) (sortA key2 val2)) g ∧ Function.Injective g
      ∧ (∀ e, rank s e < 8 → ((∃ k, f1 k = e) ∨ ∃ k, f2 k = e) → ∃ k, g k = e) ∧ ∀ k, (∃ j, f1 j = g k) ∨ ∃ j, f2 j = g k := by
  obtain ⟨a, ha, oa, ra⟩ := sortD_holds s h1 i1
  obtain ⟨b, hb, ob, rb⟩ := sortA_holds s h2 i2
  refine ⟨merge8 a b, pick_holds s ha hb, merge8_inj (run_inj s oa) (run_inj' s ob) fun i j w => ?_, fun e hr he => ?_, fun k => ?_⟩
  · obtain ⟨i', hi⟩ := (ra (a i)).mp ⟨i, rfl⟩
    obtain ⟨j', hj⟩ := (rb (b j)).mp ⟨j, rfl⟩
    exact hd i' j' (hi.trans (w.trans hj.symm))
  · exact merge8_keeps s oa ob hr (he.imp (ra e).mpr (rb e).mpr)
  · exact (merge8_mem (a := a) (b := b) k).imp (ra _).mp (rb _).mp

theorem top_holds : ∃ f : Fin 16 → Fin 64,
    Holds s (top (quarter (F := Ideal) s 0) (quarter s 1) (quarter s 2) (quarter s 3)) f
    ∧ ∀ k : Fin 8, f (k.castLE (by omega)) = nth s (k.castLE (by omega)) := by
  have h0 := quarter_holds s 0 lanes (fun j => (lanes_at j).trans (by simp))
  have h1 := quarter_holds s 1 _ (lanes_add 16 (by omega))
  have h2 := quarter_holds s 2 _ (lanes_add 32 (by omega))
  have h3 := quarter_holds s 3 _ (lanes_add 48 (by omega))
  obtain ⟨l, hl, il, kl, ml⟩ := merge_step s h0 (quarter_inj 0) h1 (quarter_inj 1) (fun i j w => by
    have := congrArg Fin.val w; simp at this; omega)
  obtain ⟨r, hr, ir, kr, mr⟩ := merge_step s h2 (quarter_inj 2) h3 (quarter_inj 3) (fun i j w => by
    have := congrArg Fin.val w; simp at this; omega)
  have hlow : ∀ k, (l k).val < 32 := fun k => by
    rcases ml k with ⟨j, hj⟩ | ⟨j, hj⟩ <;> · rw [← hj]; simp <;> omega
  have hhigh : ∀ k, 32 ≤ (r k).val := fun k => by
    rcases mr k with ⟨j, hj⟩ | ⟨j, hj⟩ <;> · rw [← hj]; simp <;> omega
  obtain ⟨m, hm, im, km, mm⟩ := merge_step s hl il hr ir (fun i j w => by
    have h1 := hlow i; have h2 := hhigh j; rw [w] at h1; omega)
  obtain ⟨f, hf, of, rf⟩ := sortD_holds s hm im
  refine ⟨f, hf, fun k => run_first s of (fun e he => (rf e).mpr (km e he ?_)) _ k.isLt _⟩
  by_cases q : e.val < 32
  · refine .inl (kl e he ?_)
    by_cases q2 : e.val < 16
    · exact .inl ⟨⟨e.val, q2⟩, Fin.ext (by simp)⟩
    · exact .inr ⟨⟨e.val - 16, by omega⟩, Fin.ext (by simp; omega)⟩
  · refine .inr (kr e he ?_)
    by_cases q2 : e.val < 48
    · exact .inl ⟨⟨e.val - 32, by omega⟩, Fin.ext (by simp; omega)⟩
    · exact .inr ⟨⟨e.val - 48, by omega⟩, Fin.ext (by simp; omega)⟩

/-! ## Sums and maxima of lanes -/

theorem roll8_lane (x : FVec Ideal S16 .f32) (k : Fin 16) : roll8 x (lane k) = x (lane (k + 8 : Fin 16)) :=
  concat_lane 8 8 _ _ _ rfl x k (k + 8) (by rw [Fin.val_add]; rfl)
theorem roll4_lane (x : FVec Ideal S16 .f32) (k : Fin 16) : roll4 x (lane k) = x (lane (k + 4 : Fin 16)) :=
  concat_lane 12 4 _ _ _ rfl x k (k + 4) (by rw [Fin.val_add]; rfl)
theorem roll2_lane (x : FVec Ideal S16 .f32) (k : Fin 16) : roll2 x (lane k) = x (lane (k + 2 : Fin 16)) :=
  concat_lane 14 2 _ _ _ rfl x k (k + 2) (by rw [Fin.val_add]; rfl)

theorem first_eq (x : FVec Ideal S16 .f32) : first x = x (lane (0 : Fin 16)) := by
  unfold first extractAt extractStridedSlice
  congr 1
  funext a; obtain rfl : a = 0 := Subsingleton.elim _ _
  rfl

theorem sum8_lane (x : FVec Ideal S16 .f32) (k : Fin 16) : sum8 x (lane k) = (x (lane k) + x (lane (k + 8 : Fin 16)) : EReal) := congrArg (x (lane k) + ·) (roll8_lane x k)
theorem sum4_lane (x : FVec Ideal S16 .f32) (k : Fin 16) : sum4 x (lane k) = (x (lane k) + x (lane (k + 4 : Fin 16)) : EReal) := congrArg (x (lane k) + ·) (roll4_lane x k)
theorem sum2_lane (x : FVec Ideal S16 .f32) (k : Fin 16) : sum2 x (lane k) = (x (lane k) + x (lane (k + 2 : Fin 16)) : EReal) := congrArg (x (lane k) + ·) (roll2_lane x k)
theorem sum1_lane (x : FVec Ideal S16 .f32) (k : Fin 16) : sum1 x (lane k) = (x (lane k) + x (lane (k + 1 : Fin 16)) : EReal) := congrArg (x (lane k) + ·) (roll_lane x k)
theorem max8_lane (x : FVec Ideal S16 .f32) (k : Fin 16) : max8 x (lane k) = (max (x (lane k)) (x (lane (k + 8 : Fin 16))) : EReal) := congrArg (max (x (lane k)) ·) (roll8_lane x k)
theorem max4_lane (x : FVec Ideal S16 .f32) (k : Fin 16) : max4 x (lane k) = (max (x (lane k)) (x (lane (k + 4 : Fin 16))) : EReal) := congrArg (max (x (lane k)) ·) (roll4_lane x k)
theorem max2_lane (x : FVec Ideal S16 .f32) (k : Fin 16) : max2 x (lane k) = (max (x (lane k)) (x (lane (k + 2 : Fin 16))) : EReal) := congrArg (max (x (lane k)) ·) (roll2_lane x k)
theorem max1_lane (x : FVec Ideal S16 .f32) (k : Fin 16) : max1 x (lane k) = (max (x (lane k)) (x (lane (k + 1 : Fin 16))) : EReal) := congrArg (max (x (lane k)) ·) (roll_lane x k)

theorem laneSum_eq (x : FVec Ideal S16 .f32) : laneSum x = ∑ k : Fin 16, (x (lane k) : EReal) := by
  unfold laneSum
  rw [first_eq, sum1_lane]
  simp only [sum2_lane, sum4_lane, sum8_lane]
  generalize hy : (fun k : Fin 16 => (x (lane k) : EReal)) = y
  have hy' : ∀ k : Fin 16, (x (lane k) : EReal) = y k := fun k => congrFun hy k
  simp only [hy']
  simp only [Fin.sum_univ_succ, Fin.sum_univ_zero]
  have e : ∀ (a b c d : Fin 16), (0 : Fin 16) + 1 = 1 := fun _ _ _ _ => rfl
  simp only [show ((0:Fin 16) + 1) = 1 from rfl, show ((0:Fin 16)+2) = 2 from rfl, show ((0:Fin 16)+4) = 4 from rfl, show ((0:Fin 16)+8) = 8 from rfl,
    show ((1:Fin 16)+2) = 3 from rfl, show ((1:Fin 16)+4) = 5 from rfl, show ((1:Fin 16)+8) = 9 from rfl,
    show ((2:Fin 16)+4) = 6 from rfl, show ((2:Fin 16)+8) = 10 from rfl, show ((3:Fin 16)+4) = 7 from rfl, show ((3:Fin 16)+8) = 11 from rfl,
    show ((4:Fin 16)+8) = 12 from rfl, show ((5:Fin 16)+8) = 13 from rfl, show ((6:Fin 16)+8) = 14 from rfl, show ((7:Fin 16)+8) = 15 from rfl]
  show _ = y 0 + (y 1 + (y 2 + (y 3 + (y 4 + (y 5 + (y 6 + (y 7 + (y 8 + (y 9 + (y 10 + (y 11 + (y 12 + (y 13 + (y 14 + (y 15 + 0)))))))))))))))
  abel

theorem laneMax_eq (x : FVec Ideal S16 .f32) (M : EReal) (h0 : (x (lane (0 : Fin 16)) : EReal) = M) (h : ∀ k : Fin 16, (x (lane k) : EReal) ≤ M) :
    laneMax x = M := by
  unfold laneMax
  rw [first_eq, max1_lane]
  simp only [max2_lane, max4_lane, max8_lane]
  rw [h0]
  refine le_antisymm ?_ ?_
  · simp only [max_le_iff]
    repeat' apply And.intro
    all_goals first | exact h _ | exact le_rfl
  · simp only [max_assoc]
    exact le_max_left _ _

/-! ## The weights -/

/-- The exponential of an expert's score above the greatest, and the softmax of the eight first. -/
def ew (k : Fin 8) : EReal := Ideal.exp (s (nth s (k.castLE (by omega))) - s (nth s 0))
def tot : EReal := ∑ k : Fin 8, ew s k
def wt (k : Fin 8) : EReal := Ideal.div (ew s k) (tot s)

theorem sum_low (y : Fin 16 → EReal) (h : ∀ k : Fin 16, ¬ k.val < 8 → y k = 0) : ∑ k, y k = ∑ k : Fin 8, y (k.castLE (by omega)) := by
  rw [Fin.sum_univ_add (a := 8) (b := 8) (f := y)]
  rw [Finset.sum_eq_zero (s := Finset.univ) (f := fun i : Fin 8 => y (Fin.natAdd 8 i)), add_zero]
  · rfl
  · intro i _
    exact h _ (by simp)

theorem low8_at (k : Fin 16) : low8 (lane k) = 1#1 ↔ k.val < 8 := by revert k; decide +kernel

theorem zero_lit : (Scalar.ofBits .f32 0x00000000#32 : Ideal .f32) = (0 : EReal) := Ideal.ofBits_zero_f32

theorem greatest (e : Fin 64) : s e ≤ s (nth s 0) := nth_zero_max s (by omega) e

theorem ewOf_lane {key : Vec Ideal S16 .f32} {val : IVec S16 32} {f : Fin 16 → Fin 64} (h : Holds s (key, val) f)
    (hf : ∀ k : Fin 8, f (k.castLE (by omega)) = nth s (k.castLE (by omega))) (k : Fin 16) :
    (ewOf (F := Ideal) low8 key (lane k) : EReal) = if hk : k.val < 8 then ew s ⟨k.val, hk⟩ else 0 := by
  have hm : laneMax (F := Ideal) key = s (nth s 0) := by
    refine laneMax_eq key _ ?_ fun j => ?_
    · exact (h 0).1.trans (congrArg s (hf 0))
    · exact ((h j).1).trans_le (greatest s _)
  have e : (ewOf (F := Ideal) low8 key (lane k) : EReal) = if low8 (lane k) = 1#1 then Ideal.exp (key (lane k) - laneMax (F := Ideal) key) else (Scalar.ofBits .f32 0x00000000#32 : Ideal .f32) := rfl
  rw [e, hm, zero_lit]
  by_cases q : k.val < 8
  · rw [if_pos ((low8_at k).mpr q), dif_pos q]
    have h1 : (key (lane k) : EReal) = s (nth s ⟨k.val, by omega⟩) := (h k).1.trans (congrArg s (hf ⟨k.val, q⟩))
    rw [h1]; rfl
  · rw [if_neg (fun w => q ((low8_at k).mp w)), dif_neg q]

theorem laneSum_ew {key : Vec Ideal S16 .f32} {val : IVec S16 32} {f : Fin 16 → Fin 64} (h : Holds s (key, val) f)
    (hf : ∀ k : Fin 8, f (k.castLE (by omega)) = nth s (k.castLE (by omega))) : laneSum (ewOf (F := Ideal) low8 key) = tot s := by
  rw [laneSum_eq, sum_low]
  · refine Finset.sum_congr rfl fun k _ => ?_
    exact (ewOf_lane s h hf (k.castLE (by omega))).trans (dif_pos k.isLt)
  · intro k hk
    rw [ewOf_lane s h hf, dif_neg hk]

theorem div_zero_top (x : EReal) (hx : x ≠ 0) : Ideal.div 0 x = 0 := by
  unfold Ideal.div
  rw [if_neg hx, zero_mul]

theorem exp_nonneg' (x : EReal) : 0 ≤ Ideal.exp x := by
  induction x with
  | bot => exact le_rfl
  | top => exact le_top
  | coe r => exact EReal.coe_nonneg.mpr (Real.exp_pos r).le

theorem wOf_lane {key : Vec Ideal S16 .f32} {val : IVec S16 32} {f : Fin 16 → Fin 64} (h : Holds s (key, val) f)
    (hf : ∀ k : Fin 8, f (k.castLE (by omega)) = nth s (k.castLE (by omega))) (k : Fin 16) :
    (wOf (ewOf (F := Ideal) low8 key) (lane k) : EReal) = if hk : k.val < 8 then wt s ⟨k.val, hk⟩ else Ideal.div 0 (tot s) := by
  have e : (wOf (ewOf (F := Ideal) low8 key) (lane k) : EReal) = Ideal.div (ewOf (F := Ideal) low8 key (lane k)) (laneSum (ewOf (F := Ideal) low8 key)) := rfl
  rw [e, laneSum_ew s h hf, ewOf_lane s h hf]
  by_cases q : k.val < 8
  · rw [dif_pos q, dif_pos q]; rfl
  · rw [dif_neg q, dif_neg q]

theorem laneSum_w {key : Vec Ideal S16 .f32} {val : IVec S16 32} {f : Fin 16 → Fin 64} (h : Holds s (key, val) f)
    (hf : ∀ k : Fin 8, f (k.castLE (by omega)) = nth s (k.castLE (by omega))) :
    laneSum (wOf (ewOf (F := Ideal) low8 key)) = ∑ k : Fin 8, wt s k := by
  rw [laneSum_eq]
  by_cases ht : tot s = 0
  · have h0 : ∀ k, ew s k = 0 := fun k => (Finset.sum_eq_zero_iff_of_nonneg fun k _ => exp_nonneg' _).mp ht k (Finset.mem_univ _)
    have hd : Ideal.div 0 0 = ⊥ := by unfold Ideal.div; rw [if_pos rfl, if_neg (lt_irrefl _)]
    have hw : ∀ k, wt s k = ⊥ := fun k => by unfold wt; rw [h0, ht, hd]
    rw [Fin.sum_univ_succ, Fin.sum_univ_succ (fun k => wt s k), hw 0]
    have : (wOf (ewOf (F := Ideal) low8 key) (lane (0 : Fin 16)) : EReal) = ⊥ := by
      rw [wOf_lane s h hf, dif_pos (by decide)]; exact hw _
    rw [this, EReal.bot_add, EReal.bot_add]
  · rw [sum_low]
    · refine Finset.sum_congr rfl fun k _ => ?_
      exact (wOf_lane s h hf (k.castLE (by omega))).trans (dif_pos k.isLt)
    · intro k hk
      rw [wOf_lane s h hf, dif_neg hk, div_zero_top _ ht]

/-! ## The outputs of a token -/

/-- A row with the eight values `v` at the eight first experts and `z` elsewhere. -/
def spot (v : Fin 8 → EReal) (z : EReal) (c : Fin 64) : EReal := if h : rank s c < 8 then v ⟨rank s c, h⟩ else z

theorem fold_one {ι α : Type} (P : ι → Prop) [DecidablePred P] (v : ι → α) (w : α) :
    ∀ (l : List ι) (z : α), (∀ k ∈ l, P k → v k = w) → (z = w ∨ ∃ k ∈ l, P k) → l.foldl (fun acc k => if P k then v k else acc) z = w
  | [], z, _, h => by
    rcases h with h | ⟨k, hk, _⟩
    · exact h
    · exact absurd hk List.not_mem_nil
  | k :: l, z, hv, h => by
    rw [List.foldl_cons]
    refine fold_one P v w l _ (fun k' hk' => hv k' (List.mem_cons_of_mem _ hk')) ?_
    by_cases q : P k
    · rw [if_pos q]; exact .inl (hv k List.mem_cons_self q)
    · rw [if_neg q]
      refine h.imp id fun ⟨k', hk', p⟩ => ?_
      rcases List.mem_cons.mp hk' with rfl | hk'
      · exact absurd p q
      · exact ⟨k', hk', p⟩

theorem fold_none {ι α : Type} (P : ι → Prop) [DecidablePred P] (v : ι → α) (l : List ι) (z : α) (h : ∀ k ∈ l, ¬ P k) :
    l.foldl (fun acc k => if P k then v k else acc) z = z := by
  induction l with
  | nil => rfl
  | cons k l ih =>
    rw [List.foldl_cons, if_neg (h k List.mem_cons_self)]
    exact ih fun k' hk' => h k' (List.mem_cons_of_mem _ hk')

/-- A fold that writes the values of the eight first experts at their places. -/
theorem fold_spot {ι : Type} (P : ι → Prop) [DecidablePred P] (u : ι → EReal) (v : Fin 8 → EReal) (z : EReal) (c : Fin 64) (l : List ι)
    (at8 : ι → Option (Fin 8)) (hP : ∀ i ∈ l, P i ↔ ∃ k, at8 i = some k ∧ nth s (k.castLE (by omega)) = c)
    (hu : ∀ i ∈ l, ∀ k, at8 i = some k → P i → u i = v k) (hall : ∀ k, nth s (k.castLE (by omega)) = c → ∃ i ∈ l, at8 i = some k) :
    l.foldl (fun acc i => if P i then u i else acc) z = spot s v z c := by
  unfold spot
  by_cases h : rank s c < 8
  · rw [dif_pos h]
    have hc : nth s ((⟨rank s c, h⟩ : Fin 8).castLE (by omega)) = c := (eq_nth s rfl).symm
    refine fold_one P u _ l z (fun i hi p => ?_) (.inr ?_)
    · obtain ⟨k, hk, hn⟩ := (hP i hi).mp p
      rw [hu i hi k hk p]
      congr 1
      refine Fin.ext ?_
      have := rank_nth s (k.castLE (by omega : 8 ≤ 64))
      rw [hn] at this
      exact this.symm
    · obtain ⟨i, hi, hk⟩ := hall _ hc
      exact ⟨i, hi, (hP i hi).mpr ⟨_, hk, hc⟩⟩
  · rw [dif_neg h]
    refine fold_none P u l z fun i hi p => h ?_
    obtain ⟨k, hk, hn⟩ := (hP i hi).mp p
    rw [← hn, rank_nth]
    exact k.isLt

theorem putRow_spot {key : Vec Ideal S16 .f32} {val : IVec S16 32} {f : Fin 16 → Fin 64} (h : Holds s (key, val) f)
    (hf : ∀ k : Fin 8, f (k.castLE (by omega)) = nth s (k.castLE (by omega))) (u : FVec Ideal S16 .f32) (v : Fin 8 → EReal) (z : EReal)
    (hu : ∀ k : Fin 8, (u (lane (k.castLE (by omega) : Fin 16)) : EReal) = v k) (c : Fin 64) :
    putRow (F := Ideal) val u low8 z c.val = spot s v z c := by
  unfold putRow
  refine fold_spot s (fun k : Fin 16 => low8 (lane k) = 1 ∧ (val (lane k)).toNat = c.val) (fun k => u (lane k)) v z c (List.finRange 16)
    (fun k => if h : k.val < 8 then some ⟨k.val, h⟩ else none) (fun i _ => ?_) (fun i _ k hk _ => ?_) fun k _ => ?_
  · have hv : val (lane i) = BitVec.ofNat 32 (f i).val := (h i).2
    rw [show (low8 (lane i) = 1) ↔ i.val < 8 from low8_at i, hv, BitVec.toNat_ofNat, Nat.mod_eq_of_lt (by have := (f i).isLt; omega)]
    constructor
    · rintro ⟨h1, h2⟩
      refine ⟨⟨i.val, h1⟩, dif_pos h1, ?_⟩
      rw [← hf]
      exact Fin.ext h2
    · rintro ⟨k, h1, h2⟩
      by_cases q : i.val < 8
      · rw [dif_pos q] at h1
        have := Option.some.inj h1
        subst this
        rw [← hf] at h2
        exact ⟨q, congrArg Fin.val h2⟩
      · rw [dif_neg q] at h1
        exact absurd h1 (by simp)
  · by_cases q : i.val < 8
    · rw [dif_pos q] at hk
      have := Option.some.inj hk
      subst this
      exact hu ⟨i.val, q⟩
    · rw [dif_neg q] at hk
      exact absurd hk (by simp)
  · exact ⟨k.castLE (by omega), List.mem_finRange _, dif_pos k.isLt⟩

/-- The small constant added before the logarithm. -/
def tiny : EReal := Ideal.ofBits .f32 0x3089705F#32

theorem bot_lit : (Scalar.ofBits .f32 0xFF800000#32 : Ideal .f32) = (⊥ : EReal) := by
  show Ideal.ofBits .f32 0xFF800000#32 = ⊥
  simp [Ideal.ofBits, Ideal.ieee]

theorem maskRow_eq (c : Fin 64) : maskRow (F := Ideal) s c.val = spot s (wt s) 0 c := by
  obtain ⟨f, h, hf⟩ := top_holds s
  unfold maskRow expertOf weightOf
  generalize top (quarter (F := Ideal) s 0) (quarter s 1) (quarter s 2) (quarter s 3) = tp at h ⊢
  obtain ⟨key, val⟩ := tp
  rw [zero_lit]
  refine putRow_spot s h hf _ _ _ (fun k => ?_) c
  exact (wOf_lane s h hf (k.castLE (by omega))).trans (dif_pos (show ((k.castLE (by omega) : Fin 16)).val < 8 from k.isLt))

theorem logRow_eq (c : Fin 64) : logRow (F := Ideal) s c.val = spot s (fun k => Ideal.log (wt s k + tiny)) ⊥ c := by
  obtain ⟨f, h, hf⟩ := top_holds s
  unfold logRow expertOf logWeightOf weightOf
  generalize top (quarter (F := Ideal) s 0) (quarter s 1) (quarter s 2) (quarter s 3) = tp at h ⊢
  obtain ⟨key, val⟩ := tp
  rw [bot_lit]
  refine putRow_spot s h hf _ _ _ (fun k => ?_) c
  have e := (wOf_lane s h hf (k.castLE (by omega))).trans (dif_pos (show ((k.castLE (by omega) : Fin 16)).val < 8 from k.isLt))
  exact congrArg (fun t => Ideal.log (t + tiny)) e

theorem sumRow_eq : sumRow (F := Ideal) s = ∑ k : Fin 8, wt s k := by
  obtain ⟨f, h, hf⟩ := top_holds s
  exact laneSum_w s h hf

end Cert.Proof.Router

end
-- ==== Proof.Mark.lean ====
/-
  The marked scores of one token as a function of its two rows of projections, and the two ways of measuring the gap between
  the two greatest probabilities, equal where the scores are real.
-/
module

public import proofs.«01_k».proof.Proof.Top

@[expose] public section

noncomputable section

namespace Cert.Proof.Router

open Idealize.ShloMosaic

/-! ## One row -/

/-- The real number a pattern denotes. -/
abbrev num (b : BitVec 32) : EReal := Ideal.ofBits .f32 b

/-- A row less its mean, its deviation, and the exponentials above its greatest. -/
def cen (X : Fin 64 → EReal) (e : Fin 64) : EReal := X e - (∑ k, X k) * num 0x3C800000#32
def dev (X : Fin 64 → EReal) : EReal := Ideal.sqrt ((∑ e, cen X e * cen X e) * ((63⁻¹ : ℝ) : EReal)) + num 0x358637BD#32
def ex (X : Fin 64 → EReal) (e : Fin 64) : EReal := Ideal.exp (X e - (Finset.univ : Finset (Fin 64)).fold max ⊥ X)
def exSum (X : Fin 64 → EReal) : EReal := ∑ e, ex X e

/-- The marked scores, of the gap `g` and the two rows. -/
def markRow (g : EReal) (X Y : Fin 64 → EReal) (e : Fin 64) : EReal :=
  X e + min (dev X * num 0x3FC00000#32) (max (num 0x00000000#32 - dev X * num 0x3FC00000#32)
    (Ideal.logistic (num 0x41200000#32 * (num 0x3E800000#32 - g)) * (num 0x3DCCCCCD#32 * dev X) * Ideal.div (cen Y e) (dev Y)))

/-- The gap as the kernel measures it, of the place it takes for the greatest. -/
def kgap (X : Fin 64 → EReal) (p : Fin 64) : EReal :=
  Ideal.div (num 0x3F800000#32 - (Finset.univ : Finset (Fin 64)).fold max ⊥ (fun e => if e = p then num 0xBF800000#32 else ex X e)) (exSum X)
/-- The gap as the reference measures it: the difference of the two greatest probabilities. -/
def prob (X : Fin 64 → EReal) (e : Fin 64) : EReal := Ideal.div (ex X e) (exSum X)
def rgap (X : Fin 64 → EReal) : EReal := prob X (nth (prob X) 0) - prob X (nth (prob X) 1)

/-! ## Numbers -/

theorem num_64 : num 0x42800000#32 = ((64 : ℝ) : EReal) := by
  simp [Ideal.ofBits, Ideal.ieee, -EReal.coe_mul]; norm_num
theorem num_inv64 : num 0x3C800000#32 = ((64⁻¹ : ℝ) : EReal) := by
  simp [Ideal.ofBits, Ideal.ieee, -EReal.coe_mul]; norm_num
theorem num_1 : num 0x3F800000#32 = ((1 : ℝ) : EReal) := Ideal.ofBits_one_f32
theorem num_0 : num 0x00000000#32 = (0 : EReal) := Ideal.ofBits_zero_f32
theorem num_neg1 : num 0xBF800000#32 = ((-1 : ℝ) : EReal) := by
  simp [Ideal.ofBits, Ideal.ieee, -EReal.coe_mul, -EReal.coe_neg]; norm_num

theorem div_coe (s : EReal) (r : ℝ) (hr : r ≠ 0) : Ideal.div s (r : EReal) = s * ((r⁻¹ : ℝ) : EReal) := by
  unfold Ideal.div
  rw [if_neg (by exact_mod_cast hr), EReal.coe_inv]

theorem div_64 (s : EReal) : Ideal.div s (num 0x42800000#32) = s * num 0x3C800000#32 := by
  rw [num_64, num_inv64, div_coe _ _ (by norm_num)]

/-! ## Order -/

section
variable {n : ℕ}

theorem rank_same {s s' : Fin n → EReal} (h : ∀ a b, s b < s a ↔ s' b < s' a) (e : Fin n) : rank s e = rank s' e := by
  have he : ∀ a b, s a = s b ↔ s' a = s' b := fun a b => by
    constructor
    · intro q
      rcases lt_trichotomy (s' a) (s' b) with w | w | w
      · exact absurd q ((h b a).mpr w).ne
      · exact w
      · exact absurd q ((h a b).mpr w).ne'
    · intro q
      rcases lt_trichotomy (s a) (s b) with w | w | w
      · exact absurd q ((h b a).mp w).ne
      · exact w
      · exact absurd q ((h a b).mp w).ne'
  unfold rank
  congr 1
  refine Finset.filter_congr fun a _ => ?_
  rw [ord_lt, ord_lt, h, he]

theorem nth_same {s s' : Fin n → EReal} (h : ∀ a b, s b < s a ↔ s' b < s' a) (k : Fin n) : nth s k = nth s' k :=
  eq_nth s' ((rank_same h _).symm.trans (rank_nth s k))
end

theorem second_max (s : Fin 64 → EReal) (e : Fin 64) (he : e ≠ nth s 0) : s e ≤ s (nth s 1) := by
  by_contra q
  have h1 : ord s e < ord s (nth s 1) := (ord_lt s _ _).mpr (.inl (not_le.mp q))
  have h2 := rank_lt_rank s h1
  rw [rank_nth] at h2
  exact he (eq_nth s (by have : ((1 : Fin 64)).val = 1 := rfl; have : ((0 : Fin 64)).val = 0 := rfl; omega))

theorem nth_ne (s : Fin 64 → EReal) : nth s 1 ≠ nth s 0 := fun h => by
  have := nth_inj s h
  exact absurd this (by decide)

theorem fold_max_eq (s : Fin 64 → EReal) (p : Fin 64) (h : ∀ e, s e ≤ s p) : (Finset.univ : Finset (Fin 64)).fold max ⊥ s = s p :=
  le_antisymm ((Finset.fold_max_le _).mpr ⟨bot_le, fun e _ => h e⟩) ((Finset.le_fold_max _).mpr (.inr ⟨p, Finset.mem_univ _, le_rfl⟩))

/-! ## The gap -/

section
variable (x : Fin 64 → ℝ)

/-- The row of reals among the extended reals. -/
abbrev up : Fin 64 → EReal := fun e => (x e : EReal)

theorem ex_real (e : Fin 64) : ex (up x) e = ((Real.exp (x e - x (nth (up x) 0)) : ℝ) : EReal) := by
  unfold ex
  rw [fold_max_eq (up x) (nth (up x) 0) (greatest (up x))]
  show Ideal.exp ((x e : EReal) - (x (nth (up x) 0) : EReal)) = _
  rw [← EReal.coe_sub]
  rfl

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem exSum_real : exSum (up x) = ((∑ e, Real.exp (x e - x (nth (up x) 0)) : ℝ) : EReal) := by
  unfold exSum
  rw [coe_sum]
  exact Finset.sum_congr rfl fun e _ => ex_real x e

theorem exSum_pos : 0 < ∑ e, Real.exp (x e - x (nth (up x) 0)) := Finset.sum_pos (fun e _ => Real.exp_pos _) ⟨0, Finset.mem_univ _⟩

theorem prob_real (e : Fin 64) : prob (up x) e = ((Real.exp (x e - x (nth (up x) 0)) * (∑ e, Real.exp (x e - x (nth (up x) 0)))⁻¹ : ℝ) : EReal) := by
  unfold prob
  rw [ex_real, exSum_real, div_coe _ _ (exSum_pos x).ne', EReal.coe_mul]

theorem prob_lt (a b : Fin 64) : prob (up x) b < prob (up x) a ↔ up x b < up x a := by
  rw [prob_real, prob_real, EReal.coe_lt_coe_iff, EReal.coe_lt_coe_iff, mul_lt_mul_iff_left₀ (inv_pos.mpr (exSum_pos x)), Real.exp_lt_exp, sub_lt_sub_iff_right]

/-- Where the exponential is one is where the score is greatest. -/
theorem ex_one (e : Fin 64) : ex (up x) e = num 0x3F800000#32 ↔ x e = x (nth (up x) 0) := by
  rw [ex_real, num_1, EReal.coe_eq_coe_iff, Real.exp_eq_one_iff, sub_eq_zero]

theorem ex_le (a b : Fin 64) (h : up x a ≤ up x b) : ex (up x) a ≤ ex (up x) b := by
  rw [ex_real, ex_real, EReal.coe_le_coe_iff, Real.exp_le_exp]
  have := EReal.coe_le_coe_iff.mp h
  linarith

theorem gap_eq : kgap (up x) (nth (up x) 0) = rgap (up x) := by
  have h2 : (Finset.univ : Finset (Fin 64)).fold max ⊥ (fun e => if e = nth (up x) 0 then num 0xBF800000#32 else ex (up x) e) = ex (up x) (nth (up x) 1) := by
    refine (fold_max_eq _ (nth (up x) 1) fun e => ?_).trans (if_neg (nth_ne _))
    show (if e = nth (up x) 0 then num 0xBF800000#32 else ex (up x) e) ≤ if nth (up x) 1 = nth (up x) 0 then num 0xBF800000#32 else ex (up x) (nth (up x) 1)
    rw [if_neg (nth_ne _)]
    by_cases q : e = nth (up x) 0
    · rw [if_pos q, num_neg1, ex_real, EReal.coe_le_coe_iff]
      have := Real.exp_pos (x (nth (up x) 1) - x (nth (up x) 0))
      linarith
    · rw [if_neg q]
      exact ex_le x _ _ (second_max (up x) e q)
  unfold kgap rgap
  rw [h2, nth_same (fun a b => prob_lt x a b), nth_same (fun a b => prob_lt x a b), prob_real, prob_real, ex_real, exSum_real, num_1, div_coe _ _ (exSum_pos x).ne',
    ← EReal.coe_sub, ← EReal.coe_sub, ← EReal.coe_mul, EReal.coe_eq_coe_iff]
  rw [sub_self, Real.exp_zero]
  ring
end

end Cert.Proof.Router

end
-- ==== Proof.KernHead.lean ====
/-
  The kernel's marked scores, read at one token and one expert, are the function of Mark.lean of the token's two rows of
  projections.
-/
module

public import proofs.«01_k».proof.Proof.Mark
public import proofs.«01_k».proof.Proof.TcBody
public import Idealize.ShloMosaic.Lib.Pointwise

@[expose] public section

noncomputable section

namespace Cert.Proof.Router

open Cert.KernelIdeal Cert.KernelIdeal.Gen
open Idealize.ShloMosaic

/-- One column of a block. -/
def colOf (x : FVec Ideal S64x512 .f32) (c : Fin 512) : Fin 64 → EReal := fun e => x (ix2 e c)

theorem colSum_at (x : FVec Ideal S64x512 .f32) (c : Fin 512) : (colSum x (ix2 0 c) : EReal) = ∑ e, colOf x c e := by
  unfold colSum
  simp [pointwise]
  rfl

theorem colMax_at (x : FVec Ideal S64x512 .f32) (c : Fin 512) : (colMax x (ix2 0 c) : EReal) = (Finset.univ : Finset (Fin 64)).fold max ⊥ (colOf x c) := by
  unfold colMax
  simp [pointwise]
  rw [show Ideal.ofBits .f32 0xFF800000#32 = ⊥ from bot_lit]
  rfl

theorem spread_at (v : FVec Ideal S1x512 .f32) (e : Fin 64) (c : Fin 512) : spread v (ix2 e c) = v (ix2 0 c) := by
  unfold spread
  simp [pointwise]

theorem centred_at (x : FVec Ideal S64x512 .f32) (e : Fin 64) (c : Fin 512) : (centred x (ix2 e c) : EReal) = cen (colOf x c) e := by
  have h : (centred x (ix2 e c) : EReal) = x (ix2 e c) - spread (mulf (colSum x) (lit 0x3C800000#32)) (ix2 e c) := rfl
  rw [h, spread_at]
  have h2 : (mulf (colSum x) (lit 0x3C800000#32) (ix2 0 c) : EReal) = colSum x (ix2 0 c) * num 0x3C800000#32 := rfl
  rw [h2, colSum_at]
  rfl

theorem devOf_at (x : FVec Ideal S64x512 .f32) (c : Fin 512) : (devOf x (ix2 0 c) : EReal) = dev (colOf x c) := by
  have h : (devOf x (ix2 0 c) : EReal) = Ideal.sqrt (colSum (mulf (centred x) (centred x)) (ix2 0 c) * Named.named (F := Ideal) (φ := .f32) κ "inv_em1" 0x3C820821#32) + num 0x358637BD#32 := rfl
  have hn : (Named.named (F := Ideal) (φ := .f32) κ "inv_em1" 0x3C820821#32 : EReal) = ((63⁻¹ : ℝ) : EReal) := rfl
  rw [h, hn, colSum_at]
  unfold dev
  congr 3
  refine Finset.sum_congr rfl fun e _ => ?_
  show (centred x (ix2 e c) : EReal) * centred x (ix2 e c) = _
  rw [centred_at]

theorem expOf_at (x : FVec Ideal S64x512 .f32) (e : Fin 64) (c : Fin 512) : (expOf x (ix2 e c) : EReal) = ex (colOf x c) e := by
  have h : (expOf x (ix2 e c) : EReal) = Ideal.exp (x (ix2 e c) - spread (colMax x) (ix2 e c)) := rfl
  rw [h, spread_at, colMax_at]
  rfl

theorem col_exp (x : FVec Ideal S64x512 .f32) (c : Fin 512) : colOf (expOf x) c = ex (colOf x c) := funext fun e => expOf_at x e c

/-! ## The first expert whose exponential is one -/

theorem minsi_int (a b : BitVec 32) : (IntOp.minsi a b).toInt = min a.toInt b.toInt := by
  unfold IntOp.minsi
  by_cases h : a.slt b = true
  · rw [if_pos h]
    have := BitVec.slt_iff_toInt_lt.mp h
    omega
  · rw [if_neg h]
    have : ¬ a.toInt < b.toInt := fun w => h (BitVec.slt_iff_toInt_lt.mpr w)
    omega

theorem small_int (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem fold_min_first (P : Fin 64 → Prop) [DecidablePred P] (p : Fin 64) (hp : P p) (hf : ∀ e, P e → p ≤ e) :
    (Finset.univ : Finset (Fin 64)).fold IntOp.minsi 2147483647#32 (fun e => if P e then BitVec.ofNat 32 e.val else 64#32) = BitVec.ofNat 32 p.val := by
  refine BitVec.eq_of_toInt_eq ?_
  have h := (Finset.fold_hom (op := IntOp.minsi) (op' := min) (m := BitVec.toInt) (b := 2147483647#32)
    (f := fun e : Fin 64 => if P e then BitVec.ofNat 32 e.val else 64#32) (s := Finset.univ) (fun a b => (minsi_int a b))).symm
  have hb : (2147483647#32).toInt = 2147483647 := rfl
  rw [h, hb, small_int p.val (by have := p.isLt; omega)]
  have hv : ∀ e : Fin 64, (if P e then BitVec.ofNat 32 e.val else 64#32).toInt = if P e then (e.val : ℤ) else 64 := fun e => by
    split
    · exact small_int _ (by have := e.isLt; omega)
    · rfl
  simp only [hv]
  have hpl := p.isLt
  refine le_antisymm ((Finset.fold_min_le _).mpr (.inr ⟨p, Finset.mem_univ _, by rw [if_pos hp]⟩)) ((Finset.le_fold_min _).mpr ⟨by omega, fun e _ => ?_⟩)
  split
  · next q => have : p.val ≤ e.val := hf e q; omega
  · omega

theorem peakOf_at (X : FVec Ideal S64x512 .f32) (c : Fin 512) (p : Fin 64) (hp : colOf X c p = num 0x3F800000#32)
    (hf : ∀ e, colOf X c e = num 0x3F800000#32 → p ≤ e) : peakOf X (ix2 0 c) = BitVec.ofNat 32 p.val := by
  have h := fold_min_first (fun e => colOf X c e = num 0x3F800000#32) p hp hf
  unfold peakOf
  simp [pointwise]
  refine Eq.trans (congrArg (fun f => (Finset.univ : Finset (Fin 64)).fold IntOp.minsi 2147483647#32 f) (funext fun e => ?_)) h
  have he : expertIx (ix2 e c) = BitVec.ofNat 32 e.val := by
    unfold expertIx
    simp [pointwise]
  rw [he]
  rfl

theorem expert_eq (e p : Fin 64) : IntOp.cmpi .eq (BitVec.ofNat 32 e.val) (BitVec.ofNat 32 p.val) = 1#1 ↔ e = p := by
  have h : IntOp.cmpi .eq (BitVec.ofNat 32 e.val) (BitVec.ofNat 32 p.val) = 1#1 ↔ BitVec.ofNat 32 e.val = BitVec.ofNat 32 p.val := by
    unfold IntOp.cmpi
    by_cases q : BitVec.ofNat 32 e.val = BitVec.ofNat 32 p.val
    · simp [q]
    · refine ⟨fun w => absurd w ?_, fun w => absurd w q⟩
      simp only [beq_eq_false_iff_ne.mpr q]
      exact (by decide : ¬ BitVec.ofBool false = 1#1)
  rw [h]
  refine ⟨fun q => Fin.ext ?_, fun q => by rw [q]⟩
  have := congrArg BitVec.toInt q
  rw [small_int _ (by have := e.isLt; omega), small_int _ (by have := p.isLt; omega)] at this
  exact_mod_cast this

theorem secondOf_at (X : FVec Ideal S64x512 .f32) (c : Fin 512) (p : Fin 64) (hp : peakOf X (ix2 0 c) = BitVec.ofNat 32 p.val) :
    (secondOf X (ix2 0 c) : EReal) = (Finset.univ : Finset (Fin 64)).fold max ⊥ (fun e => if e = p then num 0xBF800000#32 else colOf X c e) := by
  unfold secondOf
  rw [colMax_at]
  refine congrArg (fun f : Fin 64 → EReal => (Finset.univ : Finset (Fin 64)).fold max ⊥ f) (funext fun e => ?_)
  have he : expertIx (ix2 e c) = BitVec.ofNat 32 e.val := by
    unfold expertIx
    simp [pointwise]
  have hb : broadcastTo S64x512 (peakOf X) broadcasts_S1x512_S64x512 (ix2 e c) = peakOf X (ix2 0 c) := by
    simp [pointwise]
  have h : (colOf (select (cmpi .eq expertIx (broadcastTo S64x512 (peakOf X) broadcasts_S1x512_S64x512)) (litAll 0xBF800000#32) X) c e : EReal)
      = if IntOp.cmpi .eq (expertIx (ix2 e c)) (broadcastTo S64x512 (peakOf X) broadcasts_S1x512_S64x512 (ix2 e c)) = 1#1 then num 0xBF800000#32 else colOf X c e := rfl
  rw [h, he, hb, hp]
  by_cases q : e = p
  · rw [if_pos ((expert_eq e p).mpr q), if_pos q]
  · rw [if_neg (fun w => q ((expert_eq e p).mp w)), if_neg q]

/-! ## The marked scores -/

theorem gapOf_at (x : FVec Ideal S64x512 .f32) (c : Fin 512) (p : Fin 64) (hp : ex (colOf x c) p = num 0x3F800000#32)
    (hf : ∀ e, ex (colOf x c) e = num 0x3F800000#32 → p ≤ e) : (gapOf (expOf x) (ix2 0 c) : EReal) = kgap (colOf x c) p := by
  have h : (gapOf (expOf x) (ix2 0 c) : EReal) = Ideal.div (num 0x3F800000#32 - secondOf (expOf x) (ix2 0 c)) (colSum (expOf x) (ix2 0 c)) := rfl
  rw [h, colSum_at, secondOf_at (expOf x) c p (peakOf_at (expOf x) c p (by rw [col_exp]; exact hp) (by rw [col_exp]; exact hf)), col_exp]
  rfl

theorem marked_at (x y : FVec Ideal S64x512 .f32) (e : Fin 64) (c : Fin 512) (p : Fin 64) (hp : ex (colOf x c) p = num 0x3F800000#32)
    (hf : ∀ e, ex (colOf x c) e = num 0x3F800000#32 → p ≤ e) :
    (marked x y (ix2 e c) : EReal) = markRow (kgap (colOf x c) p) (colOf x c) (colOf y c) e := by
  have h : (marked x y (ix2 e c) : EReal) = x (ix2 e c) + min (spread (limitOf x) (ix2 e c)) (max (spread (subf (lit 0x00000000#32) (limitOf x)) (ix2 e c)) (markOf x y (ix2 e c))) := rfl
  have hl : (limitOf x (ix2 0 c) : EReal) = devOf x (ix2 0 c) * num 0x3FC00000#32 := rfl
  have hz : (subf (lit 0x00000000#32) (limitOf x) (ix2 0 c) : EReal) = num 0x00000000#32 - limitOf x (ix2 0 c) := rfl
  have hm : (markOf x y (ix2 e c) : EReal) = spread (mulf (strengthOf (expOf x)) (mulf (lit 0x3DCCCCCD#32) (devOf x))) (ix2 e c) * Ideal.div (centred y (ix2 e c)) (spread (devOf y) (ix2 e c)) := rfl
  have hs : (mulf (strengthOf (expOf x)) (mulf (lit 0x3DCCCCCD#32) (devOf x)) (ix2 0 c) : EReal)
      = Ideal.logistic (num 0x41200000#32 * (num 0x3E800000#32 - gapOf (expOf x) (ix2 0 c))) * (num 0x3DCCCCCD#32 * devOf x (ix2 0 c)) := rfl
  rw [h, hm, spread_at, spread_at, spread_at, spread_at, hz, hl, hs, gapOf_at x c p hp hf, devOf_at, devOf_at, centred_at]
  rfl

/-! ## The projections -/

theorem project_at (h : FVec Ideal S512x4096 .f32) (w : FVec Ideal S4096x128 .f32) (r : Fin 128) (c : Fin 512) :
    (project h w (ix2 r c) : EReal) = ∑ k : Fin 4096, (w (ix2 k r) : EReal) * h (ix2 c k) := by
  unfold project
  simp [pointwise]

theorem blockOut_at (h : FVec Ideal S512x4096 .f32) (w : FVec Ideal S4096x128 .f32) (c : Fin 512) (e : Fin 64) :
    blockOut h w (ix2 c e) = marked (extractStridedSlice S64x512 ![0, 0] (project h w) slices_S128x512_o0_0_S64x512)
    (extractStridedSlice S64x512 ![64, 0] (project h w) slices_S128x512_o64_0_S64x512) (ix2 e c) := by
  unfold blockOut
  simp [pointwise]

theorem upper_at (h : FVec Ideal S512x4096 .f32) (w : FVec Ideal S4096x128 .f32) (c : Fin 512) (e : Fin 64) :
    colOf (extractStridedSlice S64x512 ![0, 0] (project h w) slices_S128x512_o0_0_S64x512) c e = project h w (ix2 ⟨e.val, by omega⟩ c) := by
  unfold colOf
  simp [pointwise]
theorem lower_at (h : FVec Ideal S512x4096 .f32) (w : FVec Ideal S4096x128 .f32) (c : Fin 512) (e : Fin 64) :
    colOf (extractStridedSlice S64x512 ![64, 0] (project h w) slices_S128x512_o64_0_S64x512) c e = project h w (ix2 ⟨64 + e.val, by omega⟩ c) := by
  unfold colOf
  simp [pointwise]

end Cert.Proof.Router

end
-- ==== Proof.RefTail.lean ====
/-
  The reference's routing of its final scores: the eight first experts of each token, the softmax of their scores in their
  places, its sum, and its logarithms.
-/
module

public import proofs.«01_k».proof.Proof.Top
public import proofs.«01_k».proof.Proof.Gen.ReferenceIdeal.Run
public import Idealize.ShloMosaic.Lib.Routing.OpsSet
public import Idealize.ShloMosaic.Lib.Routing.OpsPair
public import Idealize.ShloMosaic.Lib.Pointwise
public import Idealize.ShloMosaic.Lib.Pointwise.Reduce

@[expose] public section

noncomputable section

namespace Cert.Proof.Router

open Cert.ReferenceIdeal Cert.ReferenceIdeal.Gen Cert.ReferenceIdeal.Value
open Idealize.ShloMosaic

/-- The scores of token `t` of batch `b`. -/
def scoresAt (x : FVec Ideal S4x2048x64 .f32) (b : Fin 4) (t : Fin 2048) : Fin 64 → EReal := fun e => x (ix3 b t e)

theorem gt_bit (x y : EReal) : (((FloatOps.cmpfTotal (F := Ideal) (φ := .f32) .gt x y : BitVec 1) == 1#1) = true) ↔ y < x := by
  rw [beq_iff_eq]
  exact bit_of (y < x)

attribute [local irreducible] sortedFrom in
theorem topK_at {K : ℕ} (hK : K ≤ 64) (x : FVec Ideal S4x2048x64 .f32) (h : S4x2048x64.Slices (fun _ => 0) ⟨3, ![4, 2048, K]⟩) (b : Fin 4) (t : Fin 2048) (k : Fin K) :
    (Host.topK ⟨3, ![4, 2048, K]⟩ 2 (FloatOps.cmpfTotal .gt) x h).1 (ix3 b t k) = scoresAt x b t (nth (scoresAt x b t) (k.castLE hK))
    ∧ (Host.topK ⟨3, ![4, 2048, K]⟩ 2 (FloatOps.cmpfTotal .gt) x h).2 (ix3 b t k) = BitVec.ofNat 32 (nth (scoresAt x b t) (k.castLE hK)).val := by
  have hd : 2 < S4x2048x64.rank := by decide
  have hj : (fun a => ⟨0 + ((ix3 b t k : Shape.Idx ⟨3, ![4, 2048, K]⟩) (a.cast h.1.symm)).val, Nat.lt_of_lt_of_le (Nat.add_lt_add_left ((ix3 b t k : Shape.Idx ⟨3, ![4, 2048, K]⟩) _).isLt _) (h.2 a)⟩ : S4x2048x64.Idx)
      = ix3 b t (k.castLE hK) := by
    funext a
    match a with
    | ⟨0, _⟩ => exact Fin.ext (Nat.zero_add _)
    | ⟨1, _⟩ => exact Fin.ext (Nat.zero_add _)
    | ⟨2, _⟩ => exact Fin.ext (Nat.zero_add _)
  have hal : ∀ (k' : Fin 64) (e : Fin 64), (ix3 b t k' : S4x2048x64.Idx).along ⟨2, hd⟩ e = ix3 b t e := fun k' e => by
    unfold Shape.Idx.along
    funext a
    match a with
    | ⟨0, _⟩ => rfl
    | ⟨1, _⟩ => rfl
    | ⟨2, _⟩ => rfl
  unfold Host.topK Host.sort2 extractStridedSlice
  simp only [dif_pos hd]
  rw [hj]
  have hs : ∀ p : Fin 64, p = k.castLE hK → sortedFrom (fun e e' : Fin 64 => FloatOps.cmpfTotal (F := Ideal) (φ := .f32) .gt (x ((ix3 b t (k.castLE hK) : S4x2048x64.Idx).along ⟨2, hd⟩ e)) (x ((ix3 b t (k.castLE hK) : S4x2048x64.Idx).along ⟨2, hd⟩ e')) == 1#1) p
      = nth (scoresAt x b t) (k.castLE hK) := by
    rintro p rfl
    refine sortedFrom_nth (scoresAt x b t) _ (fun a c => ?_) _
    rw [hal, hal]
    exact gt_bit _ _
  have aux : ∀ p q : Fin 64, p = q → x ((ix3 b t (k.castLE hK) : S4x2048x64.Idx).along ⟨2, hd⟩ p) = scoresAt x b t q
      ∧ iotaInDim S4x2048x64 32 ⟨2, hd⟩ ((ix3 b t (k.castLE hK) : S4x2048x64.Idx).along ⟨2, hd⟩ p) = BitVec.ofNat 32 q.val := by
    rintro p q rfl
    rw [hal]
    exact ⟨rfl, rfl⟩
  exact aux _ _ (hs _ (Fin.ext (Nat.zero_add _)))

/-- The greatest of eight values the first of which is the greatest. -/
theorem fold_max_first (y : Fin 8 → EReal) (h : ∀ k, y k ≤ y 0) : (Finset.univ : Finset (Fin 8)).fold max ⊥ y = y 0 := by
  refine le_antisymm ((Finset.fold_max_le _).mpr ⟨bot_le, fun k _ => h k⟩) ((Finset.le_fold_max _).mpr (.inr ⟨0, Finset.mem_univ _, le_rfl⟩))

variable (V0 : Valuation τ sig (Elt Ideal))

theorem ref_values (b : Fin 4) (t : Fin 2048) (k : Fin 8) :
    res_main_values_13 V0 (ix3 b t k) = scoresAt (res_main_v52 V0) b t (nth (scoresAt (res_main_v52 V0) b t) (k.castLE (by omega))) :=
  (topK_at (by omega) (res_main_v52 V0) _ b t k).1
theorem ref_indices (b : Fin 4) (t : Fin 2048) (k : Fin 8) :
    res_main_indices_14 V0 (ix3 b t k) = BitVec.ofNat 32 (nth (scoresAt (res_main_v52 V0) b t) (k.castLE (by omega))).val :=
  (topK_at (by omega) (res_main_v52 V0) _ b t k).2

/-! ## Reading a row -/

theorem max_last {n : ℕ} (x : FVec Ideal ⟨3, ![4, 2048, n]⟩ .f32) (h : (⟨3, ![4, 2048, n]⟩ : Shape).ReducesTo [2] S4x2048) (hu : 0 < S_.numel) (b : Fin 4) (t : Fin 2048) :
    Host.reduce FloatOps.maximumf x (constant S_ .f32 0xFF800000#32) h hu (ix2 b t) = (Finset.univ : Finset (Fin n)).fold max ⊥ (fun k : Fin n => (x (ix3 b t k) : EReal)) := by
  simp only [pointwise]
  rw [show Ideal.ofBits .f32 0xFF800000#32 = ⊥ from bot_lit]

theorem sum_last {n : ℕ} (x : FVec Ideal ⟨3, ![4, 2048, n]⟩ .f32) (h : (⟨3, ![4, 2048, n]⟩ : Shape).ReducesTo [2] S4x2048) (hu : 0 < S_.numel) (b : Fin 4) (t : Fin 2048) :
    Host.reduceAdd x (constant S_ .f32 0x00000000#32) h hu (ix2 b t) = ∑ k : Fin n, (x (ix3 b t k) : EReal) := by
  simp only [pointwise, zero_add]

theorem one_col {α : Type} (x : S4x2048.Idx → α) (h : S4x2048.BroadcastsInDim S4x2048x1 ![0, 1]) (b : Fin 4) (t : Fin 2048) (o : Fin 1) :
    broadcastInDim S4x2048x1 ![0, 1] h x (ix3 b t o) = x (ix2 b t) := by
  simp [pointwise]

theorem all_cols {α : Type} {n : ℕ} (x : S4x2048x1.Idx → α) (h : S4x2048x1.BroadcastsInDim ⟨3, ![4, 2048, n]⟩ ![0, 1, 2]) (b : Fin 4) (t : Fin 2048) (k : Fin n) :
    broadcastInDim ⟨3, ![4, 2048, n]⟩ ![0, 1, 2] h x (ix3 b t k) = x (ix3 b t 0) := by
  simp [pointwise]

/-- The exponentials of a row above its greatest. -/
theorem exp_row {n : ℕ} (x : FVec Ideal ⟨3, ![4, 2048, n]⟩ .f32) (h : (⟨3, ![4, 2048, n]⟩ : Shape).ReducesTo [2] S4x2048) (hu : 0 < S_.numel)
    (hb : S4x2048x1.BroadcastsInDim ⟨3, ![4, 2048, n]⟩ ![0, 1, 2]) (h1 : S4x2048.BroadcastsInDim S4x2048x1 ![0, 1]) (h0 : S_.BroadcastsInDim S4x2048 ![])
    (b : Fin 4) (t : Fin 2048) (k : Fin n) :
    (Host.exp (subf x (broadcastInDim ⟨3, ![4, 2048, n]⟩ ![0, 1, 2] hb (broadcastInDim S4x2048x1 ![0, 1] h1
      (maximumf (broadcastInDim S4x2048 ![] h0 (constant S_ .f32 0xFF800000#32)) (Host.reduce FloatOps.maximumf x (constant S_ .f32 0xFF800000#32) h hu))))) (ix3 b t k) : EReal)
      = Ideal.exp ((x (ix3 b t k) : EReal) - (Finset.univ : Finset (Fin n)).fold max ⊥ (fun k : Fin n => (x (ix3 b t k) : EReal))) := by
  refine congrArg Ideal.exp (congrArg ((x (ix3 b t k) : EReal) - ·) ?_)
  refine (all_cols _ hb b t k).trans ((one_col _ h1 b t 0).trans ?_)
  have e : (maximumf (broadcastInDim S4x2048 ![] h0 (constant S_ .f32 0xFF800000#32)) (Host.reduce FloatOps.maximumf x (constant S_ .f32 0xFF800000#32) h hu) (ix2 b t) : EReal)
      = max (Ideal.ofBits .f32 0xFF800000#32) (Host.reduce FloatOps.maximumf x (constant S_ .f32 0xFF800000#32) h hu (ix2 b t)) := rfl
  rw [e, show Ideal.ofBits .f32 0xFF800000#32 = ⊥ from bot_lit]
  exact (max_bot_left _).trans (max_last x h hu b t)

theorem divf_at {s : Shape} (x y : FVec Ideal s .f32) (j : s.Idx) : (Host.divf x y j : EReal) = Ideal.div (x j) (y j) := rfl

/-- A row over its sum. -/
theorem div_row {n : ℕ} (x : FVec Ideal ⟨3, ![4, 2048, n]⟩ .f32) (h : (⟨3, ![4, 2048, n]⟩ : Shape).ReducesTo [2] S4x2048) (hu : 0 < S_.numel)
    (hb : S4x2048x1.BroadcastsInDim ⟨3, ![4, 2048, n]⟩ ![0, 1, 2]) (h1 : S4x2048.BroadcastsInDim S4x2048x1 ![0, 1]) (b : Fin 4) (t : Fin 2048) (k : Fin n) :
    (Host.divf x (broadcastInDim ⟨3, ![4, 2048, n]⟩ ![0, 1, 2] hb (broadcastInDim S4x2048x1 ![0, 1] h1 (Host.reduceAdd x (constant S_ .f32 0x00000000#32) h hu))) (ix3 b t k) : EReal)
      = Ideal.div (x (ix3 b t k)) (∑ k : Fin n, (x (ix3 b t k) : EReal)) := by
  refine (divf_at x _ _).trans (congrArg (fun z : EReal => Ideal.div (x (ix3 b t k)) z) ?_)
  exact (all_cols _ hb b t k).trans ((one_col _ h1 b t 0).trans (sum_last x h hu b t))

theorem ref_exp (b : Fin 4) (t : Fin 2048) (k : Fin 8) : (res_main_v59 V0 (ix3 b t k) : EReal) = ew (scoresAt (res_main_v52 V0) b t) k := by
  unfold res_main_v59
  refine (exp_row (n := 8) (res_main_values_13 V0) _ _ _ _ _ b t k).trans ?_
  unfold ew
  have hv : ∀ k : Fin 8, (res_main_values_13 V0 (ix3 b t k) : EReal) = scoresAt (res_main_v52 V0) b t (nth (scoresAt (res_main_v52 V0) b t) (k.castLE (by omega))) := ref_values V0 b t
  refine congrArg Ideal.exp (congrArg₂ (fun p q : EReal => p - q) (hv k) ?_)
  have hv' : (fun k : Fin 8 => (res_main_values_13 V0 (ix3 b t k) : EReal)) = fun k : Fin 8 => scoresAt (res_main_v52 V0) b t (nth (scoresAt (res_main_v52 V0) b t) (k.castLE (by omega))) := funext hv
  rw [hv']
  exact fold_max_first _ fun j => greatest _ _

theorem ref_weight (b : Fin 4) (t : Fin 2048) (k : Fin 8) : (res_main_v63 V0 (ix3 b t k) : EReal) = wt (scoresAt (res_main_v52 V0) b t) k := by
  unfold res_main_v63
  refine (div_row (n := 8) (res_main_v59 V0) _ _ _ _ b t k).trans ?_
  unfold wt tot
  exact congrArg₂ Ideal.div (ref_exp V0 b t k) (Finset.sum_congr rfl fun k _ => ref_exp V0 b t k)

theorem ref_sum (b : Fin 4) (t : Fin 2048) (o : Fin 1) :
    (broadcastInDim S4x2048x1 ![0, 1] bcast_S4x2048_S4x2048x1_0_1 (Host.reduceAdd (res_main_v63 V0) (constant S_ .f32 0x00000000#32) reducesTo_S4x2048x8_S4x2048_d2 h_S_) (ix3 b t o) : EReal)
      = ∑ k : Fin 8, wt (scoresAt (res_main_v52 V0) b t) k := by
  rw [one_col]
  refine (sum_last _ _ _ b t).trans ?_
  exact Finset.sum_congr rfl fun k _ => ref_weight V0 b t k

/-! ## Putting the weights in place -/

theorem word_back (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The index triples of the scatter. -/
def triples : IVec S4x2048x8x3 32 :=
  concatenate S4x2048x8x3 3 [⟨S4x2048x8x1, ((broadcastInDim S4x2048x8x1 ![0, 1, 2] bcast_S4x2048x8_S4x2048x8x1_0_1_2 (broadcastInDim S4x2048x8 ![0, 1, 2] bcast_S4x1x1_S4x2048x8_0_1_2 (select (cmpi .slt (res_main_v65 V0) (broadcastInDim S4x1x1 ![] bcast_S_S4x1x1 (constantI S_ 32 0#32))) (addi (res_main_v65 V0) (broadcastInDim S4x1x1 ![] bcast_S_S4x1x1 (constantI S_ 32 4#32))) (res_main_v65 V0)))) : (⟨S4x2048x8x1, .i32⟩ : BufTy).Contents (Elt Ideal))⟩,
    ⟨S4x2048x8x1, ((broadcastInDim S4x2048x8x1 ![0, 1, 2] bcast_S4x2048x8_S4x2048x8x1_0_1_2 (broadcastInDim S4x2048x8 ![0, 1, 2] bcast_S1x2048x1_S4x2048x8_0_1_2 (select (cmpi .slt (res_main_v67 V0) (broadcastInDim S1x2048x1 ![] bcast_S_S1x2048x1 (constantI S_ 32 0#32))) (addi (res_main_v67 V0) (broadcastInDim S1x2048x1 ![] bcast_S_S1x2048x1 (constantI S_ 32 2048#32))) (res_main_v67 V0)))) : (⟨S4x2048x8x1, .i32⟩ : BufTy).Contents (Elt Ideal))⟩,
    ⟨S4x2048x8x1, ((broadcastInDim S4x2048x8x1 ![0, 1, 2] bcast_S4x2048x8_S4x2048x8x1_0_1_2 (select (cmpi .slt (res_main_indices_14 V0) (broadcastInDim S4x2048x8 ![] bcast_S_S4x2048x8 (constantI S_ 32 0#32))) (addi (res_main_indices_14 V0) (broadcastInDim S4x2048x8 ![] bcast_S_S4x2048x8 (constantI S_ 32 64#32))) (res_main_indices_14 V0))) : (⟨S4x2048x8x1, .i32⟩ : BufTy).Contents (Elt Ideal))⟩] concatenates_S4x2048x8x1_S4x2048x8x1_S4x2048x8x1_S4x2048x8x3_d3

theorem triples_0 (b : Fin 4) (t : Fin 2048) (k : Fin 8) : triples V0 (ix4 b t k 0) = BitVec.ofNat 32 b.val := by
  unfold triples res_main_v65
  simp [pointwise]
  exact Routing.wrap_of_lt _ _ (by rw [BitVec.toNat_ofNat]; omega)

theorem triples_1 (b : Fin 4) (t : Fin 2048) (k : Fin 8) : triples V0 (ix4 b t k 1) = BitVec.ofNat 32 t.val := by
  unfold triples res_main_v67
  simp [pointwise]
  exact Routing.wrap_of_lt _ _ (by rw [BitVec.toNat_ofNat]; omega)

theorem triples_2 (b : Fin 4) (t : Fin 2048) (k : Fin 8) :
    triples V0 (ix4 b t k 2) = BitVec.ofNat 32 (nth (scoresAt (res_main_v52 V0) b t) (k.castLE (by omega))).val := by
  unfold triples
  simp [pointwise]
  have e := ref_indices V0 b t k
  rw [e]
  exact Routing.wrap_of_lt _ _ (by rw [BitVec.toNat_ofNat]; omega)

/-- An update lands where its three words say. -/
theorem lands (idx : IVec S4x2048x8x3 32) (b b' : Fin 4) (t t' : Fin 2048) (k : Fin 8) (c : Fin 64) :
    scatter_S4x2048x64_S4x2048x8x3_S4x2048x8_n_012_012_3.resultIdx? (ix3 b' t' k) idx = some (ix3 b t c)
      ↔ (idx (ix4 b' t' k 0)).toInt = b.val ∧ (idx (ix4 b' t' k 1)).toInt = t.val ∧ (idx (ix4 b' t' k 2)).toInt = c.val := by
  rw [Routing.resultIdx?_eq_some]
  have hw : ∀ a, scatter_S4x2048x64_S4x2048x8x3_S4x2048x8_n_012_012_3.window (ix3 b' t' k) a = 0 := fun a => by
    unfold ScatterDims.window
    rw [dif_neg]
    intro h
    have := of_decide_eq_true (List.mem_filter.1 h).2
    revert this
    show ¬ (a ∉ ([0, 1, 2] : List (Fin 3)))
    revert a; decide
  have hs : ∀ a : Fin 3, scatter_S4x2048x64_S4x2048x8x3_S4x2048x8_n_012_012_3.start (ix3 b' t' k) idx a = (idx (ix4 b' t' k a)).toInt := fun a => by
    unfold ScatterDims.start
    have hm : a ∈ scatter_S4x2048x64_S4x2048x8x3_S4x2048x8_n_012_012_3.scatterDimsToOperandDims := by
      show a ∈ ([0, 1, 2] : List (Fin 3))
      revert a; decide
    rw [dif_pos hm]
    congr 2
    funext q
    match a, q with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
  constructor
  · intro h
    have h0 := h 0; have h1 := h 1; have h2 := h 2
    rw [hw, hs] at h0 h1 h2
    exact ⟨by simpa using h0, by simpa using h1, by simpa using h2⟩
  · rintro ⟨h0, h1, h2⟩ a
    rw [hw, hs]
    match a with
    | ⟨0, _⟩ => simpa using h0
    | ⟨1, _⟩ => simpa using h1
    | ⟨2, _⟩ => simpa using h2

theorem lands_nth (b b' : Fin 4) (t t' : Fin 2048) (k : Fin 8) (c : Fin 64) :
    scatter_S4x2048x64_S4x2048x8x3_S4x2048x8_n_012_012_3.resultIdx? (ix3 b' t' k) (triples V0) = some (ix3 b t c)
      ↔ b' = b ∧ t' = t ∧ nth (scoresAt (res_main_v52 V0) b' t') (k.castLE (by omega)) = c := by
  have hb := b'.isLt; have ht := t'.isLt; have hc := (nth (scoresAt (res_main_v52 V0) b' t') (k.castLE (by omega))).isLt
  rw [lands, triples_0, triples_1, triples_2, word_back _ (by omega), word_back _ (by omega), word_back _ (by omega)]
  simp only [Nat.cast_inj, Fin.ext_iff]

/-- The scatter puts eight values of a token at its eight first experts. -/
theorem scatter_spot (x0 : FVec Ideal S4x2048x64 .f32) (upd : FVec Ideal S4x2048x8 .f32) (b : Fin 4) (t : Fin 2048) (c : Fin 64) :
    (Host.scatter scatter_S4x2048x64_S4x2048x8x3_S4x2048x8_n_012_012_3 (fun _ b => b) x0 (triples V0) upd (ix3 b t c) : EReal)
      = spot (scoresAt (res_main_v52 V0) b t) (fun k => upd (ix3 b t k)) (x0 (ix3 b t c)) c := by
  have split : ∀ k : S4x2048x8.Idx, ∃ (b' : Fin 4) (t' : Fin 2048) (k' : Fin 8), k = ix3 b' t' k' := fun k => ⟨k 0, k 1, k 2, by
    funext a
    match a with
    | ⟨0, _⟩ => rfl
    | ⟨1, _⟩ => rfl
    | ⟨2, _⟩ => rfl⟩
  unfold spot
  by_cases h : rank (scoresAt (res_main_v52 V0) b t) c < 8
  · rw [dif_pos h]
    have hc : nth (scoresAt (res_main_v52 V0) b t) ((⟨rank (scoresAt (res_main_v52 V0) b t) c, h⟩ : Fin 8).castLE (by omega)) = c := (eq_nth _ rfl).symm
    refine Routing.scatter_set_hit _ x0 _ upd _ _ (fun k hk => ?_) (ix3 b t ⟨rank (scoresAt (res_main_v52 V0) b t) c, h⟩) ((lands_nth V0 b b t t _ c).mpr ⟨rfl, rfl, hc⟩)
    obtain ⟨b', t', k', rfl⟩ := split k
    obtain ⟨rfl, rfl, hn⟩ := (lands_nth V0 b b' t t' k' c).mp hk
    have hr := rank_nth (scoresAt (res_main_v52 V0) b' t') (k'.castLE (by omega : 8 ≤ 64))
    rw [hn] at hr
    have : k' = ⟨rank (scoresAt (res_main_v52 V0) b' t') c, h⟩ := Fin.ext hr.symm
    rw [← this]
  · rw [dif_neg h]
    refine Routing.scatter_set_miss _ x0 _ upd _ fun k hk => h ?_
    obtain ⟨b', t', k', rfl⟩ := split k
    obtain ⟨rfl, rfl, hn⟩ := (lands_nth V0 b b' t t' k' c).mp hk
    rw [← hn, rank_nth]
    exact k'.isLt

/-- The reference's mask and its logarithms. -/
def refMask : FVec Ideal S4x2048x64 .f32 :=
  Host.scatter scatter_S4x2048x64_S4x2048x8x3_S4x2048x8_n_012_012_3 (fun _ b => b) (broadcastInDim S4x2048x64 ![] bcast_S_S4x2048x64 (constant S_ .f32 0x00000000#32)) (triples V0) (res_main_v63 V0)
def refLog : FVec Ideal S4x2048x64 .f32 :=
  Host.scatter scatter_S4x2048x64_S4x2048x8x3_S4x2048x8_n_012_012_3 (fun _ b => b) (broadcastInDim S4x2048x64 ![] bcast_S_S4x2048x64 (constant S_ .f32 0xFF800000#32)) (triples V0)
    (Host.log (addf (res_main_v63 V0) (broadcastInDim S4x2048x8 ![] bcast_S_S4x2048x8 (constant S_ .f32 0x3089705F#32))))

theorem ref_mask (b : Fin 4) (t : Fin 2048) (c : Fin 64) :
    (refMask V0 (ix3 b t c) : EReal) = spot (scoresAt (res_main_v52 V0) b t) (wt (scoresAt (res_main_v52 V0) b t)) 0 c := by
  unfold refMask
  refine (scatter_spot V0 _ _ b t c).trans ?_
  have e1 : (fun k : Fin 8 => (res_main_v63 V0 (ix3 b t k) : EReal)) = wt (scoresAt (res_main_v52 V0) b t) := funext (ref_weight V0 b t)
  exact congrArg₂ (fun v z => spot (scoresAt (res_main_v52 V0) b t) v z c) e1 zero_lit

theorem ref_log (b : Fin 4) (t : Fin 2048) (c : Fin 64) :
    (refLog V0 (ix3 b t c) : EReal) = spot (scoresAt (res_main_v52 V0) b t) (fun k => Ideal.log (wt (scoresAt (res_main_v52 V0) b t) k + tiny)) ⊥ c := by
  unfold refLog
  refine (scatter_spot V0 _ _ b t c).trans ?_
  refine congrArg₂ (fun v z => spot (scoresAt (res_main_v52 V0) b t) v z c) (funext fun k => ?_) bot_lit
  exact congrArg (fun z : EReal => Ideal.log (z + tiny)) (ref_weight V0 b t k)

end Cert.Proof.Router

end
-- ==== Proof.RefHead.lean ====
/-
  The reference's final scores, read at one token and one expert, are the function of Mark.lean of the token's two rows of
  projections.
-/
module

public import proofs.«01_k».proof.Proof.Mark
public import proofs.«01_k».proof.Proof.RefTail

@[expose] public section

noncomputable section

namespace Cert.Proof.Router

open Cert.ReferenceIdeal Cert.ReferenceIdeal.Gen Cert.ReferenceIdeal.Value
open Idealize.ShloMosaic

theorem scalar_col {α : Type} (x : S_.Idx → α) (h : S_.BroadcastsInDim S4x2048x1 ![]) (j : S4x2048x1.Idx) (i : S_.Idx) : broadcastInDim S4x2048x1 ![] h x j = x i := by
  unfold broadcastInDim
  refine congrArg x ?_
  funext a
  exact a.elim0

/-- A row less its mean. -/
theorem cen_at (x : FVec Ideal S4x2048x64 .f32) (h : S4x2048x64.ReducesTo [2] S4x2048) (hu : 0 < S_.numel)
    (hb : S4x2048x1.BroadcastsInDim S4x2048x64 ![0, 1, 2]) (h1 : S4x2048.BroadcastsInDim S4x2048x1 ![0, 1]) (h0 : S_.BroadcastsInDim S4x2048x1 ![])
    (b : Fin 4) (t : Fin 2048) (e : Fin 64) :
    (subf x (broadcastInDim S4x2048x64 ![0, 1, 2] hb (Host.divf (broadcastInDim S4x2048x1 ![0, 1] h1 (Host.reduceAdd x (constant S_ .f32 0x00000000#32) h hu))
      (broadcastInDim S4x2048x1 ![] h0 (constant S_ .f32 0x42800000#32)))) (ix3 b t e) : EReal) = cen (scoresAt x b t) e := by
  refine congrArg (fun z : EReal => (x (ix3 b t e) : EReal) - z) ?_
  refine (all_cols (n := 64) _ hb b t e).trans ((divf_at _ _ _).trans ?_)
  refine (congrArg (fun z : EReal => Ideal.div z (num 0x42800000#32)) ((one_col _ h1 b t 0).trans (sum_last (n := 64) x h hu b t))).trans ?_
  exact div_64 _

theorem degrees_at (i : S_.Idx) : (subf (constant (F := Ideal) S_ .f32 0x42800000#32) (sitofp .f32 (constantI S_ 32 1#32)) i : EReal) = ((63 : ℝ) : EReal) := by
  have h : (subf (constant (F := Ideal) S_ .f32 0x42800000#32) (sitofp .f32 (constantI S_ 32 1#32)) i : EReal) = num 0x42800000#32 - ((1 : ℝ) : EReal) := by
    have h1 : (sitofp (F := Ideal) .f32 (constantI S_ 32 1#32) i : EReal) = ((1 : ℝ) : EReal) := by
      show (((1#32).toInt : ℝ) : EReal) = _
      norm_num
    exact congrArg (fun z : EReal => num 0x42800000#32 - z) h1
  rw [h, num_64, ← EReal.coe_sub]
  norm_num

/-- The deviation of a row, of the row less its mean. -/
theorem dev_at (x y : FVec Ideal S4x2048x64 .f32) (k : FVec Ideal S_ .f32) (hk : ∀ i, (k i : EReal) = ((63 : ℝ) : EReal)) (h : S4x2048x64.ReducesTo [2] S4x2048) (hu : 0 < S_.numel)
    (h1 : S4x2048.BroadcastsInDim S4x2048x1 ![0, 1]) (h0 : S_.BroadcastsInDim S4x2048x1 ![]) (b : Fin 4) (t : Fin 2048)
    (hy : ∀ e, (y (ix3 b t e) : EReal) = cen (scoresAt x b t) e) :
    (addf (Host.sqrt (select (broadcastInDim S4x2048x1 ![] h0 (cmpf .ogt k (constant S_ .f32 0x00000000#32)))
      (Host.divf (broadcastInDim S4x2048x1 ![0, 1] h1 (Host.reduceAdd (mulf y y) (constant S_ .f32 0x00000000#32) h hu)) (broadcastInDim S4x2048x1 ![] h0 k))
      (broadcastInDim S4x2048x1 ![] h0 (id (constant S_ .f32 0x7FC00000#32))))) (broadcastInDim S4x2048x1 ![] h0 (constant S_ .f32 0x358637BD#32)) (ix3 b t 0) : EReal)
      = dev (scoresAt x b t) := by
  refine congrArg (fun z : EReal => Ideal.sqrt z + num 0x358637BD#32) ?_
  refine Eq.trans (if_pos ?_) ?_
  · refine (scalar_col _ h0 _ (fun a => a.elim0)).trans ?_
    refine (bit_of (num 0x00000000#32 < k (fun a => a.elim0))).mpr ?_
    rw [hk, num_0]
    exact_mod_cast (by norm_num : (0 : ℝ) < 63)
  · refine (divf_at _ _ _).trans ?_
    refine (congrArg₂ Ideal.div ((one_col _ h1 b t 0).trans (sum_last (n := 64) (mulf y y) h hu b t)) ((scalar_col k h0 _ (fun a => a.elim0)).trans (hk _))).trans ?_
    rw [div_coe _ _ (by norm_num)]
    refine congrArg (fun z : EReal => z * ((63⁻¹ : ℝ) : EReal)) (Finset.sum_congr rfl fun e _ => ?_)
    exact congrArg₂ (fun p q : EReal => p * q) (hy e) (hy e)

variable (V0 : Valuation τ sig (Elt Ideal))

/-- The two rows of projections of a token. -/
abbrev rowX (b : Fin 4) (t : Fin 2048) : Fin 64 → EReal := scoresAt (res_main_v0 V0) b t
abbrev rowY (b : Fin 4) (t : Fin 2048) : Fin 64 → EReal := scoresAt (res_main_v4 V0) b t

theorem devX_at (b : Fin 4) (t : Fin 2048) : (res_main_v3 V0 (ix3 b t 0) : EReal) = dev (rowX V0 b t) := by
  unfold res_main_v3
  refine dev_at (res_main_v0 V0) _ _ (fun i => ?_) _ _ _ _ b t fun e => ?_
  · exact degrees_at i
  · exact cen_at (res_main_v0 V0) _ _ _ _ _ b t e

theorem ex_at (b : Fin 4) (t : Fin 2048) (e : Fin 64) : (res_main_v22 V0 (ix3 b t e) : EReal) = ex (rowX V0 b t) e := by
  unfold res_main_v22
  exact exp_row (n := 64) (res_main_v0 V0) _ _ _ _ _ b t e

theorem prob_at (b : Fin 4) (t : Fin 2048) (e : Fin 64) : (res_main_v26 V0 (ix3 b t e) : EReal) = prob (rowX V0 b t) e := by
  unfold res_main_v26
  refine (div_row (n := 64) (res_main_v22 V0) _ _ _ _ b t e).trans ?_
  exact congrArg₂ Ideal.div (ex_at V0 b t e) (Finset.sum_congr rfl fun k _ => ex_at V0 b t k)

theorem probs (b : Fin 4) (t : Fin 2048) : scoresAt (res_main_v26 V0) b t = prob (rowX V0 b t) := funext fun e => prob_at V0 b t e

theorem best_at (b : Fin 4) (t : Fin 2048) (k : Fin 2) : (res_main_values V0 (ix3 b t k) : EReal) = prob (rowX V0 b t) (nth (prob (rowX V0 b t)) (k.castLE (by omega))) := by
  unfold res_main_values
  refine (topK_at (K := 2) (by omega) (res_main_v26 V0) sliceFits_S4x2048x64_S4x2048x2 b t k).1.trans ?_
  rw [probs]

theorem first_at (b : Fin 4) (t : Fin 2048) (x : FVec Ideal S4x2048x2 .f32) :
    shapeCast S4x2048 (extractStridedSlice S4x2048x1 ![0, 0, 0] x slices_S4x2048x2_S4x2048x1_0_0_0) shapeCasts_S4x2048x1_S4x2048 (ix2 b t) = x (ix3 b t 0) := by
  simp [pointwise]
theorem next_at (b : Fin 4) (t : Fin 2048) (x : FVec Ideal S4x2048x2 .f32) :
    shapeCast S4x2048 (extractStridedSlice S4x2048x1 ![0, 0, 1] x slices_S4x2048x2_S4x2048x1_0_0_1) shapeCasts_S4x2048x1_S4x2048 (ix2 b t) = x (ix3 b t 1) := by
  simp [pointwise]

theorem sigmoid (z : EReal) : Ideal.div (num 0x3F800000#32) (num 0x3F800000#32 + Ideal.exp (-z)) = Ideal.logistic z := by
  rw [num_1]
  rfl

/-- The final scores. -/
theorem final_at (b : Fin 4) (t : Fin 2048) (e : Fin 64) :
    (res_main_v52 V0 (ix3 b t e) : EReal) = markRow (rgap (rowX V0 b t)) (rowX V0 b t) (rowY V0 b t) e := by
  unfold res_main_v52
  have hl : (res_main_v49 V0 (ix3 b t 0) : EReal) = dev (rowX V0 b t) * num 0x3FC00000#32 :=
    congrArg (fun z : EReal => z * num 0x3FC00000#32) (devX_at V0 b t)
  refine congrArg (fun z : EReal => ((rowX V0 b t e : EReal) + z : EReal)) ?_
  refine congrArg₂ (fun p q : EReal => min p q) ((all_cols (n := 64) _ _ b t e).trans hl) ?_
  refine congrArg₂ (fun p q : EReal => max p q) ((all_cols (n := 64) _ _ b t e).trans ?_) ?_
  · refine (congrArg (fun z : EReal => -z) hl).trans ?_
    rw [num_0, zero_sub]
  refine congrArg₂ (fun p q : EReal => p * q) ((all_cols (n := 64) _ _ b t e).trans ?_) ((divf_at _ _ _).trans (congrArg₂ Ideal.div ?_ ?_))
  · rw [← mul_assoc]
    refine congrArg₂ (fun p q : EReal => p * num 0x3DCCCCCD#32 * q) ((one_col _ _ b t 0).trans ?_) (devX_at V0 b t)
    refine (divf_at _ _ _).trans ?_
    refine Eq.trans ?_ (sigmoid _)
    refine congrArg (fun z : EReal => Ideal.div (num 0x3F800000#32) (num 0x3F800000#32 + Ideal.exp (-(num 0x41200000#32 * (num 0x3E800000#32 - z))))) ?_
    exact congrArg₂ (fun p q : EReal => p - q) ((first_at b t _).trans (best_at V0 b t 0)) ((next_at b t _).trans (best_at V0 b t 1))
  · exact cen_at (res_main_v4 V0) _ _ _ _ _ b t e
  · refine (all_cols (n := 64) _ _ b t e).trans ?_
    refine dev_at (res_main_v4 V0) _ _ (fun i => ?_) _ _ _ _ b t fun e => ?_
    · exact degrees_at i
    · exact cen_at (res_main_v4 V0) _ _ _ _ _ b t e

/-- The projection of a token's hidden states by the column of one expert. -/
def projAt (h : FVec Ideal S4x2048x4096 .f32) (w : FVec Ideal S4096x64 .f32) (b : Fin 4) (t : Fin 2048) : Fin 64 → EReal :=
  fun e => ∑ k : Fin 4096, (h (ix3 b t k) : EReal) * w (ix2 k e)

theorem dot_at (h : FVec Ideal S4x2048x4096 .f32) (w : FVec Ideal S4096x64 .f32) (b : Fin 4) (t : Fin 2048) (e : Fin 64) :
    (Host.dotGeneral dot_S4x2048x4096_S4096x64_S4x2048x64_2_0_01_1_n_n none h w (ix3 b t e) : EReal) = projAt h w b t e := by
  unfold projAt
  simp [pointwise]

theorem rowX_eq (b : Fin 4) (t : Fin 2048) : rowX V0 b t = projAt (V0 (Proc.devRef .tc main_arg0)) (V0 (Proc.devRef .tc main_arg1)) b t := by
  unfold rowX scoresAt res_main_v0
  exact funext fun e => dot_at _ _ b t e
theorem rowY_eq (b : Fin 4) (t : Fin 2048) : rowY V0 b t = projAt (V0 (Proc.devRef .tc main_arg0)) (V0 (Proc.devRef .tc main_arg2)) b t := by
  unfold rowY scoresAt res_main_v4
  exact funext fun e => dot_at _ _ b t e

/-- A projection of real numbers is real. -/
theorem projAt_real (h : FVec Ideal S4x2048x4096 .f32) (w : FVec Ideal S4096x64 .f32) (hh : ∀ j, ∃ r : ℝ, (h j : EReal) = r) (hw : ∀ j, ∃ r : ℝ, (w j : EReal) = r)
    (b : Fin 4) (t : Fin 2048) : ∃ x : Fin 64 → ℝ, projAt h w b t = up x := by
  choose f hf using hh
  choose g hg using hw
  refine ⟨fun e => ∑ k : Fin 4096, f (ix3 b t k) * g (ix2 k e), funext fun e => ?_⟩
  unfold projAt up
  rw [coe_sum]
  exact Finset.sum_congr rfl fun k _ => by rw [hf, hg, EReal.coe_mul]

end Cert.Proof.Router

end
-- ==== Proof.KernFinal.lean ====
/-
  The kernel's final scores, read at one token and one expert, of the three arguments.
-/
module

public import proofs.«01_k».proof.Proof.KernHead
public import proofs.«01_k».proof.Proof.RefHead
public import proofs.«01_k».proof.Proof.Main

@[expose] public section

noncomputable section

namespace Cert.Proof.Router

open Cert.KernelIdeal Cert.KernelIdeal.Gen
open Idealize.ShloMosaic

variable (m : (ℓ : Loc nD τ sig) → Buf (Elt Ideal) ℓ)

/-- The three arguments. -/
abbrev argH (d : Dev nD) : FVec Ideal S4x2048x4096 .f32 := m ((SparseCore.T d).loc main_arg0)
abbrev argW (d : Dev nD) : FVec Ideal S4096x64 .f32 := m ((SparseCore.T d).loc main_arg1)
abbrev argS (d : Dev nD) : FVec Ideal S4096x64 .f32 := m ((SparseCore.T d).loc main_arg2)

/-- The place of a token among all. -/
def tok (b : Fin 4) (t : Fin 2048) : Fin 8192 := ⟨2048 * b.val + t.val, by omega⟩

theorem hIn_at (d : Dev nD) (b : Fin 4) (t : Fin 2048) (k : Fin 4096) : (hIn m d (ix2 (tok b t) k) : EReal) = argH m d (ix3 b t k) := by
  unfold hIn
  have h : ∀ x : FVec Ideal S4x2048x4096 .f32, (shapeCast S8192x4096 x shapeCasts_S4x2048x4096_S8192x4096 (ix2 (tok b t) k) : EReal) = x (ix3 b t k) := fun x => by
    have : (tok b t).val = 2048 * b.val + t.val := rfl
    simp [pointwise]
    refine congrArg x (congrArg₂ (fun (p : Fin 4) (q : Fin 2048) => (ix3 p q k : S4x2048x4096.Idx)) (Fin.ext ?_) (Fin.ext ?_))
    · show (tok b t).val / 2048 = b.val
      omega
    · show (tok b t).val % 2048 = t.val
      omega
  exact h _

theorem wIn_low (d : Dev nD) (k : Fin 4096) (e : Fin 64) : (wIn m d (ix2 k ⟨e.val, by omega⟩) : EReal) = argW m d (ix2 k e) := by
  have h : ∀ x y : FVec Ideal S4096x64 .f32, (concatenate S4096x128 1 [⟨S4096x64, x⟩, ⟨S4096x64, y⟩] concatenates_S4096x64_S4096x64_S4096x128_d1 (ix2 k ⟨e.val, by omega⟩) : EReal) = x (ix2 k e) := fun x y => by
    simp [pointwise]
  exact h _ _
theorem wIn_high (d : Dev nD) (k : Fin 4096) (e : Fin 64) : (wIn m d (ix2 k ⟨64 + e.val, by omega⟩) : EReal) = argS m d (ix2 k e) := by
  have h : ∀ x y : FVec Ideal S4096x64 .f32, (concatenate S4096x128 1 [⟨S4096x64, x⟩, ⟨S4096x64, y⟩] concatenates_S4096x64_S4096x64_S4096x128_d1 (ix2 k ⟨64 + e.val, by omega⟩) : EReal) = y (ix2 k e) := fun x y => by
    simp [pointwise]
  exact h _ _

/-- The marked scores of a token. -/
theorem fin_at (d : Dev nD) (b : Fin 4) (t : Fin 2048) (e : Fin 64) (x : Fin 64 → ℝ) (hx : projAt (argH m d) (argW m d) b t = up x) :
    (fin m d (ix2 (tok b t) e) : EReal) = markRow (rgap (projAt (argH m d) (argW m d) b t)) (projAt (argH m d) (argW m d) b t) (projAt (argH m d) (argS m d) b t) e := by
  have hlt : (tok b t).val < 8192 := (tok b t).isLt
  have hq : (tok b t).val / 512 < 16 := by omega
  have hm : (tok b t).val % 512 < 512 := Nat.mod_lt _ (by decide)
  have hf : fin m d (ix2 (tok b t) e) = blockOut (hRows (hIn m d) ((tok b t).val / 512) hq) (wIn m d) (ix2 ⟨(tok b t).val % 512, hm⟩ e) := rfl
  have hrow : ∀ k : Fin 4096, (hRows (hIn m d) ((tok b t).val / 512) hq (ix2 ⟨(tok b t).val % 512, hm⟩ k) : EReal) = argH m d (ix3 b t k) := fun k => by
    rw [← hIn_at]
    unfold hRows
    refine congrArg (hIn m d) ?_
    refine congrArg (fun r : Fin 8192 => (ix2 r k : S8192x4096.Idx)) (Fin.ext ?_)
    show 512 * ((tok b t).val / 512) + (tok b t).val % 512 = _
    omega
  have hX : colOf (extractStridedSlice S64x512 ![0, 0] (project (hRows (hIn m d) ((tok b t).val / 512) hq) (wIn m d)) slices_S128x512_o0_0_S64x512) ⟨(tok b t).val % 512, hm⟩
      = projAt (argH m d) (argW m d) b t := funext fun c => by
    refine (upper_at _ _ _ c).trans ((project_at _ _ _ _).trans ?_)
    unfold projAt
    refine Finset.sum_congr rfl fun k _ => ?_
    rw [hrow, wIn_low, mul_comm]
  have hY : colOf (extractStridedSlice S64x512 ![64, 0] (project (hRows (hIn m d) ((tok b t).val / 512) hq) (wIn m d)) slices_S128x512_o64_0_S64x512) ⟨(tok b t).val % 512, hm⟩
      = projAt (argH m d) (argS m d) b t := funext fun c => by
    refine (lower_at _ _ _ c).trans ((project_at _ _ _ _).trans ?_)
    unfold projAt
    refine Finset.sum_congr rfl fun k _ => ?_
    rw [hrow, wIn_high, mul_comm]
  rw [hf, blockOut_at]
  refine (marked_at _ _ e _ (nth (up x) 0) ?_ ?_).trans ?_
  · rw [hX, hx]
    exact (ex_one x _).mpr rfl
  · intro c hc
    rw [hX, hx] at hc
    have hs := (ex_one x c).mp hc
    by_contra hlt'
    have ho : ord (up x) c < ord (up x) (nth (up x) 0) := (ord_lt _ _ _).mpr (.inr ⟨by show ((x c : ℝ) : EReal) = x (nth (up x) 0); rw [hs], not_le.mp hlt'⟩)
    have := rank_lt_rank _ ho
    rw [rank_nth] at this
    exact absurd this (by simp)
  · rw [hX, hY, hx, gap_eq]

end Cert.Proof.Router

end
-- ==== Proof.Finite.lean ====
/-
  What the precondition says: every entry of the hidden states and of the gate's weights is a real number.
-/
module

public import proofs.«01_k».proof.Defs
public import Idealize.ShloMosaic.Lib.ReduceAll
public import Idealize.ShloMosaic.Lib.Pointwise

@[expose] public section

noncomputable section

namespace Cert.Proof.Router

open Idealize.ShloMosaic

/-- The relations between shapes the precondition takes. -/
theorem pre_facts : Cert.Pre_finite.Facts := { bcast_S_S4x2048x4096 := by decide, reducesTo_S4x2048x4096_S_d0_1_2 := by decide, h_S_ := by decide, bcast_S_S4096x64 := by decide, reducesTo_S4096x64_S_d0_1 := by decide }

theorem real_of_abs (x : EReal) (h : max x (-x) < ⊤) : ∃ r : ℝ, x = r := by
  induction x with
  | bot => simp at h
  | coe r => exact ⟨r, rfl⟩
  | top => simp at h

theorem bit_lt (p : Prop) [Decidable p] (h : BitVec.ofBool (decide p) = 1#1) : p := by
  by_contra q
  rw [decide_eq_false q] at h
  exact absurd h (by decide)

theorem entry_real {s : Shape} (x : FVec Ideal s .f32) (h0 : (⟨0, ![]⟩ : Shape).BroadcastsInDim s ![]) (i : s.Idx)
    (h : cmpf .olt (Host.absf x) (broadcastInDim s ![] h0 (constant ⟨0, ![]⟩ .f32 0x7F800000#32)) i = 1#1) : ∃ r : ℝ, (x i : EReal) = r := by
  refine real_of_abs _ ?_
  have h' := bit_lt _ h
  have ht : Ideal.ofBits .f32 0x7F800000#32 = ⊤ := by simp [Ideal.ofBits, Ideal.ieee]
  rw [← ht]
  exact h'

theorem pre_real [Cert.Pre_finite.Facts] (x : FVec Ideal ⟨3, ![4, 2048, 4096]⟩ .f32) (y z : FVec Ideal ⟨2, ![4096, 64]⟩ .f32)
    (h : Cert.Pre_finite.fn (F := Ideal) x y z = fun _ => 1#1) :
    (∀ j, ∃ r : ℝ, (x j : EReal) = r) ∧ ∀ j, ∃ r : ℝ, (y j : EReal) = r := by
  have h0 := congrFun h (fun a => a.elim0)
  obtain ⟨hx, hy⟩ := IntOp.andi_eq_one.1 h0
  haveI : Subsingleton (Shape.Idx ⟨0, ![]⟩) := ⟨fun a b => funext fun i => i.elim0⟩
  exact ⟨fun j => entry_real x _ j (Host.reduce_andi_all _ _ _ _ _ hx j), fun j => entry_real y _ j (Host.reduce_andi_all _ _ _ _ _ hy j)⟩

end Cert.Proof.Router

end
-- ==== Proof.Algebraic.lean ====
/-
  The kernel and the reference return the same three arrays.
-/
module

public import proofs.«01_k».proof.Proof.KernFinal
public import proofs.«01_k».proof.Proof.Finite

@[expose] public section

noncomputable section

namespace Cert.Proof.Router

open Idealize.ShloMosaic

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs start with the same arguments. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- What the reference starts with on one device. -/
abbrev start (c : Dev Cert.ReferenceIdeal.nD) : Valuation Cert.ReferenceIdeal.τ Cert.ReferenceIdeal.sig (Elt Ideal) := Idealize.ShloMosaic.StableHlo.launchContents m' c

/-- The two programs' final scores of a token are one row. -/
theorem scores_same (c : Dev Cert.KernelIdeal.nD) (hs : Same m m' c)
    (hh : ∀ j, ∃ r : ℝ, (argH m c j : EReal) = r) (hw : ∀ j, ∃ r : ℝ, (argW m c j : EReal) = r) (b : Fin 4) (t : Fin 2048) :
    scoresAt (Cert.ReferenceIdeal.Value.res_main_v52 (start m' c)) b t = rowOf (fin m c) (tok b t) := by
  obtain ⟨x, hx⟩ := projAt_real (argH m c) (argW m c) hh hw b t
  have h0 : start m' c (Proc.devRef .tc Cert.ReferenceIdeal.main_arg0) = argH m c := hs.1
  have h1 : start m' c (Proc.devRef .tc Cert.ReferenceIdeal.main_arg1) = argW m c := hs.2.1
  have h2 : start m' c (Proc.devRef .tc Cert.ReferenceIdeal.main_arg2) = argS m c := hs.2.2
  funext e
  refine (final_at (start m' c) b t e).trans ?_
  rw [rowX_eq, rowY_eq, h0, h1, h2]
  exact (fin_at m c b t e x hx).symm

theorem idx3 {n : ℕ} (j : Shape.Idx ⟨3, ![4, 2048, n]⟩) : ∃ (b : Fin 4) (t : Fin 2048) (e : Fin n), j = ix3 b t e :=
  ⟨j 0, j 1, j 2, by
    funext a
    match a with
    | ⟨0, _⟩ => rfl
    | ⟨1, _⟩ => rfl
    | ⟨2, _⟩ => rfl⟩

theorem unflat (x : FVec Ideal Cert.KernelIdeal.S8192x64 .f32) (b : Fin 4) (t : Fin 2048) (e : Fin 64) :
    shapeCast Cert.KernelIdeal.S4x2048x64 x Cert.KernelIdeal.Gen.shapeCasts_S8192x64_S4x2048x64 (ix3 b t e) = x (ix2 (tok b t) e) := by
  simp [pointwise]
  exact congrArg (fun r : Fin 8192 => x (ix2 r e)) (Fin.ext (by show b.val * 2048 + t.val = 2048 * b.val + t.val; omega))
theorem unflat_one (x : FVec Ideal Cert.KernelIdeal.S8192x1 .f32) (b : Fin 4) (t : Fin 2048) (o : Fin 1) :
    shapeCast Cert.KernelIdeal.S4x2048x1 x Cert.KernelIdeal.Gen.shapeCasts_S8192x1_S4x2048x1 (ix3 b t o) = x (ix2 (tok b t) o) := by
  have ho : o = 0 := Subsingleton.elim _ _
  subst ho
  simp [pointwise]
  exact congrArg (fun r : Fin 8192 => x (ix2 r 0)) (Fin.ext (by show b.val * 2048 + t.val = 2048 * b.val + t.val; omega))

section
variable (c : Dev Cert.KernelIdeal.nD) (hs : Same m m' c) (hh : ∀ j, ∃ r : ℝ, (argH m c j : EReal) = r) (hw : ∀ j, ∃ r : ℝ, (argW m c j : EReal) = r)
include hs hh hw

theorem mask_same : refMask (start m' c) = maskRes m c := by
  funext j
  obtain ⟨b, t, e, rfl⟩ := idx3 j
  refine (ref_mask (start m' c) b t e).trans ?_
  rw [scores_same m m' c hs hh hw]
  exact (maskRow_eq _ e).symm.trans (unflat (outMask (fin m c) : Vec Ideal Cert.KernelIdeal.S8192x64 .f32) b t e).symm

theorem log_same : refLog (start m' c) = logRes m c := by
  funext j
  obtain ⟨b, t, e, rfl⟩ := idx3 j
  refine (ref_log (start m' c) b t e).trans ?_
  rw [scores_same m m' c hs hh hw]
  exact (logRow_eq _ e).symm.trans (unflat (outLog (fin m c) : Vec Ideal Cert.KernelIdeal.S8192x64 .f32) b t e).symm

theorem sum_same :
    broadcastInDim Cert.ReferenceIdeal.S4x2048x1 ![0, 1] Cert.ReferenceIdeal.Gen.bcast_S4x2048_S4x2048x1_0_1
      (Host.reduceAdd (Cert.ReferenceIdeal.Value.res_main_v63 (start m' c)) (constant Cert.ReferenceIdeal.S_ .f32 0x00000000#32)
        Cert.ReferenceIdeal.Gen.reducesTo_S4x2048x8_S4x2048_d2 Cert.ReferenceIdeal.Gen.h_S_) = sumRes m c := by
  funext j
  obtain ⟨b, t, o, rfl⟩ := idx3 j
  refine (ref_sum (start m' c) b t o).trans ?_
  rw [scores_same m m' c hs hh hw]
  exact (sumRow_eq _).symm.trans (unflat_one (outSum (fin m c) : Vec Ideal Cert.KernelIdeal.S8192x1 .f32) b t o).symm
end

/-- Where the hidden states and the gate's weights are real, the kernel's three results are the reference's. -/
theorem algebraic [Cert.Pre_finite.Facts] : Cert.algebraic_KernelIdeal_ReferenceIdeal_pre_finite
    (hKernelIdeal := Cert.KernelIdeal.Gen.facts) (hReferenceIdeal := Cert.ReferenceIdeal.Gen.facts) := by
  intro m g m' g' hp hs
  have hr : ∀ c, (∀ j, ∃ r : ℝ, (argH m c j : EReal) = r) ∧ (∀ j, ∃ r : ℝ, (argW m c j : EReal) = r) := fun c =>
    pre_real _ _ _ (hp c)
  refine ⟨fun c => maskRes m c, fun c => sumRes m c, fun c => logRes m c, ?_, ?_⟩
  · refine (θ_run Cert.KernelIdeal.defs _ _).mono (fun _ h c => ?_) (run_values (F := Ideal) m g)
    obtain ⟨⟨h4, h5, h6⟩, ha⟩ := h.1 c
    exact ⟨h4, h5, h6, ha⟩
  · refine (θ_run Cert.ReferenceIdeal.defs _ _).mono (fun _ h c => ?_) (Cert.ReferenceIdeal.Value.run (F := Ideal) m' g')
    obtain ⟨h0, h1, h2, ha⟩ := h c
    exact ⟨h0.trans (mask_same m m' c (hs c) (hr c).1 (hr c).2), h1.trans (sum_same m m' c (hs c) (hr c).1 (hr c).2),
      h2.trans (log_same m m' c (hs c) (hr c).1 (hr c).2), ha⟩

end Cert.Proof.Router

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Router.pre_facts,
    Router.frame_kernel, Router.frame_ideal, fun m g _ => Router.frame_ideal m g trivial, Router.frame_reference,
    fun m g _ => Router.frame_reference m g trivial, Router.preserves,
    haveI := Router.pre_facts; Router.algebraic⟩

end Cert.Proof

end
